-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Channel (m : (ℓ : Loc Cert.Channel.nD Cert.Channel.τ Cert.Channel.sig) → Buf (Elt Bits) ℓ) : Prop :=
  True

def Pre_ChannelIdeal (m : (ℓ : Loc Cert.ChannelIdeal.nD Cert.ChannelIdeal.τ Cert.ChannelIdeal.sig) → Buf (Elt Ideal) ℓ) : Prop :=
  True

def Pre_ChannelRefIdeal (m : (ℓ : Loc Cert.ChannelRefIdeal.nD Cert.ChannelRefIdeal.τ Cert.ChannelRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Channel [hChannel : Cert.Channel.Facts] : Prop :=
  ∀ (m : (ℓ : Loc Cert.Channel.nD Cert.Channel.τ Cert.Channel.sig) → Buf (Elt Bits) ℓ) (g : Dev Cert.Channel.nD → PrngReg), Pre_Channel m →
    θ_run (Cert.Channel.defs (F := Bits)) (onTc (τ := Cert.Channel.τ) (Cert.Channel.main (F := Bits))) ⟨m, fun _ => 0, g⟩ (fun r => (∀ c : Dev Cert.Channel.nD,
      r.2.mem ((c.tc : Thread Cert.Channel.nD Cert.Channel.τ).loc Cert.Channel.main_arg0) = m ((c.tc : Thread Cert.Channel.nD Cert.Channel.τ).loc Cert.Channel.main_arg0)
      ∧ r.2.mem ((c.tc : Thread Cert.Channel.nD Cert.Channel.τ).loc Cert.Channel.main_arg1) = m ((c.tc : Thread Cert.Channel.nD Cert.Channel.τ).loc Cert.Channel.main_arg1)
      ∧ r.2.mem ((c.tc : Thread Cert.Channel.nD Cert.Channel.τ).loc Cert.Channel.main_arg2) = m ((c.tc : Thread Cert.Channel.nD Cert.Channel.τ).loc Cert.Channel.main_arg2)
      ∧ r.2.mem ((c.tc : Thread Cert.Channel.nD Cert.Channel.τ).loc Cert.Channel.main_arg3) = m ((c.tc : Thread Cert.Channel.nD Cert.Channel.τ).loc Cert.Channel.main_arg3)
      ∧ r.2.mem ((c.tc : Thread Cert.Channel.nD Cert.Channel.τ).loc Cert.Channel.main_arg4) = m ((c.tc : Thread Cert.Channel.nD Cert.Channel.τ).loc Cert.Channel.main_arg4)
      ∧ r.2.mem ((c.tc : Thread Cert.Channel.nD Cert.Channel.τ).loc Cert.Channel.main_arg5) = m ((c.tc : Thread Cert.Channel.nD Cert.Channel.τ).loc Cert.Channel.main_arg5)
      ∧ r.2.mem ((c.tc : Thread Cert.Channel.nD Cert.Channel.τ).loc Cert.Channel.main_arg6) = m ((c.tc : Thread Cert.Channel.nD Cert.Channel.τ).loc Cert.Channel.main_arg6)
      ∧ r.2.mem ((c.tc : Thread Cert.Channel.nD Cert.Channel.τ).loc Cert.Channel.main_arg7) = m ((c.tc : Thread Cert.Channel.nD Cert.Channel.τ).loc Cert.Channel.main_arg7)
      ∧ r.2.mem ((c.tc : Thread Cert.Channel.nD Cert.Channel.τ).loc Cert.Channel.main_arg8) = m ((c.tc : Thread Cert.Channel.nD Cert.Channel.τ).loc Cert.Channel.main_arg8)
      ∧ r.2.mem ((c.tc : Thread Cert.Channel.nD Cert.Channel.τ).loc Cert.Channel.main_arg9) = m ((c.tc : Thread Cert.Channel.nD Cert.Channel.τ).loc Cert.Channel.main_arg9)
      ∧ r.2.mem ((c.tc : Thread Cert.Channel.nD Cert.Channel.τ).loc Cert.Channel.main_arg10) = m ((c.tc : Thread Cert.Channel.nD Cert.Channel.τ).loc Cert.Channel.main_arg10)
      ∧ r.2.mem ((c.tc : Thread Cert.Channel.nD Cert.Channel.τ).loc Cert.Channel.main_arg11) = m ((c.tc : Thread Cert.Channel.nD Cert.Channel.τ).loc Cert.Channel.main_arg11)
      ∧ r.2.mem ((c.tc : Thread Cert.Channel.nD Cert.Channel.τ).loc Cert.Channel.main_arg12) = m ((c.tc : Thread Cert.Channel.nD Cert.Channel.τ).loc Cert.Channel.main_arg12)
      ∧ r.2.mem ((c.tc : Thread Cert.Channel.nD Cert.Channel.τ).loc Cert.Channel.main_arg13) = m ((c.tc : Thread Cert.Channel.nD Cert.Channel.τ).loc Cert.Channel.main_arg13))
      ∧ r.2.sem = fun _ => 0)

def quiescent_ChannelIdeal [hChannelIdeal : Cert.ChannelIdeal.Facts] : Prop :=
  ∀ (m : (ℓ : Loc Cert.ChannelIdeal.nD Cert.ChannelIdeal.τ Cert.ChannelIdeal.sig) → Buf (Elt Ideal) ℓ) (g : Dev Cert.ChannelIdeal.nD → PrngReg), Pre_ChannelIdeal m →
    θ_run (Cert.ChannelIdeal.defs (F := Ideal)) (onTc (τ := Cert.ChannelIdeal.τ) (Cert.ChannelIdeal.main (F := Ideal))) ⟨m, fun _ => 0, g⟩ (fun r => (∀ c : Dev Cert.ChannelIdeal.nD,
      r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
      ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
      ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
      ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
      ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
      ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
      ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
      ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
      ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
      ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
      ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10)
      ∧ r.2.mem ((c.tc : Thread Cert.ChannelIdeal.nD Cert.ChannelIdeal.τ).loc Cert.ChannelIdeal.main_arg11) = m ((c.tc : Thread Cert.ChannelIdeal.nD Cert.ChannelIdeal.τ).loc Cert.ChannelIdeal.main_arg11)
      ∧ r.2.mem ((c.tc : Thread Cert.ChannelIdeal.nD Cert.ChannelIdeal.τ).loc Cert.ChannelIdeal.main_arg12) = m ((c.tc : Thread Cert.ChannelIdeal.nD Cert.ChannelIdeal.τ).loc Cert.ChannelIdeal.main_arg12)
      ∧ r.2.mem ((c.tc : Thread Cert.ChannelIdeal.nD Cert.ChannelIdeal.τ).loc Cert.ChannelIdeal.main_arg13) = m ((c.tc : Thread Cert.ChannelIdeal.nD Cert.ChannelIdeal.τ).loc Cert.ChannelIdeal.main_arg13))
      ∧ r.2.sem = fun _ => 0)

def quiescent_ChannelRefIdeal [hChannelRefIdeal : Cert.ChannelRefIdeal.Facts] : Prop :=
  ∀ (m : (ℓ : Loc Cert.ChannelRefIdeal.nD Cert.ChannelRefIdeal.τ Cert.ChannelRefIdeal.sig) → Buf (Elt Ideal) ℓ) (g : Dev Cert.ChannelRefIdeal.nD → PrngReg), Pre_ChannelRefIdeal m →
    θ_run (Cert.ChannelRefIdeal.defs (F := Ideal)) (onTc (τ := Cert.ChannelRefIdeal.τ) (Cert.ChannelRefIdeal.main (F := Ideal))) ⟨m, fun _ => 0, g⟩ (fun r => (∀ c : Dev Cert.ChannelRefIdeal.nD,
      r.2.mem ((c.tc : Thread Cert.ChannelRefIdeal.nD Cert.ChannelRefIdeal.τ).loc Cert.ChannelRefIdeal.main_arg0) = m ((c.tc : Thread Cert.ChannelRefIdeal.nD Cert.ChannelRefIdeal.τ).loc Cert.ChannelRefIdeal.main_arg0)
      ∧ r.2.mem ((c.tc : Thread Cert.ChannelRefIdeal.nD Cert.ChannelRefIdeal.τ).loc Cert.ChannelRefIdeal.main_arg1) = m ((c.tc : Thread Cert.ChannelRefIdeal.nD Cert.ChannelRefIdeal.τ).loc Cert.ChannelRefIdeal.main_arg1)
      ∧ r.2.mem ((c.tc : Thread Cert.ChannelRefIdeal.nD Cert.ChannelRefIdeal.τ).loc Cert.ChannelRefIdeal.main_arg2) = m ((c.tc : Thread Cert.ChannelRefIdeal.nD Cert.ChannelRefIdeal.τ).loc Cert.ChannelRefIdeal.main_arg2)
      ∧ r.2.mem ((c.tc : Thread Cert.ChannelRefIdeal.nD Cert.ChannelRefIdeal.τ).loc Cert.ChannelRefIdeal.main_arg3) = m ((c.tc : Thread Cert.ChannelRefIdeal.nD Cert.ChannelRefIdeal.τ).loc Cert.ChannelRefIdeal.main_arg3)
      ∧ r.2.mem ((c.tc : Thread Cert.ChannelRefIdeal.nD Cert.ChannelRefIdeal.τ).loc Cert.ChannelRefIdeal.main_arg4) = m ((c.tc : Thread Cert.ChannelRefIdeal.nD Cert.ChannelRefIdeal.τ).loc Cert.ChannelRefIdeal.main_arg4)
      ∧ r.2.mem ((c.tc : Thread Cert.ChannelRefIdeal.nD Cert.ChannelRefIdeal.τ).loc Cert.ChannelRefIdeal.main_arg5) = m ((c.tc : Thread Cert.ChannelRefIdeal.nD Cert.ChannelRefIdeal.τ).loc Cert.ChannelRefIdeal.main_arg5)
      ∧ r.2.mem ((c.tc : Thread Cert.ChannelRefIdeal.nD Cert.ChannelRefIdeal.τ).loc Cert.ChannelRefIdeal.main_arg6) = m ((c.tc : Thread Cert.ChannelRefIdeal.nD Cert.ChannelRefIdeal.τ).loc Cert.ChannelRefIdeal.main_arg6)
      ∧ r.2.mem ((c.tc : Thread Cert.ChannelRefIdeal.nD Cert.ChannelRefIdeal.τ).loc Cert.ChannelRefIdeal.main_arg7) = m ((c.tc : Thread Cert.ChannelRefIdeal.nD Cert.ChannelRefIdeal.τ).loc Cert.ChannelRefIdeal.main_arg7)
      ∧ r.2.mem ((c.tc : Thread Cert.ChannelRefIdeal.nD Cert.ChannelRefIdeal.τ).loc Cert.ChannelRefIdeal.main_arg8) = m ((c.tc : Thread Cert.ChannelRefIdeal.nD Cert.ChannelRefIdeal.τ).loc Cert.ChannelRefIdeal.main_arg8)
      ∧ r.2.mem ((c.tc : Thread Cert.ChannelRefIdeal.nD Cert.ChannelRefIdeal.τ).loc Cert.ChannelRefIdeal.main_arg9) = m ((c.tc : Thread Cert.ChannelRefIdeal.nD Cert.ChannelRefIdeal.τ).loc Cert.ChannelRefIdeal.main_arg9)
      ∧ r.2.mem ((c.tc : Thread Cert.ChannelRefIdeal.nD Cert.ChannelRefIdeal.τ).loc Cert.ChannelRefIdeal.main_arg10) = m ((c.tc : Thread Cert.ChannelRefIdeal.nD Cert.ChannelRefIdeal.τ).loc Cert.ChannelRefIdeal.main_arg10)
      ∧ r.2.mem ((c.tc : Thread Cert.ChannelRefIdeal.nD Cert.ChannelRefIdeal.τ).loc Cert.ChannelRefIdeal.main_arg11) = m ((c.tc : Thread Cert.ChannelRefIdeal.nD Cert.ChannelRefIdeal.τ).loc Cert.ChannelRefIdeal.main_arg11)
      ∧ r.2.mem ((c.tc : Thread Cert.ChannelRefIdeal.nD Cert.ChannelRefIdeal.τ).loc Cert.ChannelRefIdeal.main_arg12) = m ((c.tc : Thread Cert.ChannelRefIdeal.nD Cert.ChannelRefIdeal.τ).loc Cert.ChannelRefIdeal.main_arg12)
      ∧ r.2.mem ((c.tc : Thread Cert.ChannelRefIdeal.nD Cert.ChannelRefIdeal.τ).loc Cert.ChannelRefIdeal.main_arg13) = m ((c.tc : Thread Cert.ChannelRefIdeal.nD Cert.ChannelRefIdeal.τ).loc Cert.ChannelRefIdeal.main_arg13))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def preserves_Fox_FoxIdeal : Prop :=
  IdealRules.named_const.Statement Cert.FoxIdeal.κ "scale_log2e" .f32 0x3E38AA3B#32 ((8⁻¹ * (Real.log 2)⁻¹ : ℝ) : EReal)
  ∧ IdealRules.named_const.Statement Cert.FoxIdeal.κ "mask" .f32 0xF149F2CA#32 ⊥
  ∧ IdealRules.named_const.Statement Cert.FoxIdeal.κ "log2e" .f32 0x3FB8AA3B#32 (((Real.log 2)⁻¹ : ℝ) : EReal)

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v11)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v11) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v31) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Channel_ChannelIdeal : Prop :=
  True

def algebraic_ChannelIdeal_ChannelRefIdeal [hChannelIdeal : Cert.ChannelIdeal.Facts] [hChannelRefIdeal : Cert.ChannelRefIdeal.Facts] : Prop :=
  ∀ (m : (ℓ : Loc Cert.ChannelIdeal.nD Cert.ChannelIdeal.τ Cert.ChannelIdeal.sig) → Buf (Elt Ideal) ℓ) (g : Dev Cert.ChannelIdeal.nD → PrngReg)
    (m' : (ℓ : Loc Cert.ChannelRefIdeal.nD Cert.ChannelRefIdeal.τ Cert.ChannelRefIdeal.sig) → Buf (Elt Ideal) ℓ) (g' : Dev Cert.ChannelRefIdeal.nD → PrngReg), Pre_ChannelIdeal m →
    (∀ c : Dev Cert.ChannelIdeal.nD,
      m' ((c.tc : Thread Cert.ChannelRefIdeal.nD Cert.ChannelRefIdeal.τ).loc Cert.ChannelRefIdeal.main_arg0) = m ((c.tc : Thread Cert.ChannelIdeal.nD Cert.ChannelIdeal.τ).loc Cert.ChannelIdeal.main_arg0)
      ∧ m' ((c.tc : Thread Cert.ChannelRefIdeal.nD Cert.ChannelRefIdeal.τ).loc Cert.ChannelRefIdeal.main_arg1) = m ((c.tc : Thread Cert.ChannelIdeal.nD Cert.ChannelIdeal.τ).loc Cert.ChannelIdeal.main_arg1)
      ∧ m' ((c.tc : Thread Cert.ChannelRefIdeal.nD Cert.ChannelRefIdeal.τ).loc Cert.ChannelRefIdeal.main_arg2) = m ((c.tc : Thread Cert.ChannelIdeal.nD Cert.ChannelIdeal.τ).loc Cert.ChannelIdeal.main_arg2)
      ∧ m' ((c.tc : Thread Cert.ChannelRefIdeal.nD Cert.ChannelRefIdeal.τ).loc Cert.ChannelRefIdeal.main_arg3) = m ((c.tc : Thread Cert.ChannelIdeal.nD Cert.ChannelIdeal.τ).loc Cert.ChannelIdeal.main_arg3)
      ∧ m' ((c.tc : Thread Cert.ChannelRefIdeal.nD Cert.ChannelRefIdeal.τ).loc Cert.ChannelRefIdeal.main_arg4) = m ((c.tc : Thread Cert.ChannelIdeal.nD Cert.ChannelIdeal.τ).loc Cert.ChannelIdeal.main_arg4)
      ∧ m' ((c.tc : Thread Cert.ChannelRefIdeal.nD Cert.ChannelRefIdeal.τ).loc Cert.ChannelRefIdeal.main_arg5) = m ((c.tc : Thread Cert.ChannelIdeal.nD Cert.ChannelIdeal.τ).loc Cert.ChannelIdeal.main_arg5)
      ∧ m' ((c.tc : Thread Cert.ChannelRefIdeal.nD Cert.ChannelRefIdeal.τ).loc Cert.ChannelRefIdeal.main_arg6) = m ((c.tc : Thread Cert.ChannelIdeal.nD Cert.ChannelIdeal.τ).loc Cert.ChannelIdeal.main_arg6)
      ∧ m' ((c.tc : Thread Cert.ChannelRefIdeal.nD Cert.ChannelRefIdeal.τ).loc Cert.ChannelRefIdeal.main_arg7) = m ((c.tc : Thread Cert.ChannelIdeal.nD Cert.ChannelIdeal.τ).loc Cert.ChannelIdeal.main_arg7)
      ∧ m' ((c.tc : Thread Cert.ChannelRefIdeal.nD Cert.ChannelRefIdeal.τ).loc Cert.ChannelRefIdeal.main_arg8) = m ((c.tc : Thread Cert.ChannelIdeal.nD Cert.ChannelIdeal.τ).loc Cert.ChannelIdeal.main_arg8)
      ∧ m' ((c.tc : Thread Cert.ChannelRefIdeal.nD Cert.ChannelRefIdeal.τ).loc Cert.ChannelRefIdeal.main_arg9) = m ((c.tc : Thread Cert.ChannelIdeal.nD Cert.ChannelIdeal.τ).loc Cert.ChannelIdeal.main_arg9)
      ∧ m' ((c.tc : Thread Cert.ChannelRefIdeal.nD Cert.ChannelRefIdeal.τ).loc Cert.ChannelRefIdeal.main_arg10) = m ((c.tc : Thread Cert.ChannelIdeal.nD Cert.ChannelIdeal.τ).loc Cert.ChannelIdeal.main_arg10)
      ∧ m' ((c.tc : Thread Cert.ChannelRefIdeal.nD Cert.ChannelRefIdeal.τ).loc Cert.ChannelRefIdeal.main_arg11) = m ((c.tc : Thread Cert.ChannelIdeal.nD Cert.ChannelIdeal.τ).loc Cert.ChannelIdeal.main_arg11)
      ∧ m' ((c.tc : Thread Cert.ChannelRefIdeal.nD Cert.ChannelRefIdeal.τ).loc Cert.ChannelRefIdeal.main_arg12) = m ((c.tc : Thread Cert.ChannelIdeal.nD Cert.ChannelIdeal.τ).loc Cert.ChannelIdeal.main_arg12)
      ∧ m' ((c.tc : Thread Cert.ChannelRefIdeal.nD Cert.ChannelRefIdeal.τ).loc Cert.ChannelRefIdeal.main_arg13) = m ((c.tc : Thread Cert.ChannelIdeal.nD Cert.ChannelIdeal.τ).loc Cert.ChannelIdeal.main_arg13)) →
    ∃ (v0 : (c : Dev Cert.ChannelIdeal.nD) → Buf (Elt Ideal) ((c.tc : Thread Cert.ChannelIdeal.nD Cert.ChannelIdeal.τ).loc Cert.ChannelIdeal.main_v13)),
      θ_run (Cert.ChannelIdeal.defs (F := Ideal)) (onTc (τ := Cert.ChannelIdeal.τ) (Cert.ChannelIdeal.main (F := Ideal))) ⟨m, fun _ => 0, g⟩ (fun r => ∀ c : Dev Cert.ChannelIdeal.nD,
          r.2.mem ((c.tc : Thread Cert.ChannelIdeal.nD Cert.ChannelIdeal.τ).loc Cert.ChannelIdeal.main_v13) = v0 c
          ∧ r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
          ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
          ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
          ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
          ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
          ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
          ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
          ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
          ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
          ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
          ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10)
          ∧ r.2.mem ((c.tc : Thread Cert.ChannelIdeal.nD Cert.ChannelIdeal.τ).loc Cert.ChannelIdeal.main_arg11) = m ((c.tc : Thread Cert.ChannelIdeal.nD Cert.ChannelIdeal.τ).loc Cert.ChannelIdeal.main_arg11)
          ∧ r.2.mem ((c.tc : Thread Cert.ChannelIdeal.nD Cert.ChannelIdeal.τ).loc Cert.ChannelIdeal.main_arg12) = m ((c.tc : Thread Cert.ChannelIdeal.nD Cert.ChannelIdeal.τ).loc Cert.ChannelIdeal.main_arg12)
          ∧ r.2.mem ((c.tc : Thread Cert.ChannelIdeal.nD Cert.ChannelIdeal.τ).loc Cert.ChannelIdeal.main_arg13) = m ((c.tc : Thread Cert.ChannelIdeal.nD Cert.ChannelIdeal.τ).loc Cert.ChannelIdeal.main_arg13))
      ∧ θ_run (Cert.ChannelRefIdeal.defs (F := Ideal)) (onTc (τ := Cert.ChannelRefIdeal.τ) (Cert.ChannelRefIdeal.main (F := Ideal))) ⟨m', fun _ => 0, g'⟩ (fun r => ∀ c : Dev Cert.ChannelRefIdeal.nD,
          r.2.mem ((c.tc : Thread Cert.ChannelRefIdeal.nD Cert.ChannelRefIdeal.τ).loc Cert.ChannelRefIdeal.main_v71) = v0 c
          ∧ r.2.mem ((c.tc : Thread Cert.ChannelRefIdeal.nD Cert.ChannelRefIdeal.τ).loc Cert.ChannelRefIdeal.main_arg0) = m' ((c.tc : Thread Cert.ChannelRefIdeal.nD Cert.ChannelRefIdeal.τ).loc Cert.ChannelRefIdeal.main_arg0)
          ∧ r.2.mem ((c.tc : Thread Cert.ChannelRefIdeal.nD Cert.ChannelRefIdeal.τ).loc Cert.ChannelRefIdeal.main_arg1) = m' ((c.tc : Thread Cert.ChannelRefIdeal.nD Cert.ChannelRefIdeal.τ).loc Cert.ChannelRefIdeal.main_arg1)
          ∧ r.2.mem ((c.tc : Thread Cert.ChannelRefIdeal.nD Cert.ChannelRefIdeal.τ).loc Cert.ChannelRefIdeal.main_arg2) = m' ((c.tc : Thread Cert.ChannelRefIdeal.nD Cert.ChannelRefIdeal.τ).loc Cert.ChannelRefIdeal.main_arg2)
          ∧ r.2.mem ((c.tc : Thread Cert.ChannelRefIdeal.nD Cert.ChannelRefIdeal.τ).loc Cert.ChannelRefIdeal.main_arg3) = m' ((c.tc : Thread Cert.ChannelRefIdeal.nD Cert.ChannelRefIdeal.τ).loc Cert.ChannelRefIdeal.main_arg3)
          ∧ r.2.mem ((c.tc : Thread Cert.ChannelRefIdeal.nD Cert.ChannelRefIdeal.τ).loc Cert.ChannelRefIdeal.main_arg4) = m' ((c.tc : Thread Cert.ChannelRefIdeal.nD Cert.ChannelRefIdeal.τ).loc Cert.ChannelRefIdeal.main_arg4)
          ∧ r.2.mem ((c.tc : Thread Cert.ChannelRefIdeal.nD Cert.ChannelRefIdeal.τ).loc Cert.ChannelRefIdeal.main_arg5) = m' ((c.tc : Thread Cert.ChannelRefIdeal.nD Cert.ChannelRefIdeal.τ).loc Cert.ChannelRefIdeal.main_arg5)
          ∧ r.2.mem ((c.tc : Thread Cert.ChannelRefIdeal.nD Cert.ChannelRefIdeal.τ).loc Cert.ChannelRefIdeal.main_arg6) = m' ((c.tc : Thread Cert.ChannelRefIdeal.nD Cert.ChannelRefIdeal.τ).loc Cert.ChannelRefIdeal.main_arg6)
          ∧ r.2.mem ((c.tc : Thread Cert.ChannelRefIdeal.nD Cert.ChannelRefIdeal.τ).loc Cert.ChannelRefIdeal.main_arg7) = m' ((c.tc : Thread Cert.ChannelRefIdeal.nD Cert.ChannelRefIdeal.τ).loc Cert.ChannelRefIdeal.main_arg7)
          ∧ r.2.mem ((c.tc : Thread Cert.ChannelRefIdeal.nD Cert.ChannelRefIdeal.τ).loc Cert.ChannelRefIdeal.main_arg8) = m' ((c.tc : Thread Cert.ChannelRefIdeal.nD Cert.ChannelRefIdeal.τ).loc Cert.ChannelRefIdeal.main_arg8)
          ∧ r.2.mem ((c.tc : Thread Cert.ChannelRefIdeal.nD Cert.ChannelRefIdeal.τ).loc Cert.ChannelRefIdeal.main_arg9) = m' ((c.tc : Thread Cert.ChannelRefIdeal.nD Cert.ChannelRefIdeal.τ).loc Cert.ChannelRefIdeal.main_arg9)
          ∧ r.2.mem ((c.tc : Thread Cert.ChannelRefIdeal.nD Cert.ChannelRefIdeal.τ).loc Cert.ChannelRefIdeal.main_arg10) = m' ((c.tc : Thread Cert.ChannelRefIdeal.nD Cert.ChannelRefIdeal.τ).loc Cert.ChannelRefIdeal.main_arg10)
          ∧ r.2.mem ((c.tc : Thread Cert.ChannelRefIdeal.nD Cert.ChannelRefIdeal.τ).loc Cert.ChannelRefIdeal.main_arg11) = m' ((c.tc : Thread Cert.ChannelRefIdeal.nD Cert.ChannelRefIdeal.τ).loc Cert.ChannelRefIdeal.main_arg11)
          ∧ r.2.mem ((c.tc : Thread Cert.ChannelRefIdeal.nD Cert.ChannelRefIdeal.τ).loc Cert.ChannelRefIdeal.main_arg12) = m' ((c.tc : Thread Cert.ChannelRefIdeal.nD Cert.ChannelRefIdeal.τ).loc Cert.ChannelRefIdeal.main_arg12)
          ∧ r.2.mem ((c.tc : Thread Cert.ChannelRefIdeal.nD Cert.ChannelRefIdeal.τ).loc Cert.ChannelRefIdeal.main_arg13) = m' ((c.tc : Thread Cert.ChannelRefIdeal.nD Cert.ChannelRefIdeal.τ).loc Cert.ChannelRefIdeal.main_arg13))

def preserves_Diff_DiffIdeal : Prop :=
  IdealRules.named_const.Statement Cert.DiffIdeal.κ "scale_log2e" .f32 0x3E38AA3B#32 ((8⁻¹ * (Real.log 2)⁻¹ : ℝ) : EReal)
  ∧ IdealRules.named_const.Statement Cert.DiffIdeal.κ "slope0" .f32 0x3EB8AA3B#32 ((4⁻¹ * (Real.log 2)⁻¹ : ℝ) : EReal)
  ∧ IdealRules.named_const.Statement Cert.DiffIdeal.κ "slope2" .f32 0x3CB8AA3B#32 ((64⁻¹ * (Real.log 2)⁻¹ : ℝ) : EReal)
  ∧ IdealRules.named_const.Statement Cert.DiffIdeal.κ "slope1" .f32 0x3DB8AA3B#32 ((16⁻¹ * (Real.log 2)⁻¹ : ℝ) : EReal)
  ∧ IdealRules.named_const.Statement Cert.DiffIdeal.κ "slope3" .f32 0x3BB8AA3B#32 ((256⁻¹ * (Real.log 2)⁻¹ : ℝ) : EReal)
  ∧ IdealRules.named_const.Statement Cert.DiffIdeal.κ "mask" .f32 0xF149F2CA#32 ⊥

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)) →
    ∃ (v0 : (c : Dev Cert.DiffIdeal.nD) → Buf (Elt Ideal) ((c.tc : Thread Cert.DiffIdeal.nD Cert.DiffIdeal.τ).loc Cert.DiffIdeal.main_v17)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v17) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v94) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def Claim : Prop :=
  ∃ (hFox : Cert.Fox.Facts) (hFoxIdeal : Cert.FoxIdeal.Facts) (hFoxRefIdeal : Cert.FoxRefIdeal.Facts) (hChannel : Cert.Channel.Facts) (hChannelIdeal : Cert.ChannelIdeal.Facts) (hChannelRefIdeal : Cert.ChannelRefIdeal.Facts) (hDiff : Cert.Diff.Facts) (hDiffIdeal : Cert.DiffIdeal.Facts) (hDiffRefIdeal : Cert.DiffRefIdeal.Facts) (hPre_finite : Cert.Pre_finite.Facts) (hPre_finite_diff : Cert.Pre_finite_diff.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Channel (hChannel := hChannel)
    ∧ quiescent_ChannelIdeal (hChannelIdeal := hChannelIdeal)
    ∧ quiescent_ChannelRefIdeal (hChannelRefIdeal := hChannelRefIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ preserves_Fox_FoxIdeal
    ∧ algebraic_FoxIdeal_FoxRefIdeal_pre_finite (hFoxIdeal := hFoxIdeal) (hFoxRefIdeal := hFoxRefIdeal) (hPre_finite := hPre_finite)
    ∧ preserves_Channel_ChannelIdeal
    ∧ algebraic_ChannelIdeal_ChannelRefIdeal (hChannelIdeal := hChannelIdeal) (hChannelRefIdeal := hChannelRefIdeal)
    ∧ preserves_Diff_DiffIdeal
    ∧ algebraic_DiffIdeal_DiffRefIdeal_pre_finite_diff (hDiffIdeal := hDiffIdeal) (hDiffRefIdeal := hDiffRefIdeal) (hPre_finite_diff := hPre_finite_diff)
-- ==== Pre_finite.lean ====
abbrev S8x4096x6x64 : Shape := ⟨4, ![8, 4096, 6, 64]⟩
abbrev S8x4096x6 : Shape := ⟨3, ![8, 4096, 6]⟩
abbrev S_ : Shape := ⟨0, ![]⟩

class Facts : Prop where
  bcast_S_S8x4096x6x64 : S_.BroadcastsInDim S8x4096x6x64 (![] : Fin 0 → Fin S8x4096x6x64.rank)
  reducesTo_S8x4096x6x64_S_d0_1_2_3 : S8x4096x6x64.ReducesTo [0, 1, 2, 3] S_
  h_S_ : 0 < S_.numel
  bcast_S_S8x4096x6 : S_.BroadcastsInDim S8x4096x6 (![] : Fin 0 → Fin S8x4096x6.rank)
  reducesTo_S8x4096x6_S_d0_1_2 : S8x4096x6.ReducesTo [0, 1, 2] S_

variable [Facts]

def fn {F : FTy → Type} [FloatOps F] (main_arg0 : FVec F S8x4096x6x64 .f32) (main_arg1 : FVec F S8x4096x6x64 .f32) (main_arg2 : FVec F S8x4096x6x64 .f32) (main_arg3 : FVec F S8x4096x6 .f32) : IVec S_ 1 :=
  let main_v0 : FVec F S8x4096x6x64 .f32 := Host.absf main_arg0
  let main_cst : FVec F S_ .f32 := constant S_ .f32 0x7F800000#32
  let main_v1 : FVec F S8x4096x6x64 .f32 := broadcastInDim S8x4096x6x64 ![] bcast_S_S8x4096x6x64 main_cst
  let main_v2 : IVec S8x4096x6x64 1 := cmpf .olt main_v0 main_v1
  let main_c : IVec S_ 1 := constantI S_ 1 1#1
  let main_v3 : IVec S_ 1 := (fun x v => Host.reduce IntOp.andi x v reducesTo_S8x4096x6x64_S_d0_1_2_3 h_S_) main_v2 main_c
  let main_v4 : FVec F S8x4096x6x64 .f32 := Host.absf main_arg1
  let main_cst_0 : FVec F S_ .f32 := constant S_ .f32 0x7F800000#32
  let main_v5 : FVec F S8x4096x6x64 .f32 := broadcastInDim S8x4096x6x64 ![] bcast_S_S8x4096x6x64 main_cst_0
  let main_v6 : IVec S8x4096x6x64 1 := cmpf .olt main_v4 main_v5
  let main_c_1 : IVec S_ 1 := constantI S_ 1 1#1
  let main_v7 : IVec S_ 1 := (fun x v => Host.reduce IntOp.andi x v reducesTo_S8x4096x6x64_S_d0_1_2_3 h_S_) main_v6 main_c_1
  let main_v8 : IVec S_ 1 := andi main_v3 main_v7
  let main_v9 : FVec F S8x4096x6 .f32 := Host.absf main_arg3
  let main_cst_2 : FVec F S_ .f32 := constant S_ .f32 0x7F800000#32
  let main_v10 : FVec F S8x4096x6 .f32 := broadcastInDim S8x4096x6 ![] bcast_S_S8x4096x6 main_cst_2
  let main_v11 : IVec S8x4096x6 1 := cmpf .olt main_v9 main_v10
  let main_c_3 : IVec S_ 1 := constantI S_ 1 1#1
  let main_v12 : IVec S_ 1 := (fun x v => Host.reduce IntOp.andi x v reducesTo_S8x4096x6_S_d0_1_2 h_S_) main_v11 main_c_3
  let main_v13 : IVec S_ 1 := andi main_v8 main_v12
  main_v13
-- ==== Pre_finite_diff.lean ====
abbrev S8x4096x4x64 : Shape := ⟨4, ![8, 4096, 4, 64]⟩
abbrev S4x64 : Shape := ⟨2, ![4, 64]⟩
abbrev S64 : Shape := ⟨1, ![64]⟩
abbrev S_ : Shape := ⟨0, ![]⟩

class Facts : Prop where
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S8x4096x4x64 .f32) (main_arg5 : FVec F S4x64 .f32) (main_v13 : IVec S_ 1) (main_v16 : IVec S8x4096x4x64 1) : IVec S_ 1 :=
  let main_c_5 : IVec S_ 1 := constantI S_ 1 1#1
  let main_v17 : IVec S_ 1 := (fun x v => Host.reduce IntOp.andi x v reducesTo_S8x4096x4x64_S_d0_1_2_3 h_S_) main_v16 main_c_5
  let main_v18 : IVec S_ 1 := andi main_v13 main_v17
  let main_v19 : FVec F S8x4096x4x64 .f32 := Host.absf main_arg4
  let main_cst_6 : FVec F S_ .f32 := constant S_ .f32 0x7F800000#32
  let main_v20 : FVec F S8x4096x4x64 .f32 := broadcastInDim S8x4096x4x64 ![] bcast_S_S8x4096x4x64 main_cst_6
  let main_v21 : IVec S8x4096x4x64 1 := cmpf .olt main_v19 main_v20
  let main_c_7 : IVec S_ 1 := constantI S_ 1 1#1
  let main_v22 : IVec S_ 1 := (fun x v => Host.reduce IntOp.andi x v reducesTo_S8x4096x4x64_S_d0_1_2_3 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S8x4096x4x64 .f32) (main_arg1 : FVec F S8x4096x4x64 .f32) (main_arg2 : FVec F S8x4096x4x64 .f32) (main_arg3 : FVec F S8x4096x4x64 .f32) (main_arg4 : FVec F S8x4096x4x64 .f32) (main_arg5 : FVec F S4x64 .f32) (main_arg6 : FVec F S64 .f32) : IVec S_ 1 :=
  let main_v0 : FVec F S8x4096x4x64 .f32 := Host.absf main_arg0
  let main_cst : FVec F S_ .f32 := constant S_ .f32 0x7F800000#32
  let main_v1 : FVec F S8x4096x4x64 .f32 := broadcastInDim S8x4096x4x64 ![] bcast_S_S8x4096x4x64 main_cst
  let main_v2 : IVec S8x4096x4x64 1 := cmpf .olt main_v0 main_v1
  let main_c : IVec S_ 1 := constantI S_ 1 1#1
  let main_v3 : IVec S_ 1 := (fun x v => Host.reduce IntOp.andi x v reducesTo_S8x4096x4x64_S_d0_1_2_3 h_S_) main_v2 main_c
  let main_v4 : FVec F S8x4096x4x64 .f32 := Host.absf main_arg1
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_c_1 : IVec S_ 1 := constantI S_ 1 1#1
  let main_v7 : IVec S_ 1 := (fun x v => Host.reduce IntOp.andi x v reducesTo_S8x4096x4x64_S_d0_1_2_3 h_S_) main_v6 main_c_1
  let main_v8 : IVec S_ 1 := andi main_v3 main_v7
  let main_v9 : FVec F S8x4096x4x64 .f32 := Host.absf main_arg2
  let main_cst_2 : FVec F S_ .f32 := constant S_ .f32 0x7F800000#32
  let main_v10 : FVec F S8x4096x4x64 .f32 := broadcastInDim S8x4096x4x64 ![] bcast_S_S8x4096x4x64 main_cst_2
  let main_v11 : IVec S8x4096x4x64 1 := cmpf .olt main_v9 main_v10
  let main_c_3 : IVec S_ 1 := constantI S_ 1 1#1
  let main_v12 : IVec S_ 1 := (fun x v => Host.reduce IntOp.andi x v reducesTo_S8x4096x4x64_S_d0_1_2_3 h_S_) main_v11 main_c_3
  let main_v13 : IVec S_ 1 := andi main_v8 main_v12
  let main_v14 : FVec F S8x4096x4x64 .f32 := Host.absf main_arg3
  let main_cst_4 : FVec F S_ .f32 := constant S_ .f32 0x7F800000#32
  let main_v15 : FVec F S8x4096x4x64 .f32 := broadcastInDim S8x4096x4x64 ![] bcast_S_S8x4096x4x64 main_cst_4
  let main_v16 : IVec S8x4096x4x64 1 := cmpf .olt main_v14 main_v15
  fn_part1 (F := F) main_arg4 main_arg5 main_v13 main_v16
-- ==== Fox.lean ====
abbrev S8x4096x6x64 : Shape := ⟨4, ![8, 4096, 6, 64]⟩
abbrev S8x4096x6 : Shape := ⟨3, ![8, 4096, 6]⟩
abbrev S_ : Shape := ⟨0, ![]⟩
abbrev S8x4096x1024 : Shape := ⟨3, ![8, 4096, 1024]⟩
abbrev S8x4096x384 : Shape := ⟨3, ![8, 4096, 384]⟩
abbrev S8x4096x3584 : Shape := ⟨3, ![8, 4096, 3584]⟩
abbrev S8x6x4096 : Shape := ⟨3, ![8, 6, 4096]⟩
abbrev S8x8x4096 : Shape := ⟨3, ![8, 8, 4096]⟩
abbrev S1x512x128 : Shape := ⟨3, ![1, 512, 128]⟩
abbrev S1x4096x128 : Shape := ⟨3, ![1, 4096, 128]⟩
abbrev S1x8x4096 : Shape := ⟨3, ![1, 8, 4096]⟩
abbrev S512x128 : Shape := ⟨2, ![512, 128]⟩
abbrev S512x1 : Shape := ⟨2, ![512, 1]⟩
abbrev S1x128 : Shape := ⟨2, ![1, 128]⟩
abbrev S1x1024x128 : Shape := ⟨3, ![1, 1024, 128]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 20
  | .vmem => 10
  | .smem => 0
  | _ => 0

abbrev bufTy : (tb : Table) → Fin (tcTables nBuf tb) → BufTy
  | .hbm, ⟨0, _⟩ => ⟨S8x4096x6x64, .f32⟩
  | .hbm, ⟨1, _⟩ => ⟨S8x4096x6x64, .f32⟩
  | .hbm, ⟨2, _⟩ => ⟨S8x4096x6x64, .f32⟩
  | .hbm, ⟨3, _⟩ => ⟨S8x4096x6, .f32⟩
  | .hbm, ⟨4, _⟩ => ⟨S_, .bf16⟩
  | .hbm, ⟨5, _⟩ => ⟨S8x4096x1024, .bf16⟩
  | .hbm, ⟨6, _⟩ => ⟨S_, .bf16⟩
  | .hbm, ⟨7, _⟩ => ⟨S8x4096x384, .bf16⟩
  | .hbm, ⟨8, _⟩ => ⟨S8x4096x384, .f32⟩
  | .hbm, ⟨9, _⟩ => ⟨S8x4096x384, .bf16⟩
  | .hbm, ⟨10, _⟩ => ⟨S8x4096x384, .f32⟩
  | .hbm, ⟨11, _⟩ => ⟨S8x4096x384, .bf16⟩
  | .hbm, ⟨12, _⟩ => ⟨S8x4096x384, .f32⟩
  | .hbm, ⟨13, _⟩ => ⟨S8x4096x384, .bf16⟩
  | .hbm, ⟨14, _⟩ => ⟨S8x4096x3584, .bf16⟩
  | .hbm, ⟨15, _⟩ => ⟨S8x6x4096, .f32⟩
  | .hbm, ⟨16, _⟩ => ⟨S_, .i32⟩
  | .hbm, ⟨17, _⟩ => ⟨S_, .f32⟩
  | .hbm, ⟨18, _⟩ => ⟨S8x8x4096, .f32⟩
  | .hbm, ⟨19, _⟩ => ⟨S8x4096x384, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x8x4096, .f32⟩
  | .local _ .vmem, ⟨7, _⟩ => ⟨S1x8x4096, .f32⟩
  | .local _ .vmem, ⟨8, _⟩ => ⟨S1x512x128, .bf16⟩
  | .local _ .vmem, ⟨9, _⟩ => ⟨S1x512x128, .bf16⟩
  | _, _ => ⟨S8x4096x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 8], ![false, false, false]⟩

@[reducible] def k0_t1_loop (i : grid0.Coords) : Scf.Loop 32 :=
  let c0_i32_22 : BitVec 32 := 0#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v69 : BitVec 32 := Scalar.subi v64 c0_i32_22
  let c1_i32_23 : BitVec 32 := 1#32
  let v71 : BitVec 32 := Scalar.divsi v69 c1_i32_23
  let v72 : BitVec 32 := Scalar.muli v71 c1_i32_23
  let v73 : BitVec 32 := Scalar.addi c0_i32_22 v72
  let c1_i32_24 : BitVec 32 := 1#32
  ⟨c0_i32_22, v73, c1_i32_24⟩
def k0_mult1 (i : grid0.Coords) (k0_t1 : Fin (k0_t1_loop i).trips) : BitVec 32 :=
  let c0_i32_22 : BitVec 32 := 0#32
  let c1_i32_24 : BitVec 32 := 1#32
  let arg8 : BitVec 32 := Scf.iv c0_i32_22 c1_i32_24 k0_t1
  let c1024_i32 : BitVec 32 := 1024#32
  let v239 : BitVec 32 := Scalar.muli arg8 c1024_i32
  v239
def k0_off1 (i : grid0.Coords) (k0_t1 : Fin (k0_t1_loop i).trips) : Fin 3 → Nat :=
  let c0_76 : Index := 0#32
  let c0_i32_22 : BitVec 32 := 0#32
  let c1_i32_24 : BitVec 32 := 1#32
  let arg8 : BitVec 32 := Scf.iv c0_i32_22 c1_i32_24 k0_t1
  let c1024_i32 : BitVec 32 := 1024#32
  let v239 : BitVec 32 := Scalar.muli arg8 c1024_i32
  let v240 : BitVec 32 := v239
  let v241 : Index := Scalar.indexCast v240
  let c0_77 : Index := 0#32
  ![0, v241.toNat, 0]
def k0_off2 (i : grid0.Coords) (k0_t1 : Fin (k0_t1_loop i).trips) (c0_i32_83 : BitVec 32) : Fin 3 → Nat :=
  let c0_84 : Index := 0#32
  let arg1 : BitVec 32 := BitVec.ofNat 32 (i 1).val
  let c2_i32_82 : BitVec 32 := 2#32
  let v249 : BitVec 32 := Scalar.muli arg1 c2_i32_82
  let v250 : BitVec 32 := Scalar.addi v249 c0_i32_83
  let v251 : Index := Scalar.indexCast v250
  let c0_i32_22 : BitVec 32 := 0#32
  let c1_i32_24 : BitVec 32 := 1#32
  let arg8 : BitVec 32 := Scf.iv c0_i32_22 c1_i32_24 k0_t1
  let c1024_i32 : BitVec 32 := 1024#32
  let v239 : BitVec 32 := Scalar.muli arg8 c1024_i32
  let v240 : BitVec 32 := v239
  let v252 : Index := Scalar.indexCast v240
  ![0, v251.toNat, v252.toNat]
@[reducible] def k0_t2_loop (i : grid0.Coords) : Scf.Loop 32 :=
  let c0_i32_22 : BitVec 32 := 0#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v69 : BitVec 32 := Scalar.subi v64 c0_i32_22
  let c1_i32_23 : BitVec 32 := 1#32
  let v71 : BitVec 32 := Scalar.divsi v69 c1_i32_23
  let v72 : BitVec 32 := Scalar.muli v71 c1_i32_23
  let v73 : BitVec 32 := Scalar.addi c0_i32_22 v72
  let v70 : BitVec 32 := Scalar.addi c0_i32_22 v69
  let c1_i32_25 : BitVec 32 := 1#32
  ⟨v73, v70, c1_i32_25⟩
def k0_mult2 (i : grid0.Coords) (k0_t2 : Fin (k0_t2_loop i).trips) : BitVec 32 :=
  let c0_i32_22 : BitVec 32 := 0#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v69 : BitVec 32 := Scalar.subi v64 c0_i32_22
  let c1_i32_23 : BitVec 32 := 1#32
  let v71 : BitVec 32 := Scalar.divsi v69 c1_i32_23
  let v72 : BitVec 32 := Scalar.muli v71 c1_i32_23
  let v73 : BitVec 32 := Scalar.addi c0_i32_22 v72
  let c1_i32_25 : BitVec 32 := 1#32
  let arg8 : BitVec 32 := Scf.iv v73 c1_i32_25 k0_t2
  let c1024_i32 : BitVec 32 := 1024#32
  let v239 : BitVec 32 := Scalar.muli arg8 c1024_i32
  v239
def k0_off3 (i : grid0.Coords) (k0_t2 : Fin (k0_t2_loop i).trips) : Fin 3 → Nat :=
  let c0_76 : Index := 0#32
  let c0_i32_22 : BitVec 32 := 0#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v69 : BitVec 32 := Scalar.subi v64 c0_i32_22
  let c1_i32_23 : BitVec 32 := 1#32
  let v71 : BitVec 32 := Scalar.divsi v69 c1_i32_23
  let v72 : BitVec 32 := Scalar.muli v71 c1_i32_23
  let v73 : BitVec 32 := Scalar.addi c0_i32_22 v72
  let c1_i32_25 : BitVec 32 := 1#32
  let arg8 : BitVec 32 := Scf.iv v73 c1_i32_25 k0_t2
  let c1024_i32 : BitVec 32 := 1024#32
  let v239 : BitVec 32 := Scalar.muli arg8 c1024_i32
  let v240 : BitVec 32 := v239
  let v241 : Index := Scalar.indexCast v240
  let c0_77 : Index := 0#32
  ![0, v241.toNat, 0]
def k0_off4 (i : grid0.Coords) (k0_t2 : Fin (k0_t2_loop i).trips) (c0_i32_83 : BitVec 32) : Fin 3 → Nat :=
  let c0_84 : Index := 0#32
  let arg1 : BitVec 32 := BitVec.ofNat 32 (i 1).val
  let c2_i32_82 : BitVec 32 := 2#32
  let v249 : BitVec 32 := Scalar.muli arg1 c2_i32_82
  let v250 : BitVec 32 := Scalar.addi v249 c0_i32_83
  let v251 : Index := Scalar.indexCast v250
  let c0_i32_22 : BitVec 32 := 0#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v69 : BitVec 32 := Scalar.subi v64 c0_i32_22
  let c1_i32_23 : BitVec 32 := 1#32
  let v71 : BitVec 32 := Scalar.divsi v69 c1_i32_23
  let v72 : BitVec 32 := Scalar.muli v71 c1_i32_23
  let v73 : BitVec 32 := Scalar.addi c0_i32_22 v72
  let c1_i32_25 : BitVec 32 := 1#32
  let arg8 : BitVec 32 := Scf.iv v73 c1_i32_25 k0_t2
  let c1024_i32 : BitVec 32 := 1024#32
  let v239 : BitVec 32 := Scalar.muli arg8 c1024_i32
  let v240 : BitVec 32 := v239
  let v252 : Index := Scalar.indexCast v240
  ![0, v251.toNat, v252.toNat]
@[reducible] def k0_t3_loop (i : grid0.Coords) : Scf.Loop 32 :=
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let v77 : BitVec 32 := Scalar.subi v27 v76
  let c1_i32_27 : BitVec 32 := 1#32
  let v79 : BitVec 32 := Scalar.divsi v77 c1_i32_27
  let v80 : BitVec 32 := Scalar.muli v79 c1_i32_27
  let v81 : BitVec 32 := Scalar.addi v76 v80
  let c1_i32_28 : BitVec 32 := 1#32
  ⟨v76, v81, c1_i32_28⟩
def k0_mult3 (i : grid0.Coords) (k0_t3 : Fin (k0_t3_loop i).trips) : BitVec 32 :=
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let c1_i32_28 : BitVec 32 := 1#32
  let arg8 : BitVec 32 := Scf.iv v76 c1_i32_28 k0_t3
  let c512_i32_76 : BitVec 32 := 512#32
  let v239 : BitVec 32 := Scalar.muli arg8 c512_i32_76
  v239
def k0_off5 (i : grid0.Coords) (k0_t3 : Fin (k0_t3_loop i).trips) : Fin 3 → Nat :=
  let c0_77 : Index := 0#32
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let c1_i32_28 : BitVec 32 := 1#32
  let arg8 : BitVec 32 := Scf.iv v76 c1_i32_28 k0_t3
  let c512_i32_76 : BitVec 32 := 512#32
  let v239 : BitVec 32 := Scalar.muli arg8 c512_i32_76
  let v240 : BitVec 32 := v239
  let v241 : Index := Scalar.indexCast v240
  let c0_78 : Index := 0#32
  ![0, v241.toNat, 0]
def k0_off6 (i : grid0.Coords) (k0_t3 : Fin (k0_t3_loop i).trips) (c0_i32_84 : BitVec 32) : Fin 3 → Nat :=
  let c0_85 : Index := 0#32
  let arg1 : BitVec 32 := BitVec.ofNat 32 (i 1).val
  let c2_i32_83 : BitVec 32 := 2#32
  let v249 : BitVec 32 := Scalar.muli arg1 c2_i32_83
  let v250 : BitVec 32 := Scalar.addi v249 c0_i32_84
  let v251 : Index := Scalar.indexCast v250
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let c1_i32_28 : BitVec 32 := 1#32
  let arg8 : BitVec 32 := Scf.iv v76 c1_i32_28 k0_t3
  let c512_i32_76 : BitVec 32 := 512#32
  let v239 : BitVec 32 := Scalar.muli arg8 c512_i32_76
  let v240 : BitVec 32 := v239
  let v252 : Index := Scalar.indexCast v240
  ![0, v251.toNat, v252.toNat]
@[reducible] def k0_t4_loop (i : grid0.Coords) : Scf.Loop 32 :=
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let v77 : BitVec 32 := Scalar.subi v27 v76
  let c1_i32_27 : BitVec 32 := 1#32
  let v79 : BitVec 32 := Scalar.divsi v77 c1_i32_27
  let v80 : BitVec 32 := Scalar.muli v79 c1_i32_27
  let v81 : BitVec 32 := Scalar.addi v76 v80
  let v78 : BitVec 32 := Scalar.addi v76 v77
  let c1_i32_29 : BitVec 32 := 1#32
  ⟨v81, v78, c1_i32_29⟩
def k0_mult4 (i : grid0.Coords) (k0_t4 : Fin (k0_t4_loop i).trips) : BitVec 32 :=
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let v77 : BitVec 32 := Scalar.subi v27 v76
  let c1_i32_27 : BitVec 32 := 1#32
  let v79 : BitVec 32 := Scalar.divsi v77 c1_i32_27
  let v80 : BitVec 32 := Scalar.muli v79 c1_i32_27
  let v81 : BitVec 32 := Scalar.addi v76 v80
  let c1_i32_29 : BitVec 32 := 1#32
  let arg8 : BitVec 32 := Scf.iv v81 c1_i32_29 k0_t4
  let c512_i32_76 : BitVec 32 := 512#32
  let v239 : BitVec 32 := Scalar.muli arg8 c512_i32_76
  v239
def k0_off7 (i : grid0.Coords) (k0_t4 : Fin (k0_t4_loop i).trips) : Fin 3 → Nat :=
  let c0_77 : Index := 0#32
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let v77 : BitVec 32 := Scalar.subi v27 v76
  let c1_i32_27 : BitVec 32 := 1#32
  let v79 : BitVec 32 := Scalar.divsi v77 c1_i32_27
  let v80 : BitVec 32 := Scalar.muli v79 c1_i32_27
  let v81 : BitVec 32 := Scalar.addi v76 v80
  let c1_i32_29 : BitVec 32 := 1#32
  let arg8 : BitVec 32 := Scf.iv v81 c1_i32_29 k0_t4
  let c512_i32_76 : BitVec 32 := 512#32
  let v239 : BitVec 32 := Scalar.muli arg8 c512_i32_76
  let v240 : BitVec 32 := v239
  let v241 : Index := Scalar.indexCast v240
  let c0_78 : Index := 0#32
  ![0, v241.toNat, 0]
def k0_off8 (i : grid0.Coords) (k0_t4 : Fin (k0_t4_loop i).trips) (c0_i32_84 : BitVec 32) : Fin 3 → Nat :=
  let c0_85 : Index := 0#32
  let arg1 : BitVec 32 := BitVec.ofNat 32 (i 1).val
  let c2_i32_83 : BitVec 32 := 2#32
  let v249 : BitVec 32 := Scalar.muli arg1 c2_i32_83
  let v250 : BitVec 32 := Scalar.addi v249 c0_i32_84
  let v251 : Index := Scalar.indexCast v250
  let c2_i32_26 : BitVec 32 := 2#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c0_i32_12 : BitVec 32 := 0#32
  let v49 : BitVec 1 := Scalar.cmpi .sgt v27 c0_i32_12
  let v50 : BitVec 32 := Scalar.extui v49
  let c0_i32_13 : BitVec 32 := 0#32
  let v51 : BitVec 1 := Scalar.cmpi .slt v27 c0_i32_13
  let v52 : BitVec 32 := Scalar.extui v51
  let v53 : BitVec 32 := Scalar.subi v50 v52
  let c2_i32 : BitVec 32 := 2#32
  let c0_i32_14 : BitVec 32 := 0#32
  let v54 : BitVec 1 := Scalar.cmpi .sgt c2_i32 c0_i32_14
  let v55 : BitVec 32 := Scalar.extui v54
  let c0_i32_15 : BitVec 32 := 0#32
  let v56 : BitVec 1 := Scalar.cmpi .slt c2_i32 c0_i32_15
  let v57 : BitVec 32 := Scalar.extui v56
  let v58 : BitVec 32 := Scalar.subi v55 v57
  let v59 : BitVec 1 := Scalar.cmpi .ne v53 v58
  let v60 : BitVec 32 := Scalar.remsi v27 c2_i32
  let c0_i32_16 : BitVec 32 := 0#32
  let v61 : BitVec 1 := Scalar.cmpi .ne v60 c0_i32_16
  let v62 : BitVec 1 := Scalar.andi v59 v61
  let v48 : BitVec 32 := Scalar.divsi v27 c2_i32
  let c1_i32_17 : BitVec 32 := 1#32
  let v63 : BitVec 32 := Scalar.subi v48 c1_i32_17
  let v64 : BitVec 32 := Scalar.select v62 v63 v48
  let v76 : BitVec 32 := Scalar.muli c2_i32_26 v64
  let v77 : BitVec 32 := Scalar.subi v27 v76
  let c1_i32_27 : BitVec 32 := 1#32
  let v79 : BitVec 32 := Scalar.divsi v77 c1_i32_27
  let v80 : BitVec 32 := Scalar.muli v79 c1_i32_27
  let v81 : BitVec 32 := Scalar.addi v76 v80
  let c1_i32_29 : BitVec 32 := 1#32
  let arg8 : BitVec 32 := Scf.iv v81 c1_i32_29 k0_t4
  let c512_i32_76 : BitVec 32 := 512#32
  let v239 : BitVec 32 := Scalar.muli arg8 c512_i32_76
  let v240 : BitVec 32 := v239
  let v252 : Index := Scalar.indexCast v240
  ![0, v251.toNat, v252.toNat]
def k0_mult5 (i : grid0.Coords) : BitVec 32 :=
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c512_i32_30 : BitVec 32 := 512#32
  let v84 : BitVec 32 := Scalar.muli v27 c512_i32_30
  v84
def k0_off9 (i : grid0.Coords) : Fin 3 → Nat :=
  let c0_31 : Index := 0#32
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c512_i32_30 : BitVec 32 := 512#32
  let v84 : BitVec 32 := Scalar.muli v27 c512_i32_30
  let v85 : BitVec 32 := v84
  let v86 : Index := Scalar.indexCast v85
  let c0_32 : Index := 0#32
  ![0, v86.toNat, 0]
def k0_off10 (i : grid0.Coords) (c0_i32_38 : BitVec 32) : Fin 3 → Nat :=
  let c0_39 : Index := 0#32
  let arg1 : BitVec 32 := BitVec.ofNat 32 (i 1).val
  let c2_i32_37 : BitVec 32 := 2#32
  let v94 : BitVec 32 := Scalar.muli arg1 c2_i32_37
  let v95 : BitVec 32 := Scalar.addi v94 c0_i32_38
  let v96 : Index := Scalar.indexCast v95
  let arg2 : BitVec 32 := BitVec.ofNat 32 (i 2).val
  let c512_i32_2 : BitVec 32 := 512#32
  let v10 : BitVec 32 := Scalar.muli arg2 c512_i32_2
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32_3 : BitVec 32 := 512#32
  let c0_i32_5 : BitVec 32 := 0#32
  let v17 : BitVec 1 := Scalar.cmpi .sgt c512_i32_3 c0_i32_5
  let v18 : BitVec 32 := Scalar.extui v17
  let c0_i32_6 : BitVec 32 := 0#32
  let v19 : BitVec 1 := Scalar.cmpi .slt c512_i32_3 c0_i32_6
  let v20 : BitVec 32 := Scalar.extui v19
  let v21 : BitVec 32 := Scalar.subi v18 v20
  let v22 : BitVec 1 := Scalar.cmpi .ne v16 v21
  let v23 : BitVec 32 := Scalar.remsi v10 c512_i32_3
  let c0_i32_7 : BitVec 32 := 0#32
  let v24 : BitVec 1 := Scalar.cmpi .ne v23 c0_i32_7
  let v25 : BitVec 1 := Scalar.andi v22 v24
  let v11 : BitVec 32 := Scalar.divsi v10 c512_i32_3
  let c1_i32 : BitVec 32 := 1#32
  let v26 : BitVec 32 := Scalar.subi v11 c1_i32
  let v27 : BitVec 32 := Scalar.select v25 v26 v11
  let c512_i32_30 : BitVec 32 := 512#32
  let v84 : BitVec 32 := Scalar.muli v27 c512_i32_30
  let v85 : BitVec 32 := v84
  let v97 : Index := Scalar.indexCast v85
  ![0, v96.toNat, v97.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxIdeal.lean ====
variable {F : FTy → Type} [FloatOps F] [Named F]
def κ : String → Option EReal := fun
  | "log2e" => some (((Real.log 2)⁻¹ : ℝ) : EReal)
  | "mask" => some ⊥
  | "scale_log2e" => some ((8⁻¹ * (Real.log 2)⁻¹ : ℝ) : EReal)
  | _ => none
-- ==== FoxRefIdeal.lean ====
abbrev S8x4096x6x64 : Shape := ⟨4, ![8, 4096, 6, 64]⟩
abbrev S8x4096x6 : Shape := ⟨3, ![8, 4096, 6]⟩
abbrev S4096 : Shape := ⟨1, ![4096]⟩
abbrev S8x6x4096 : Shape := ⟨3, ![8, 6, 4096]⟩
abbrev S8x6x4096x4096 : Shape := ⟨4, ![8, 6, 4096, 4096]⟩
abbrev S_ : Shape := ⟨0, ![]⟩
abbrev S8x6x4096x1 : Shape := ⟨4, ![8, 6, 4096, 1]⟩
abbrev S8x6x1x4096 : Shape := ⟨4, ![8, 6, 1, 4096]⟩
abbrev S1x4096 : Shape := ⟨2, ![1, 4096]⟩
abbrev S4096x1 : Shape := ⟨2, ![4096, 1]⟩
abbrev S4096x4096 : Shape := ⟨2, ![4096, 4096]⟩
abbrev S8x6x64x4096 : Shape := ⟨4, ![8, 6, 64, 4096]⟩
abbrev S8x4096x384 : Shape := ⟨3, ![8, 4096, 384]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x6x64, .f32⟩
  | .hbm, ⟨1, _⟩ => ⟨S8x4096x6x64, .f32⟩
  | .hbm, ⟨2, _⟩ => ⟨S8x4096x6x64, .f32⟩
  | .hbm, ⟨3, _⟩ => ⟨S8x4096x6, .f32⟩
  | .hbm, ⟨4, _⟩ => ⟨S4096, .i32⟩
  | .hbm, ⟨5, _⟩ => ⟨S8x6x4096, .f32⟩
  | .hbm, ⟨6, _⟩ => ⟨S8x6x4096x4096, .f32⟩
  | .hbm, ⟨7, _⟩ => ⟨S_, .f32⟩
  | .hbm, ⟨8, _⟩ => ⟨S8x6x4096x4096, .f32⟩
  | .hbm, ⟨9, _⟩ => ⟨S8x6x4096x4096, .f32⟩
  | .hbm, ⟨10, _⟩ => ⟨S8x6x4096x1, .f32⟩
  | .hbm, ⟨11, _⟩ => ⟨S8x6x4096x4096, .f32⟩
  | .hbm, ⟨12, _⟩ => ⟨S8x6x4096x4096, .f32⟩
  | .hbm, ⟨13, _⟩ => ⟨S8x6x1x4096, .f32⟩
  | .hbm, ⟨14, _⟩ => ⟨S8x6x4096x4096, .f32⟩
  | .hbm, ⟨15, _⟩ => ⟨S8x6x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x6x4096x4096, .i1⟩
  | .hbm, ⟨24, _⟩ => ⟨S8x6x4096x4096, .f32⟩
  | .hbm, ⟨25, _⟩ => ⟨S8x6x4096x4096, .f32⟩
  | .hbm, ⟨26, _⟩ => ⟨S_, .f32⟩
  | .hbm, ⟨27, _⟩ => ⟨S8x6x4096, .f32⟩
  | .hbm, ⟨28, _⟩ => ⟨S_, .f32⟩
  | .hbm, ⟨29, _⟩ => ⟨S8x6x4096, .f32⟩
  | .hbm, ⟨30, _⟩ => ⟨S8x6x4096, .f32⟩
  | .hbm, ⟨31, _⟩ => ⟨S8x6x4096x1, .f32⟩
  | .hbm, ⟨32, _⟩ => ⟨S8x6x4096x4096, .f32⟩
  | .hbm, ⟨33, _⟩ => ⟨S8x6x4096x4096, .f32⟩
  | .hbm, ⟨34, _⟩ => ⟨S8x6x4096x4096, .f32⟩
  | .hbm, ⟨35, _⟩ => ⟨S_, .f32⟩
  | .hbm, ⟨36, _⟩ => ⟨S8x6x4096, .f32⟩
  | .hbm, ⟨37, _⟩ => ⟨S8x6x4096x1, .f32⟩
  | .hbm, ⟨38, _⟩ => ⟨S8x6x4096x4096, .f32⟩
  | .hbm, ⟨39, _⟩ => ⟨S8x6x4096x4096, .f32⟩
  | .hbm, ⟨40, _⟩ => ⟨S8x6x64x4096, .f32⟩
  | .hbm, ⟨41, _⟩ => ⟨S8x4096x6x64, .f32⟩
  | .hbm, ⟨42, _⟩ => ⟨S8x4096x384, .f32⟩
  | .hbm, ⟨43, _⟩ => ⟨S8x4096x384, .bf16⟩
  | _, _ => ⟨S8x4096x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Channel.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S32768x1024 : Shape := ⟨2, ![32768, 1024]⟩
abbrev S32768x256 : Shape := ⟨2, ![32768, 256]⟩
abbrev S32768x384 : Shape := ⟨2, ![32768, 384]⟩
abbrev S1x1024 : Shape := ⟨2, ![1, 1024]⟩
abbrev S1x5632 : Shape := ⟨2, ![1, 5632]⟩
abbrev S512x1024 : Shape := ⟨2, ![512, 1024]⟩
abbrev S512x256 : Shape := ⟨2, ![512, 256]⟩
abbrev S512x384 : Shape := ⟨2, ![512, 384]⟩
abbrev S2x520x256 : Shape := ⟨3, ![2, 520, 256]⟩
abbrev S8x5632 : Shape := ⟨2, ![8, 5632]⟩
abbrev S512 : Shape := ⟨1, ![512]⟩
abbrev S512x1 : Shape := ⟨2, ![512, 1]⟩
abbrev S1024x256 : Shape := ⟨2, ![1024, 256]⟩
abbrev S8x256 : Shape := ⟨2, ![8, 256]⟩
abbrev S1x8x256 : Shape := ⟨3, ![1, 8, 256]⟩
abbrev S1x512x256 : Shape := ⟨3, ![1, 512, 256]⟩
abbrev S1x256 : Shape := ⟨2, ![1, 256]⟩

abbrev nBuf : Space → Nat
  | .hbm => 28
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x384, .bf16⟩
  | .hbm, ⟨3, _⟩ => ⟨S8x4096x384, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S8x4096x256, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S32768x1024, .f32⟩
  | .hbm, ⟨15, _⟩ => ⟨S32768x256, .bf16⟩
  | .hbm, ⟨16, _⟩ => ⟨S32768x384, .bf16⟩
  | .hbm, ⟨17, _⟩ => ⟨S32768x384, .bf16⟩
  | .hbm, ⟨18, _⟩ => ⟨S1024x1024, .bf16⟩
  | .hbm, ⟨19, _⟩ => ⟨S1x1024, .f32⟩
  | .hbm, ⟨20, _⟩ => ⟨S1024x5632, .bf16⟩
  | .hbm, ⟨21, _⟩ => ⟨S1x5632, .f32⟩
  | .hbm, ⟨22, _⟩ => ⟨S2816x1024, .bf16⟩
  | .hbm, ⟨23, _⟩ => ⟨S32768x256, .f32⟩
  | .hbm, ⟨24, _⟩ => ⟨S1x1024, .f32⟩
  | .hbm, ⟨25, _⟩ => ⟨S1024x1024, .bf16⟩
  | .hbm, ⟨26, _⟩ => ⟨S256x1024, .bf16⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S512x256, .f32⟩
  | .local _ .vmem, ⟨15, _⟩ => ⟨S512x256, .f32⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S2x520x256, .f32⟩
  | .local _ .vmem, ⟨24, _⟩ => ⟨S8x5632, .f32⟩
  | .local _ .vmem, ⟨25, _⟩ => ⟨S512x1024, .f32⟩
  | .local _ .vmem, ⟨26, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ChannelRefIdeal.lean ====
abbrev S8x4096x1024 : Shape := ⟨3, ![8, 4096, 1024]⟩
abbrev S8x4096x256 : Shape := ⟨3, ![8, 4096, 256]⟩
abbrev S8x4096x384 : Shape := ⟨3, ![8, 4096, 384]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x384, .bf16⟩
  | .hbm, ⟨3, _⟩ => ⟨S8x4096x384, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S8x4096x256, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S8x4096x1024, .bf16⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x4096x5632, .f32⟩
  | .hbm, ⟨35, _⟩ => ⟨S_, .i32⟩
  | .hbm, ⟨36, _⟩ => ⟨S_, .f32⟩
  | .hbm, ⟨37, _⟩ => ⟨S8x4098x5632, .f32⟩
  | .hbm, ⟨38, _⟩ => ⟨S1x5632, .f32⟩
  | .hbm, ⟨39, _⟩ => ⟨S5632, .f32⟩
  | .hbm, ⟨40, _⟩ => ⟨S8x4096x5632, .f32⟩
  | .hbm, ⟨41, _⟩ => ⟨S1x1x5632, .f32⟩
  | .hbm, ⟨42, _⟩ => ⟨S8x4096x5632, .f32⟩
  | .hbm, ⟨43, _⟩ => ⟨S8x4096x5632, .f32⟩
  | .hbm, ⟨44, _⟩ => ⟨S1x1x5632, .f32⟩
  | .hbm, ⟨45, _⟩ => ⟨S8x4096x5632, .f32⟩
  | .hbm, ⟨46, _⟩ => ⟨S8x4096x5632, .f32⟩
  | .hbm, ⟨47, _⟩ => ⟨S1x5632, .f32⟩
  | .hbm, ⟨48, _⟩ => ⟨S5632, .f32⟩
  | .hbm, ⟨49, _⟩ => ⟨S8x4096x5632, .f32⟩
  | .hbm, ⟨50, _⟩ => ⟨S1x1x5632, .f32⟩
  | .hbm, ⟨51, _⟩ => ⟨S8x4096x5632, .f32⟩
  | .hbm, ⟨52, _⟩ => ⟨S8x4096x5632, .f32⟩
  | .hbm, ⟨53, _⟩ => ⟨S8x4096x5632, .f32⟩
  | .hbm, ⟨54, _⟩ => ⟨S1x5632, .f32⟩
  | .hbm, ⟨55, _⟩ => ⟨S5632, .f32⟩
  | .hbm, ⟨56, _⟩ => ⟨S8x4096x5632, .f32⟩
  | .hbm, ⟨57, _⟩ => ⟨S1x1x5632, .f32⟩
  | .hbm, ⟨58, _⟩ => ⟨S8x4096x5632, .f32⟩
  | .hbm, ⟨59, _⟩ => ⟨S8x4096x5632, .f32⟩
  | .hbm, ⟨60, _⟩ => ⟨S8x4096x5632, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S_, .f32⟩
  | .hbm, ⟨66, _⟩ => ⟨S8x4096x2816, .f32⟩
  | .hbm, ⟨67, _⟩ => ⟨S8x4096x2816, .f32⟩
  | .hbm, ⟨68, _⟩ => ⟨S_, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x1, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S_, .f32⟩
  | .hbm, ⟨95, _⟩ => ⟨S8x4096x1024, .f32⟩
  | .hbm, ⟨96, _⟩ => ⟨S8x4096x1024, .f32⟩
  | .hbm, ⟨97, _⟩ => ⟨S_, .f32⟩
  | .hbm, ⟨98, _⟩ => ⟨S8x4096x1024, .f32⟩
  | .hbm, ⟨99, _⟩ => ⟨S8x4096x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_call0_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_2 : Ref sig .tc := ⟨.hbm, 76, rfl⟩
abbrev main_v49 : Ref sig .tc := ⟨.hbm, 77, rfl⟩
abbrev main_v50 : Ref sig .tc := ⟨.hbm, 78, rfl⟩
abbrev main_cst_3 : Ref sig .tc := ⟨.hbm, 79, rfl⟩
abbrev main_v51 : Ref sig .tc := ⟨.hbm, 80, rfl⟩
abbrev main_v52 : Ref sig .tc := ⟨.hbm, 81, rfl⟩
abbrev main_cst_4 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_v65 : Ref sig .tc := ⟨.hbm, 96, rfl⟩
abbrev main_cst_6 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Diff.lean ====
abbrev S8x4096x4x64 : Shape := ⟨4, ![8, 4096, 4, 64]⟩
abbrev S4x64 : Shape := ⟨2, ![4, 64]⟩
abbrev S64 : Shape := ⟨1, ![64]⟩
abbrev S_ : Shape := ⟨0, ![]⟩
abbrev S8x4096x1536 : Shape := ⟨3, ![8, 4096, 1536]⟩
abbrev S8x4096x768 : Shape := ⟨3, ![8, 4096, 768]⟩
abbrev S8x4096x256 : Shape := ⟨3, ![8, 4096, 256]⟩
abbrev S8x4096x3584 : Shape := ⟨3, ![8, 4096, 3584]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x512x128 : Shape := ⟨3, ![1, 512, 128]⟩
abbrev S1x4096x128 : Shape := ⟨3, ![1, 4096, 128]⟩
abbrev S512x128 : Shape := ⟨2, ![512, 128]⟩
abbrev S512x1 : Shape := ⟨2, ![512, 1]⟩
abbrev S1 : Shape := ⟨1, ![1]⟩
abbrev S1x1 : Shape := ⟨2, ![1, 1]⟩
abbrev S1x1024x128 : Shape := ⟨3, ![1, 1024, 128]⟩
abbrev S1024x128 : Shape := ⟨2, ![1024, 128]⟩
abbrev S1x1024 : Shape := ⟨2, ![1, 1024]⟩
abbrev S512x1024 : Shape := ⟨2, ![512, 1024]⟩
abbrev S512 : Shape := ⟨1, ![512]⟩
abbrev S1x512 : Shape := ⟨2, ![1, 512]⟩
abbrev S512x512 : Shape := ⟨2, ![512, 512]⟩

abbrev nBuf : Space → Nat
  | .hbm => 27
  | .vmem => 14
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x64, .f32⟩
  | .hbm, ⟨3, _⟩ => ⟨S8x4096x4x64, .f32⟩
  | .hbm, ⟨4, _⟩ => ⟨S8x4096x4x64, .f32⟩
  | .hbm, ⟨5, _⟩ => ⟨S4x64, .f32⟩
  | .hbm, ⟨6, _⟩ => ⟨S64, .f32⟩
  | .hbm, ⟨7, _⟩ => ⟨S_, .bf16⟩
  | .hbm, ⟨8, _⟩ => ⟨S8x4096x1536, .bf16⟩
  | .hbm, ⟨9, _⟩ => ⟨S_, .bf16⟩
  | .hbm, ⟨10, _⟩ => ⟨S8x4096x768, .bf16⟩
  | .hbm, ⟨11, _⟩ => ⟨S8x4096x256, .f32⟩
  | .hbm, ⟨12, _⟩ => ⟨S8x4096x256, .bf16⟩
  | .hbm, ⟨13, _⟩ => ⟨S8x4096x256, .f32⟩
  | .hbm, ⟨14, _⟩ => ⟨S8x4096x256, .bf16⟩
  | .hbm, ⟨15, _⟩ => ⟨S8x4096x256, .f32⟩
  | .hbm, ⟨16, _⟩ => ⟨S8x4096x256, .bf16⟩
  | .hbm, ⟨17, _⟩ => ⟨S8x4096x256, .f32⟩
  | .hbm, ⟨18, _⟩ => ⟨S8x4096x256, .bf16⟩
  | .hbm, ⟨19, _⟩ => ⟨S8x4096x256, .f32⟩
  | .hbm, ⟨20, _⟩ => ⟨S8x4096x256, .bf16⟩
  | .hbm, ⟨21, _⟩ => ⟨S8x4096x3584, .bf16⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S1x128, .f32⟩
  | .hbm, ⟨26, _⟩ => ⟨S8x4096x256, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S4x64, .f32⟩
  | .local _ .vmem, ⟨11, _⟩ => ⟨S1x128, .f32⟩
  | .local _ .vmem, ⟨12, _⟩ => ⟨S1x512x128, .bf16⟩
  | .local _ .vmem, ⟨13, _⟩ => ⟨S1x512x128, .bf16⟩
  | _, _ => ⟨S8x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 2, 8], ![false, false, false]⟩

@[reducible] def k0_t1_loop (i : grid0.Coords) : Scf.Loop 32 :=
  let c0_i32_47 : BitVec 32 := 0#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v119 : BitVec 32 := Scalar.subi v110 c0_i32_47
  let c1_i32_48 : BitVec 32 := 1#32
  let v121 : BitVec 32 := Scalar.divsi v119 c1_i32_48
  let v122 : BitVec 32 := Scalar.muli v121 c1_i32_48
  let v123 : BitVec 32 := Scalar.addi c0_i32_47 v122
  let c1_i32_49 : BitVec 32 := 1#32
  ⟨c0_i32_47, v123, c1_i32_49⟩
def k0_mult1 (i : grid0.Coords) (k0_t1 : Fin (k0_t1_loop i).trips) : BitVec 32 :=
  let c0_i32_47 : BitVec 32 := 0#32
  let c1_i32_49 : BitVec 32 := 1#32
  let arg11 : BitVec 32 := Scf.iv c0_i32_47 c1_i32_49 k0_t1
  let c1024_i32 : BitVec 32 := 1024#32
  let v524 : BitVec 32 := Scalar.muli arg11 c1024_i32
  v524
def k0_off1 (i : grid0.Coords) (k0_t1 : Fin (k0_t1_loop i).trips) : Fin 3 → Nat :=
  let c0_162 : Index := 0#32
  let c0_i32_47 : BitVec 32 := 0#32
  let c1_i32_49 : BitVec 32 := 1#32
  let arg11 : BitVec 32 := Scf.iv c0_i32_47 c1_i32_49 k0_t1
  let c1024_i32 : BitVec 32 := 1024#32
  let v524 : BitVec 32 := Scalar.muli arg11 c1024_i32
  let v525 : BitVec 32 := v524
  let v526 : Index := Scalar.indexCast v525
  let c0_163 : Index := 0#32
  ![0, v526.toNat, 0]
@[reducible] def k0_t2_loop (i : grid0.Coords) : Scf.Loop 32 :=
  let c0_i32_47 : BitVec 32 := 0#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v119 : BitVec 32 := Scalar.subi v110 c0_i32_47
  let c1_i32_48 : BitVec 32 := 1#32
  let v121 : BitVec 32 := Scalar.divsi v119 c1_i32_48
  let v122 : BitVec 32 := Scalar.muli v121 c1_i32_48
  let v123 : BitVec 32 := Scalar.addi c0_i32_47 v122
  let v120 : BitVec 32 := Scalar.addi c0_i32_47 v119
  let c1_i32_50 : BitVec 32 := 1#32
  ⟨v123, v120, c1_i32_50⟩
def k0_mult2 (i : grid0.Coords) (k0_t2 : Fin (k0_t2_loop i).trips) : BitVec 32 :=
  let c0_i32_47 : BitVec 32 := 0#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v119 : BitVec 32 := Scalar.subi v110 c0_i32_47
  let c1_i32_48 : BitVec 32 := 1#32
  let v121 : BitVec 32 := Scalar.divsi v119 c1_i32_48
  let v122 : BitVec 32 := Scalar.muli v121 c1_i32_48
  let v123 : BitVec 32 := Scalar.addi c0_i32_47 v122
  let c1_i32_50 : BitVec 32 := 1#32
  let arg11 : BitVec 32 := Scf.iv v123 c1_i32_50 k0_t2
  let c1024_i32 : BitVec 32 := 1024#32
  let v524 : BitVec 32 := Scalar.muli arg11 c1024_i32
  v524
def k0_off2 (i : grid0.Coords) (k0_t2 : Fin (k0_t2_loop i).trips) : Fin 3 → Nat :=
  let c0_162 : Index := 0#32
  let c0_i32_47 : BitVec 32 := 0#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v119 : BitVec 32 := Scalar.subi v110 c0_i32_47
  let c1_i32_48 : BitVec 32 := 1#32
  let v121 : BitVec 32 := Scalar.divsi v119 c1_i32_48
  let v122 : BitVec 32 := Scalar.muli v121 c1_i32_48
  let v123 : BitVec 32 := Scalar.addi c0_i32_47 v122
  let c1_i32_50 : BitVec 32 := 1#32
  let arg11 : BitVec 32 := Scf.iv v123 c1_i32_50 k0_t2
  let c1024_i32 : BitVec 32 := 1024#32
  let v524 : BitVec 32 := Scalar.muli arg11 c1024_i32
  let v525 : BitVec 32 := v524
  let v526 : Index := Scalar.indexCast v525
  let c0_163 : Index := 0#32
  ![0, v526.toNat, 0]
@[reducible] def k0_t3_loop (i : grid0.Coords) : Scf.Loop 32 :=
  let c2_i32_51 : BitVec 32 := 2#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v126 : BitVec 32 := Scalar.muli c2_i32_51 v110
  let v127 : BitVec 32 := Scalar.subi v33 v126
  let c1_i32_52 : BitVec 32 := 1#32
  let v129 : BitVec 32 := Scalar.divsi v127 c1_i32_52
  let v130 : BitVec 32 := Scalar.muli v129 c1_i32_52
  let v131 : BitVec 32 := Scalar.addi v126 v130
  let c1_i32_53 : BitVec 32 := 1#32
  ⟨v126, v131, c1_i32_53⟩
def k0_mult3 (i : grid0.Coords) (k0_t3 : Fin (k0_t3_loop i).trips) : BitVec 32 :=
  let c2_i32_51 : BitVec 32 := 2#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v126 : BitVec 32 := Scalar.muli c2_i32_51 v110
  let c1_i32_53 : BitVec 32 := 1#32
  let arg11 : BitVec 32 := Scf.iv v126 c1_i32_53 k0_t3
  let c512_i32_162 : BitVec 32 := 512#32
  let v524 : BitVec 32 := Scalar.muli arg11 c512_i32_162
  v524
def k0_off3 (i : grid0.Coords) (k0_t3 : Fin (k0_t3_loop i).trips) : Fin 3 → Nat :=
  let c0_163 : Index := 0#32
  let c2_i32_51 : BitVec 32 := 2#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v126 : BitVec 32 := Scalar.muli c2_i32_51 v110
  let c1_i32_53 : BitVec 32 := 1#32
  let arg11 : BitVec 32 := Scf.iv v126 c1_i32_53 k0_t3
  let c512_i32_162 : BitVec 32 := 512#32
  let v524 : BitVec 32 := Scalar.muli arg11 c512_i32_162
  let v525 : BitVec 32 := v524
  let v526 : Index := Scalar.indexCast v525
  let c0_164 : Index := 0#32
  ![0, v526.toNat, 0]
@[reducible] def k0_t4_loop (i : grid0.Coords) : Scf.Loop 32 :=
  let c2_i32_51 : BitVec 32 := 2#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v126 : BitVec 32 := Scalar.muli c2_i32_51 v110
  let v127 : BitVec 32 := Scalar.subi v33 v126
  let c1_i32_52 : BitVec 32 := 1#32
  let v129 : BitVec 32 := Scalar.divsi v127 c1_i32_52
  let v130 : BitVec 32 := Scalar.muli v129 c1_i32_52
  let v131 : BitVec 32 := Scalar.addi v126 v130
  let v128 : BitVec 32 := Scalar.addi v126 v127
  let c1_i32_54 : BitVec 32 := 1#32
  ⟨v131, v128, c1_i32_54⟩
def k0_mult4 (i : grid0.Coords) (k0_t4 : Fin (k0_t4_loop i).trips) : BitVec 32 :=
  let c2_i32_51 : BitVec 32 := 2#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v126 : BitVec 32 := Scalar.muli c2_i32_51 v110
  let v127 : BitVec 32 := Scalar.subi v33 v126
  let c1_i32_52 : BitVec 32 := 1#32
  let v129 : BitVec 32 := Scalar.divsi v127 c1_i32_52
  let v130 : BitVec 32 := Scalar.muli v129 c1_i32_52
  let v131 : BitVec 32 := Scalar.addi v126 v130
  let c1_i32_54 : BitVec 32 := 1#32
  let arg11 : BitVec 32 := Scf.iv v131 c1_i32_54 k0_t4
  let c512_i32_162 : BitVec 32 := 512#32
  let v524 : BitVec 32 := Scalar.muli arg11 c512_i32_162
  v524
def k0_off4 (i : grid0.Coords) (k0_t4 : Fin (k0_t4_loop i).trips) : Fin 3 → Nat :=
  let c0_163 : Index := 0#32
  let c2_i32_51 : BitVec 32 := 2#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c0_i32_33 : BitVec 32 := 0#32
  let v95 : BitVec 1 := Scalar.cmpi .sgt v33 c0_i32_33
  let v96 : BitVec 32 := Scalar.extui v95
  let c0_i32_34 : BitVec 32 := 0#32
  let v97 : BitVec 1 := Scalar.cmpi .slt v33 c0_i32_34
  let v98 : BitVec 32 := Scalar.extui v97
  let v99 : BitVec 32 := Scalar.subi v96 v98
  let c2_i32 : BitVec 32 := 2#32
  let c0_i32_35 : BitVec 32 := 0#32
  let v100 : BitVec 1 := Scalar.cmpi .sgt c2_i32 c0_i32_35
  let v101 : BitVec 32 := Scalar.extui v100
  let c0_i32_36 : BitVec 32 := 0#32
  let v102 : BitVec 1 := Scalar.cmpi .slt c2_i32 c0_i32_36
  let v103 : BitVec 32 := Scalar.extui v102
  let v104 : BitVec 32 := Scalar.subi v101 v103
  let v105 : BitVec 1 := Scalar.cmpi .ne v99 v104
  let v106 : BitVec 32 := Scalar.remsi v33 c2_i32
  let c0_i32_37 : BitVec 32 := 0#32
  let v107 : BitVec 1 := Scalar.cmpi .ne v106 c0_i32_37
  let v108 : BitVec 1 := Scalar.andi v105 v107
  let v94 : BitVec 32 := Scalar.divsi v33 c2_i32
  let c1_i32_38 : BitVec 32 := 1#32
  let v109 : BitVec 32 := Scalar.subi v94 c1_i32_38
  let v110 : BitVec 32 := Scalar.select v108 v109 v94
  let v126 : BitVec 32 := Scalar.muli c2_i32_51 v110
  let v127 : BitVec 32 := Scalar.subi v33 v126
  let c1_i32_52 : BitVec 32 := 1#32
  let v129 : BitVec 32 := Scalar.divsi v127 c1_i32_52
  let v130 : BitVec 32 := Scalar.muli v129 c1_i32_52
  let v131 : BitVec 32 := Scalar.addi v126 v130
  let c1_i32_54 : BitVec 32 := 1#32
  let arg11 : BitVec 32 := Scf.iv v131 c1_i32_54 k0_t4
  let c512_i32_162 : BitVec 32 := 512#32
  let v524 : BitVec 32 := Scalar.muli arg11 c512_i32_162
  let v525 : BitVec 32 := v524
  let v526 : Index := Scalar.indexCast v525
  let c0_164 : Index := 0#32
  ![0, v526.toNat, 0]
def k0_mult5 (i : grid0.Coords) : BitVec 32 :=
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c512_i32_55 : BitVec 32 := 512#32
  let v134 : BitVec 32 := Scalar.muli v33 c512_i32_55
  v134
def k0_off5 (i : grid0.Coords) : Fin 3 → Nat :=
  let c0_56 : Index := 0#32
  let arg2 : BitVec 32 := BitVec.ofNat 32 (i 2).val
  let c512_i32_6 : BitVec 32 := 512#32
  let v16 : BitVec 32 := Scalar.muli arg2 c512_i32_6
  let c0_i32 : BitVec 32 := 0#32
  let v18 : BitVec 1 := Scalar.cmpi .sgt v16 c0_i32
  let v19 : BitVec 32 := Scalar.extui v18
  let c0_i32_8 : BitVec 32 := 0#32
  let v20 : BitVec 1 := Scalar.cmpi .slt v16 c0_i32_8
  let v21 : BitVec 32 := Scalar.extui v20
  let v22 : BitVec 32 := Scalar.subi v19 v21
  let c512_i32_7 : BitVec 32 := 512#32
  let c0_i32_9 : BitVec 32 := 0#32
  let v23 : BitVec 1 := Scalar.cmpi .sgt c512_i32_7 c0_i32_9
  let v24 : BitVec 32 := Scalar.extui v23
  let c0_i32_10 : BitVec 32 := 0#32
  let v25 : BitVec 1 := Scalar.cmpi .slt c512_i32_7 c0_i32_10
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_11 : BitVec 32 := 0#32
  let v30 : BitVec 1 := Scalar.cmpi .ne v29 c0_i32_11
  let v31 : BitVec 1 := Scalar.andi v28 v30
  let v17 : BitVec 32 := Scalar.divsi v16 c512_i32_7
  let c1_i32 : BitVec 32 := 1#32
  let v32 : BitVec 32 := Scalar.subi v17 c1_i32
  let v33 : BitVec 32 := Scalar.select v31 v32 v17
  let c512_i32_55 : BitVec 32 := 512#32
  let v134 : BitVec 32 := Scalar.muli v33 c512_i32_55
  let v135 : BitVec 32 := v134
  let v136 : Index := Scalar.indexCast v135
  let c0_57 : Index := 0#32
  ![0, v136.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffIdeal.lean ====
variable {F : FTy → Type} [FloatOps F] [Named F]
def κ : String → Option EReal := fun
  | "mask" => some ⊥
  | "scale_log2e" => some ((8⁻¹ * (Real.log 2)⁻¹ : ℝ) : EReal)
  | "slope0" => some ((4⁻¹ * (Real.log 2)⁻¹ : ℝ) : EReal)
  | "slope1" => some ((16⁻¹ * (Real.log 2)⁻¹ : ℝ) : EReal)
  | "slope2" => some ((64⁻¹ * (Real.log 2)⁻¹ : ℝ) : EReal)
  | "slope3" => some ((256⁻¹ * (Real.log 2)⁻¹ : ℝ) : EReal)
  | _ => none
-- ==== DiffRefIdeal.lean ====
abbrev S8x4096x4x64 : Shape := ⟨4, ![8, 4096, 4, 64]⟩
abbrev S4x64 : Shape := ⟨2, ![4, 64]⟩
abbrev S64 : Shape := ⟨1, ![64]⟩
abbrev S4 : Shape := ⟨1, ![4]⟩
abbrev S4096 : Shape := ⟨1, ![4096]⟩
abbrev S1x64 : Shape := ⟨2, ![1, 64]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x256 : Shape := ⟨3, ![8, 4096, 256]⟩

abbrev nBuf : Space → Nat
  | .hbm => 160
  | .vmem => 0
  | .smem => 0
  | _ => 0

abbrev hbmTy0_0 (i : Nat) : BufTy := match i % 128 with
  | 0 => ⟨S8x4096x4x64, .f32⟩
  | 1 => ⟨S8x4096x4x64, .f32⟩
  | 2 => ⟨S8x4096x4x64, .f32⟩
  | 3 => ⟨S8x4096x4x64, .f32⟩
  | 4 => ⟨S8x4096x4x64, .f32⟩
  | 5 => ⟨S4x64, .f32⟩
  | 6 => ⟨S64, .f32⟩
  | 7 => ⟨S4, .f32⟩
  | 8 => ⟨S4096, .i32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4096x1, .i32⟩
  | 29 => ⟨S1x4096, .i32⟩
  | 30 => ⟨S4096x4096, .i32⟩
  | 31 => ⟨S4096x4096, .i32⟩
  | 32 => ⟨S4096x4096, .i32⟩
  | 33 => ⟨S4096x4096, .i32⟩
  | 34 => ⟨S4096x4096, .f32⟩
  | 35 => ⟨S4x1x1, .f32⟩
  | 36 => ⟨S4x1x1, .f32⟩
  | 37 => ⟨S1x4096x4096, .f32⟩
  | 38 => ⟨S4x4096x4096, .f32⟩
  | 39 => ⟨S4x4096x4096, .f32⟩
  | 40 => ⟨S4x4096x4096, .f32⟩
  | 41 => ⟨S1x4096, .i32⟩
  | 42 => ⟨S_, .i32⟩
  | 43 => ⟨S_, .i32⟩
  | 44 => ⟨S1x4096, .i32⟩
  | 45 => ⟨S1x4096, .i32⟩
  | 46 => ⟨S1x4096, .i32⟩
  | 47 => ⟨S_, .i32⟩
  | 48 => ⟨S1x4096, .i32⟩
  | 49 => ⟨S1x4096, .i1⟩
  | 50 => ⟨S1x4096, .i32⟩
  | 51 => ⟨S1x4096, .i32⟩
  | 52 => ⟨S_, .i32⟩
  | 53 => ⟨S1x4096, .i32⟩
  | 54 => ⟨S1x4096, .i1⟩
  | 55 => ⟨S1x4096, .i1⟩
  | 56 => ⟨S_, .i32⟩
  | 57 => ⟨S1x4096, .i32⟩
  | 58 => ⟨S1x4096, .i32⟩
  | 59 => ⟨S1x4096, .i32⟩
  | 60 => ⟨S4096x1, .i32⟩
  | 61 => ⟨S_, .i32⟩
  | 62 => ⟨S_, .i32⟩
  | 63 => ⟨S4096x1, .i32⟩
  | 64 => ⟨S4096x1, .i32⟩
  | 65 => ⟨S4096x1, .i32⟩
  | 66 => ⟨S_, .i32⟩
  | 67 => ⟨S4096x1, .i32⟩
  | 68 => ⟨S4096x1, .i1⟩
  | 69 => ⟨S4096x1, .i32⟩
  | 70 => ⟨S4096x1, .i32⟩
  | 71 => ⟨S_, .i32⟩
  | 72 => ⟨S4096x1, .i32⟩
  | 73 => ⟨S4096x1, .i1⟩
  | 74 => ⟨S4096x1, .i1⟩
  | 75 => ⟨S_, .i32⟩
  | 76 => ⟨S4096x1, .i32⟩
  | 77 => ⟨S4096x1, .i32⟩
  | 78 => ⟨S4096x1, .i32⟩
  | 79 => ⟨S4096x4096, .i32⟩
  | 80 => ⟨S4096x4096, .i32⟩
  | 81 => ⟨S4096x4096, .i1⟩
  | 82 => ⟨S8x4x4096x4096, .f32⟩
  | 83 => ⟨S_, .f32⟩
  | 84 => ⟨S8x4x4096x4096, .f32⟩
  | 85 => ⟨S8x4x4096x4096, .f32⟩
  | 86 => ⟨S1x4x4096x4096, .f32⟩
  | 87 => ⟨S8x4x4096x4096, .f32⟩
  | 88 => ⟨S8x4x4096x4096, .f32⟩
  | 89 => ⟨S_, .f32⟩
  | 90 => ⟨S_, .f32⟩
  | 91 => ⟨S8x4x4096x4096, .i1⟩
  | 92 => ⟨S8x4x4096x4096, .f32⟩
  | 93 => ⟨S8x4x4096x4096, .f32⟩
  | 94 => ⟨S_, .f32⟩
  | 95 => ⟨S8x4x4096, .f32⟩
  | 96 => ⟨S_, .f32⟩
  | 97 => ⟨S8x4x4096, .f32⟩
  | 98 => ⟨S8x4x4096, .f32⟩
  | 99 => ⟨S8x4x4096x1, .f32⟩
  | 100 => ⟨S8x4x4096x4096, .f32⟩
  | 101 => ⟨S8x4x4096x4096, .f32⟩
  | 102 => ⟨S8x4x4096x4096, .f32⟩
  | 103 => ⟨S_, .f32⟩
  | 104 => ⟨S8x4x4096, .f32⟩
  | 105 => ⟨S8x4x4096x1, .f32⟩
  | 106 => ⟨S8x4x4096x4096, .f32⟩
  | 107 => ⟨S8x4x4096x4096, .f32⟩
  | 108 => ⟨S8x4x4096x4096, .f32⟩
  | 109 => ⟨S_, .f32⟩
  | 110 => ⟨S8x4x4096x4096, .f32⟩
  | 111 => ⟨S8x4x4096x4096, .f32⟩
  | 112 => ⟨S1x4x4096x4096, .f32⟩
  | 113 => ⟨S8x4x4096x4096, .f32⟩
  | 114 => ⟨S8x4x4096x4096, .f32⟩
  | 115 => ⟨S_, .f32⟩
  | 116 => ⟨S_, .f32⟩
  | 117 => ⟨S8x4x4096x4096, .i1⟩
  | 118 => ⟨S8x4x4096x4096, .f32⟩
  | 119 => ⟨S8x4x4096x4096, .f32⟩
  | 120 => ⟨S_, .f32⟩
  | 121 => ⟨S8x4x4096, .f32⟩
  | 122 => ⟨S_, .f32⟩
  | 123 => ⟨S8x4x4096, .f32⟩
  | 124 => ⟨S8x4x4096, .f32⟩
  | 125 => ⟨S8x4x4096x1, .f32⟩
  | 126 => ⟨S8x4x4096x4096, .f32⟩
  | 127 => ⟨S8x4x4096x4096, .f32⟩
  | _ => ⟨S8x4096x4x64, .f32⟩

abbrev hbmTy0_1 (i : Nat) : BufTy := match i % 128 with
  | 0 => ⟨S8x4x4096x4096, .f32⟩
  | 1 => ⟨S_, .f32⟩
  | 2 => ⟨S8x4x4096, .f32⟩
  | 3 => ⟨S8x4x4096x1, .f32⟩
  | 4 => ⟨S8x4x4096x4096, .f32⟩
  | 5 => ⟨S8x4x4096x4096, .f32⟩
  | 6 => ⟨S8x4x4096x4096, .f32⟩
  | 7 => ⟨S8x4x4096x4096, .f32⟩
  | 8 => ⟨S8x4x4096x4096, .f32⟩
  | 9 => ⟨S8x4x64x4096, .f32⟩
  | 10 => ⟨S8x4096x4x64, .f32⟩
  | 11 => ⟨S8x4096x4x64, .f32⟩
  | 12 => ⟨S_, .f32⟩
  | 13 => ⟨S8x4096x4, .f32⟩
  | 14 => ⟨S8x4096x4x1, .f32⟩
  | 15 => ⟨S_, .f32⟩
  | 16 => ⟨S8x4096x4x1, .f32⟩
  | 17 => ⟨S8x4096x4x1, .f32⟩
  | 18 => ⟨S_, .f32⟩
  | 19 => ⟨S8x4096x4x1, .f32⟩
  | 20 => ⟨S8x4096x4x1, .f32⟩
  | 21 => ⟨S8x4096x4x1, .f32⟩
  | 22 => ⟨S8x4096x4x64, .f32⟩
  | 23 => ⟨S8x4096x4x64, .f32⟩
  | 24 => ⟨S1x1x1x64, .f32⟩
  | 25 => ⟨S8x4096x4x64, .f32⟩
  | 26 => ⟨S8x4096x4x64, .f32⟩
  | 27 => ⟨S_, .f32⟩
  | 28 => ⟨S8x4096x4x64, .f32⟩
  | 29 => ⟨S8x4096x4x64, .f32⟩
  | 30 => ⟨S8x4096x256, .f32⟩
  | 31 => ⟨S8x4096x256, .bf16⟩
  | _ => ⟨S8x4096x4x64, .f32⟩

abbrev hbmTy (i : Nat) : BufTy := match i / 128 with
  | 0 => hbmTy0_0 i
  | 1 => hbmTy0_1 i
  | _ => ⟨S8x4096x4x64, .f32⟩

abbrev bufTy : (tb : Table) → Fin (tcTables nBuf tb) → BufTy
  | .hbm, ⟨i, _⟩ => hbmTy i
  | _, _ => ⟨S8x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v31 : Ref sig .tc := ⟨.hbm, 59, rfl⟩
abbrev main_v32 : Ref sig .tc := ⟨.hbm, 60, rfl⟩
abbrev main_c_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_c : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_0 : Ref sig .tc := ⟨.hbm, 75, rfl⟩
abbrev main_call1_v12 : Ref sig .tc := ⟨.hbm, 76, rfl⟩
abbrev main_call1_v13 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_4 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_5 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v43 : Ref sig .tc := ⟨.hbm, 93, rfl⟩
abbrev main_cst_6 : Ref sig .tc := ⟨.hbm, 94, rfl⟩
abbrev main_v44 : Ref sig .tc := ⟨.hbm, 95, rfl⟩
abbrev main_cst_7 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_8 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_9 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_10 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v61 : Ref sig .tc := ⟨.hbm, 119, rfl⟩
abbrev main_cst_11 : Ref sig .tc := ⟨.hbm, 120, rfl⟩
abbrev main_v62 : Ref sig .tc := ⟨.hbm, 121, rfl⟩
abbrev main_cst_12 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_cst_13 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_14 : Ref sig .tc := ⟨.hbm, 140, rfl⟩
abbrev main_v79 : Ref sig .tc := ⟨.hbm, 141, rfl⟩
abbrev main_v80 : Ref sig .tc := ⟨.hbm, 142, rfl⟩
abbrev main_cst_15 : Ref sig .tc := ⟨.hbm, 143, rfl⟩
abbrev main_v81 : Ref sig .tc := ⟨.hbm, 144, rfl⟩
abbrev main_v82 : Ref sig .tc := ⟨.hbm, 145, rfl⟩
abbrev main_cst_16 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_17 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩

abbrev nD : Nat := 1
abbrev τ : Topo := Topo.v7x

variable {F : FTy → Type} [FloatOps F]
-- ==== Proof.Softmax.lean ====
/- A softmax read block by block, over the extended reals: the state a running maximum and a rescaled sum keep, how one
   more block moves it, and why the quotient at the end is the softmax average whatever maximum was subtracted. -/
module

public import Idealize.ShloMosaic.PureOps.Ideal
public import Mathlib.Data.EReal.Inv

@[expose] public section

noncomputable section

namespace Cert.Softmax

open Idealize.ShloMosaic

/-- A power of two is never negative. -/
theorem exp2_nonneg (x : EReal) : 0 ≤ Ideal.exp2 x := by
  induction x with
  | bot => simp
  | top => simp
  | coe r => rw [Ideal.exp2_coe]; exact_mod_cast (Real.rpow_pos_of_pos two_pos r).le

/-- Below the top, a power of two is finite. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- A nonnegative finite factor goes into a sum. -/
theorem mul_sum {ι : Type*} (t : Finset ι) {c : EReal} (h0 : 0 ≤ c) (h1 : c ≠ ⊤) (f : ι → EReal) :
    c * ∑ i ∈ t, f i = ∑ i ∈ t, c * f i := by
  classical
  induction t using Finset.induction_on with
  | empty => simp
  | insert a t ha ih => rw [Finset.sum_insert ha, Finset.sum_insert ha, EReal.left_distrib_of_nonneg_of_ne_top h0 h1, ih]

/-- Two rescalings in a row are one. -/
theorem exp2_sub_mul {s m n : EReal} (h1 : s ≤ m) (h2 : m ≤ n) (hn : n ≠ ⊤) :
    Ideal.exp2 (m - n) * Ideal.exp2 (s - m) = Ideal.exp2 (s - n) := by
  induction s with
  | bot => rw [EReal.bot_sub, EReal.bot_sub, Ideal.exp2_bot, mul_zero]
  | top => exact absurd (top_le_iff.mp (h1.trans h2)) hn
  | coe s =>
    induction m with
    | bot => exact absurd h1 (by simp)
    | top => exact absurd (top_le_iff.mp h2) hn
    | coe m =>
      induction n with
      | bot => exact absurd h2 (by simp)
      | top => exact absurd rfl hn
      | coe n =>
        rw [← EReal.coe_sub, ← EReal.coe_sub, ← EReal.coe_sub, Ideal.exp2_coe, Ideal.exp2_coe, Ideal.exp2_coe,
          ← EReal.coe_mul]
        congr 1
        show (2 : ℝ) ^ (m - n) * (2 : ℝ) ^ (s - m) = (2 : ℝ) ^ (s - n)
        rw [← Real.rpow_add two_pos]; congr 1; ring

/-- The state after `N` keys of scores `s` and values `v`: the scores' maximum, and the values' sum weighted by the powers
    of two of the scores' distances from it. -/
structure St (s v : ℕ → EReal) (N : ℕ) (m a : EReal) : Prop where
  top : m = (Finset.range N).sup s
  tot : a = ∑ c ∈ Finset.range N, Ideal.exp2 (s c - m) * v c

theorem st_zero (s v : ℕ → EReal) : St s v 0 ⊥ 0 := ⟨by simp, by simp⟩

theorem St.congr {s s' v v' : ℕ → EReal} {N : ℕ} {m a : EReal} (h : St s v N m a) (hs : ∀ c < N, s' c = s c)
    (hv : ∀ c < N, v' c = v c) : St s' v' N m a := by
  obtain ⟨h1, h2⟩ := h
  refine ⟨?_, ?_⟩
  · rw [h1]; exact Finset.sup_congr rfl fun c hc => (hs c (Finset.mem_range.mp hc)).symm
  · rw [h2]; refine Finset.sum_congr rfl fun c hc => ?_
    rw [hs c (Finset.mem_range.mp hc), hv c (Finset.mem_range.mp hc)]

/-- A maximum below a bound that is not the top is not the top. -/
theorem sup_ne_top {s : ℕ → EReal} {N : ℕ} (hs : ∀ c < N, s c ≠ ⊤) : (Finset.range N).sup s ≠ ⊤ := by
  rw [← lt_top_iff_ne_top, Finset.sup_lt_iff bot_lt_top]
  exact fun c hc => lt_top_iff_ne_top.mpr (hs c (Finset.mem_range.mp hc))

/-- ONE MORE BLOCK of `W` keys. -/
theorem St.step {s v : ℕ → EReal} {N W : ℕ} {m a m' : EReal} (h : St s v N m a) (hs : ∀ c < N + W, s c ≠ ⊤)
    (hm : m' = max m ((Finset.range W).sup fun j => s (N + j))) :
    St s v (N + W) m' (Ideal.exp2 (m - m') * a + ∑ j ∈ Finset.range W, Ideal.exp2 (s (N + j) - m') * v (N + j)) := by
  obtain ⟨h1, h2⟩ := h
  have hmax : m' = (Finset.range (N + W)).sup s := by
    rw [hm, h1]
    apply le_antisymm
    · refine max_le (Finset.sup_mono fun c hc => ?_) (Finset.sup_le fun j hj => Finset.le_sup (f := s) ?_)
      · rw [Finset.mem_range] at hc ⊢; omega
      · rw [Finset.mem_range] at hj ⊢; omega
    · refine Finset.sup_le fun c hc => ?_
      rw [Finset.mem_range] at hc
      by_cases hcN : c < N
      · exact le_max_of_le_left (Finset.le_sup (f := s) (Finset.mem_range.mpr hcN))
      · refine le_max_of_le_right ?_
        have := Finset.le_sup (f := fun j => s (N + j)) (Finset.mem_range.mpr (show c - N < W by omega))
        simpa [show N + (c - N) = c by omega] using this
  have hm' : m' ≠ ⊤ := by rw [hmax]; exact sup_ne_top hs
  have hle : m ≤ m' := by rw [hm]; exact le_max_left _ _
  refine ⟨hmax, ?_⟩
  rw [Finset.sum_range_add, h2, mul_sum _ (exp2_nonneg _) (exp2_ne_top ?_)]
  · congr 1
    refine Finset.sum_congr rfl fun c hc => ?_
    rw [← mul_assoc, exp2_sub_mul _ hle hm']
    rw [h1]; exact Finset.le_sup hc
  · intro ht
    have hmt : m ≠ ⊤ := by rw [h1]; exact sup_ne_top fun c hc => hs c (by omega)
    induction m' with
    | bot => rw [le_bot_iff.mp hle] at ht; simp at ht
    | top => exact hm' rfl
    | coe x =>
      induction m with
      | bot => simp at ht
      | top => exact hmt rfl
      | coe y => rw [← EReal.coe_sub] at ht; exact EReal.coe_ne_top _ ht

/-- A maximum folded over a block is the supremum of the scores it reads. -/
theorem fold_max {W N : ℕ} {s : ℕ → EReal} {S : Fin W → EReal} (hS : ∀ j, S j = s (N + j.val)) :
    Finset.univ.fold max ⊥ S = (Finset.range W).sup fun j => s (N + j) := by
  have h1 : Finset.univ.fold max ⊥ S = Finset.univ.sup S := rfl
  rw [h1]
  apply le_antisymm
  · refine Finset.sup_le fun j _ => ?_
    rw [hS]; exact Finset.le_sup (f := fun j => s (N + j)) (Finset.mem_range.mpr j.isLt)
  · refine Finset.sup_le fun j hj => ?_
    have := Finset.le_sup (f := S) (Finset.mem_univ ⟨j, Finset.mem_range.mp hj⟩)
    rwa [hS] at this

/-- One more block, as a kernel's trip computes it: the block's scores `S` and values `V` over its lanes. -/
theorem St.block {s v : ℕ → EReal} {N W : ℕ} {m a : EReal} (h : St s v N m a) {S V : Fin W → EReal} {m' a' : EReal}
    (hs : ∀ c < N + W, s c ≠ ⊤) (hS : ∀ j, S j = s (N + j.val)) (hV : ∀ j, V j = v (N + j.val))
    (hm : m' = max m (Finset.univ.fold max ⊥ S))
    (ha : a' = Ideal.exp2 (m - m') * a + ∑ j : Fin W, Ideal.exp2 (S j - m') * V j) : St s v (N + W) m' a' := by
  rw [fold_max hS] at hm
  have := h.step hs hm
  rw [Finset.sum_range] at this
  simp only [hS, hV] at ha
  rw [ha]; exact this

/-- The quotient of the two sums at the end is the softmax average: the scores in base two are the reference's, shifted by
    `φ` and divided by `log 2`, up to the row's last key, and `⊥` past it; any finite maxima may have been subtracted. -/
theorem average {t s v : ℕ → EReal} {τ : ℕ → ℝ} {r N n : ℕ} (φ m T : ℝ) (hr : r < N) (hN : N ≤ n)
    (ht : ∀ c, t c = if c ≤ r then ((τ c : ℝ) : EReal) else ⊥)
    (hs : ∀ c, s c = if c ≤ r then (((τ c - φ) / Real.log 2 : ℝ) : EReal) else ⊥) :
    Ideal.div (∑ c ∈ Finset.range N, Ideal.exp2 (s c - m) * v c) (∑ c ∈ Finset.range N, Ideal.exp2 (s c - m) * 1)
      = ∑ c ∈ Finset.range n, Ideal.div (Ideal.exp (t c - T)) (∑ j ∈ Finset.range n, Ideal.exp (t j - T)) * v c := by
  have hl : Real.log 2 ≠ 0 := (Real.log_pos one_lt_two).ne'
  set e : ℕ → ℝ := fun c => if c ≤ r then Real.exp (τ c - T) else 0 with he
  set κ : ℝ := Real.exp (T - φ - m * Real.log 2) with hκ
  have hκ0 : 0 < κ := Real.exp_pos _
  have hE : ∀ c, Ideal.exp (t c - T) = (e c : EReal) := by
    intro c; rw [ht]
    by_cases hc : c ≤ r
    · simp only [he, if_pos hc]; rw [← EReal.coe_sub, Ideal.exp_coe]
    · simp only [he, if_neg hc]; rw [EReal.bot_sub, Ideal.exp_bot, EReal.coe_zero]
  have hS : ∀ c, Ideal.exp2 (s c - m) = ((κ * e c : ℝ) : EReal) := by
    intro c; rw [hs]
    by_cases hc : c ≤ r
    · simp only [he, if_pos hc]; rw [← EReal.coe_sub, Ideal.exp2_coe]
      congr 1
      show (2 : ℝ) ^ (_ : ℝ) = _
      rw [Real.rpow_def_of_pos two_pos, hκ, ← Real.exp_add]
      congr 1; field_simp; ring
    · simp only [he, if_neg hc]; rw [EReal.bot_sub, Ideal.exp2_bot, mul_zero, EReal.coe_zero]
  have hcut : ∀ (f : ℕ → EReal), (∀ c, r < c → f c = 0) → ∑ c ∈ Finset.range N, f c = ∑ c ∈ Finset.range n, f c := by
    intro f hf
    refine Finset.sum_subset (fun c hc => ?_) fun c _ hc => hf c ?_
    · rw [Finset.mem_range] at hc ⊢; omega
    · rw [Finset.mem_range] at hc; omega
  have he0 : ∀ c, r < c → e c = 0 := fun c hc => by simp only [he]; rw [if_neg (by omega)]
  have hen : ∀ c, 0 ≤ e c := by
    intro c; simp only [he]; split_ifs
    · exact (Real.exp_pos _).le
    · exact le_rfl
  set L : ℝ := ∑ c ∈ Finset.range n, e c with hL
  have hL0 : 0 < L := by
    refine Finset.sum_pos' (fun c _ => hen c) ⟨0, Finset.mem_range.mpr (by omega), ?_⟩
    simp only [he]; rw [if_pos (Nat.zero_le _)]; exact Real.exp_pos _
  have hcoe : ∀ (f : ℕ → ℝ), ∑ c ∈ Finset.range n, ((f c : ℝ) : EReal) = ((∑ c ∈ Finset.range n, f c : ℝ) : EReal) := by
    intro f
    exact (map_sum (⟨⟨Real.toEReal, rfl⟩, EReal.coe_add⟩ : ℝ →+ EReal) f _).symm
  have hden : ∑ c ∈ Finset.range N, Ideal.exp2 (s c - m) * 1 = ((κ * L : ℝ) : EReal) := by
    simp only [hS, mul_one]
    rw [hcut _ (fun c hc => by rw [he0 c hc, mul_zero, EReal.coe_zero]), hcoe, hL, Finset.mul_sum]
  have hLE : ∑ j ∈ Finset.range n, Ideal.exp (t j - T) = (L : EReal) := by simp only [hE]; rw [hcoe]
  have hnum : ∑ c ∈ Finset.range N, Ideal.exp2 (s c - m) * v c = (κ : EReal) * ∑ c ∈ Finset.range n, (e c : EReal) * v c := by
    simp only [hS, EReal.coe_mul]
    rw [hcut _ (fun c hc => by rw [he0 c hc, EReal.coe_zero, mul_zero, zero_mul]),
      mul_sum _ (by exact_mod_cast hκ0.le) (EReal.coe_ne_top _)]
    exact Finset.sum_congr rfl fun c _ => mul_assoc _ _ _
  rw [hden, hLE, hnum, Ideal.div_coe (mul_pos hκ0 hL0).ne']
  simp only [hE, Ideal.div_coe hL0.ne']
  have : ∀ c, (e c : EReal) * ((1 / L : ℝ) : EReal) * v c = ((1 / L : ℝ) : EReal) * ((e c : EReal) * v c) := by
    intro c; rw [mul_comm (e c : EReal), mul_assoc]
  simp only [this]
  rw [← mul_sum _ (by exact_mod_cast (one_div_pos.mpr hL0).le) (EReal.coe_ne_top _), mul_comm (κ : EReal), mul_assoc,
    ← EReal.coe_mul, mul_comm]
  congr 2
  field_simp

end Cert.Softmax

end
-- ==== Proof.FoxIndex.lean ====
/- Where the forgetting attention's loops and loads stand: how many blocks each loop takes at a query tile, and the
   offsets of every load in closed form, decided over the grid. -/
module

public import proofs.«01_k».proof.Proof.Gen.FoxIdeal.Loops

@[expose] public section

noncomputable section

namespace Cert.FoxIdeal.Index

open Idealize.ShloMosaic

theorem trips1 : ∀ i : grid0.Coords, (k0_t1_loop i).trips = (i 2).val / 2 := by decide +kernel

theorem trips2 : ∀ i : grid0.Coords, (k0_t2_loop i).trips = 0 := by decide +kernel

theorem trips3 : ∀ i : grid0.Coords, (k0_t3_loop i).trips = (i 2).val - 2 * ((i 2).val / 2) := by decide +kernel

theorem trips4 : ∀ i : grid0.Coords, (k0_t4_loop i).trips = 0 := by decide +kernel

theorem off1 : ∀ (i : grid0.Coords) (k : Fin (k0_t1_loop i).trips), k0_off1 i k = ![0, 1024 * k.val, 0] := by
  decide +kernel

theorem off2_0 : ∀ (i : grid0.Coords) (k : Fin (k0_t1_loop i).trips),
    k0_off2 i k 0#32 = ![0, 2 * (i 1).val, 1024 * k.val] := by decide +kernel

theorem off2_1 : ∀ (i : grid0.Coords) (k : Fin (k0_t1_loop i).trips),
    k0_off2 i k 1#32 = ![0, 2 * (i 1).val + 1, 1024 * k.val] := by decide +kernel

theorem off5 : ∀ (i : grid0.Coords) (k : Fin (k0_t3_loop i).trips),
    k0_off5 i k = ![0, 1024 * ((i 2).val / 2) + 512 * k.val, 0] := by decide +kernel

theorem off6_0 : ∀ (i : grid0.Coords) (k : Fin (k0_t3_loop i).trips),
    k0_off6 i k 0#32 = ![0, 2 * (i 1).val, 1024 * ((i 2).val / 2) + 512 * k.val] := by decide +kernel

theorem off6_1 : ∀ (i : grid0.Coords) (k : Fin (k0_t3_loop i).trips),
    k0_off6 i k 1#32 = ![0, 2 * (i 1).val + 1, 1024 * ((i 2).val / 2) + 512 * k.val] := by decide +kernel

/-- The kernel's division of a query tile's first row by the tile size gives the tile's number back. -/
theorem tile_word : ∀ i : grid0.Coords,
    Scalar.select
      (Scalar.andi
        (Scalar.cmpi .ne
          (Scalar.subi (Scalar.extui (Scalar.cmpi .sgt (Scalar.muli (BitVec.ofNat 32 (i 2).val) 512#32) 0#32))
            (Scalar.extui (Scalar.cmpi .slt (Scalar.muli (BitVec.ofNat 32 (i 2).val) 512#32) 0#32)))
          (Scalar.subi (Scalar.extui (Scalar.cmpi .sgt 512#32 0#32)) (Scalar.extui (Scalar.cmpi .slt 512#32 0#32))))
        (Scalar.cmpi .ne (Scalar.remsi (Scalar.muli (BitVec.ofNat 32 (i 2).val) 512#32) 512#32) 0#32))
      (Scalar.subi (Scalar.divsi (Scalar.muli (BitVec.ofNat 32 (i 2).val) 512#32) 512#32) 1#32)
      (Scalar.divsi (Scalar.muli (BitVec.ofNat 32 (i 2).val) 512#32) 512#32)
    = (BitVec.ofNat 32 (i 2).val : BitVec 32) := by decide +kernel

end Cert.FoxIdeal.Index

end
-- ==== Proof.FoxStep.lean ====
/- The forgetting attention's blocks over the extended reals: what a block of keys does to the running maximum and the
   rescaled sums of the two heads of a pair, at the scores and values the launch's input blocks hold. -/
module

public import proofs.«01_k».proof.Proof.Softmax
public import proofs.«01_k».proof.Proof.FoxIndex
public import Idealize.ShloMosaic.Lib.Pipeline.ValueKit
public import Idealize.ShloMosaic.Lib.Pointwise

@[expose] public section

set_option maxRecDepth 16384

noncomputable section

namespace Cert.FoxIdeal.Step

open Idealize.ShloMosaic Idealize.ShloMosaic.TcCoe Cert.FoxIdeal.Gen Cert.FoxIdeal.Index Cert.Softmax

/-- The reciprocal of `log 2`, which turns a natural exponent into one of base two. -/
def lam : EReal := (((Real.log 2)⁻¹ : ℝ) : EReal)

theorem log2e : Named.named (F := Ideal) κ "log2e" (φ := .f32) 0x3FB8AA3B#32 = lam :=
  IdealRules.named_const.ideal_named_scalar _ _ _ _ rfl

theorem mask : Named.named (F := Ideal) κ "mask" (φ := .f32) 0xF149F2CA#32 = (⊥ : EReal) :=
  IdealRules.named_const.ideal_named_scalar _ _ _ _ rfl

theorem ofBits_bot : Ideal.ofBits .f32 0xFF800000#32 = ⊥ := by simp [Ideal.ofBits, Ideal.ieee]

/-- Row `r`'s score against key `c` for the head of row `h` of the forget gates, in base two: the query's product with the
    key less the key's accumulated gate; `⊥` past key `R`. -/
def score (w : FVec Ideal S512x128 .bf16) (K : Vec Ideal S1x4096x128 .bf16) (f : Vec Ideal S1x8x4096 .f32) (h : Fin 8)
    (R : ℕ) (r : Fin 512) (c : ℕ) : EReal :=
  if hc : c ≤ R ∧ c < 4096 then
    ∑ l : Fin 128, w (ix2 r l) * K (ix3 0 ⟨c, hc.2⟩ l) - f (ix3 0 h ⟨c, hc.2⟩) * lam
  else ⊥

/-- Key `c`'s value in lane `l` for the pair's first head: the value itself in the first 64 lanes, a one in lane 64. -/
def val0 (V : Vec Ideal S1x4096x128 .bf16) (l : Fin 128) (c : ℕ) : EReal :=
  if hc : c < 4096 then if l.val < 64 then V (ix3 0 ⟨c, hc⟩ l) else if l.val = 64 then 1 else 0 else 0

/-- … for the second head: the value itself in the last 64 lanes, a one in lane 0. -/
def val1 (V : Vec Ideal S1x4096x128 .bf16) (l : Fin 128) (c : ℕ) : EReal :=
  if hc : c < 4096 then if 64 ≤ l.val then V (ix3 0 ⟨c, hc⟩ l) else if l.val = 0 then 1 else 0 else 0

/-! ## Lane masks -/

theorem lo_lane : ∀ l : Fin 128, IntOp.andi (IntOp.cmpi .sge (BitVec.ofNat 32 l.val) 0#32)
    (IntOp.cmpi .slt (BitVec.ofNat 32 l.val) 64#32) = if l.val < 64 then 1#1 else 0#1 := by decide +kernel

theorem hi_lane : ∀ l : Fin 128, IntOp.andi (IntOp.cmpi .sge (BitVec.ofNat 32 l.val) 64#32)
    (IntOp.cmpi .slt (BitVec.ofNat 32 l.val) 128#32) = if 64 ≤ l.val then 1#1 else 0#1 := by decide +kernel

theorem eq_lane64 : ∀ l : Fin 128, IntOp.cmpi .eq (BitVec.ofNat 32 l.val) 64#32 = if l.val = 64 then 1#1 else 0#1 := by
  decide +kernel

theorem eq_lane0 : ∀ l : Fin 128, IntOp.cmpi .eq (BitVec.ofNat 32 l.val) 0#32 = if l.val = 0 then 1#1 else 0#1 := by
  decide +kernel

theorem select_ite {α : Type} (p : Prop) [Decidable p] (x y : α) :
    Scalar.select (if p then 1#1 else 0#1) x y = if p then x else y := by
  unfold Scalar.select; split <;> simp_all

/-! ## Loads -/

theorem ld_rows1024 (X : Vec Ideal S1x4096x128 .bf16) (off : Fin 3 → ℕ) (n : ℕ) (ho : off = ![0, n, 0]) (hi)
    (j : Fin 1024) (l : Fin 128) (hn : n + j.val < 4096) :
    View.ld X (Rect.unit (s := S1x4096x128) off ![1, 1024, 128] hi) (ix3 0 j l) = X (ix3 0 ⟨n + j.val, hn⟩ l) := by
  subst ho; pointwise; blk_ext

theorem ld_rows512 (X : Vec Ideal S1x4096x128 .bf16) (off : Fin 3 → ℕ) (n : ℕ) (ho : off = ![0, n, 0]) (hi)
    (j : Fin 512) (l : Fin 128) (hn : n + j.val < 4096) :
    View.ld X (Rect.unit (s := S1x4096x128) off ![1, 512, 128] hi) (ix3 0 j l) = X (ix3 0 ⟨n + j.val, hn⟩ l) := by
  subst ho; pointwise; blk_ext

theorem ld_gate1024 (X : Vec Ideal S1x8x4096 .f32) (off : Fin 3 → ℕ) (h n : ℕ) (ho : off = ![0, h, n]) (hi)
    (j : Fin 1024) (hh : h < 8) (hn : n + j.val < 4096) :
    View.ld X (Rect.unit (s := S1x8x4096) off ![1, 1, 1024] hi) (ix3 0 0 j) = X (ix3 0 ⟨h, hh⟩ ⟨n + j.val, hn⟩) := by
  subst ho; pointwise; blk_ext

theorem ld_gate512 (X : Vec Ideal S1x8x4096 .f32) (off : Fin 3 → ℕ) (h n : ℕ) (ho : off = ![0, h, n]) (hi)
    (j : Fin 512) (hh : h < 8) (hn : n + j.val < 4096) :
    View.ld X (Rect.unit (s := S1x8x4096) off ![1, 1, 512] hi) (ix3 0 0 j) = X (ix3 0 ⟨h, hh⟩ ⟨n + j.val, hn⟩) := by
  subst ho; pointwise; blk_ext

/-! ## The payloads of a block of 1024 keys, at an index -/

section Wide

variable (w : FVec Ideal S512x128 .bf16) (K : Vec Ideal S1x1024x128 .bf16) (f : Vec Ideal S1x1x1024 .f32)
  (m : FVec Ideal S512x1 .f32) (a : FVec Ideal S512x128 .f32) (r : Fin 512)

theorem pay5_at (j : Fin 1024) : k0_pay5 w K f (ix2 r j)
    = ∑ l : Fin 128, w (ix2 r l) * K (ix3 0 j l) - f (ix3 0 0 j) * lam := by
  pointwise [k0_pay5, k0_pay2]; rw [log2e]

theorem pay6_at (j : Fin 1024) (l : Fin 128) : k0_pay6 (F := Ideal) K (ix2 j l)
    = if l.val < 64 then K (ix3 0 j l) else if l.val = 64 then 1 else 0 := by
  pointwise [k0_pay6, k0_pay4]; rw [lo_lane, eq_lane64, select_ite, select_ite]

theorem pay7_at : k0_pay7 w m K f (ix2 r 0)
    = max (m (ix2 r 0)) (Finset.univ.fold max ⊥ fun j => k0_pay5 w K f (ix2 r j)) := by
  pointwise [k0_pay7]; rw [ofBits_bot]

theorem pay9_at (l : Fin 128) (s : FVec Ideal S512x1024 .f32) (v : FVec Ideal S1024x128 .bf16) :
    k0_pay9 a s v (k0_pay7 w m K f) (k0_pay8 w m K f) (ix2 r l)
      = Ideal.exp2 (m (ix2 r 0) - k0_pay7 w m K f (ix2 r 0)) * a (ix2 r l)
        + ∑ j : Fin 1024, Ideal.exp2 (s (ix2 r j) - k0_pay7 w m K f (ix2 r 0)) * v (ix2 j l) := by
  pointwise [k0_pay9, k0_pay8]; rfl

theorem pay10_at (j : Fin 1024) : k0_pay10 (k0_pay3 w K) f (ix2 r j)
    = ∑ l : Fin 128, w (ix2 r l) * K (ix3 0 j l) - f (ix3 0 0 j) * lam := by
  pointwise [k0_pay10, k0_pay3, k0_pay2]; rw [log2e]

theorem pay11_at (j : Fin 1024) (l : Fin 128) : k0_pay11 (F := Ideal) (k0_pay4 K) (ix2 j l)
    = if 64 ≤ l.val then K (ix3 0 j l) else if l.val = 0 then 1 else 0 := by
  pointwise [k0_pay11, k0_pay4]; rw [hi_lane, eq_lane0, select_ite, select_ite]

theorem pay12_at (s : FVec Ideal S512x1024 .f32) : k0_pay12 m s f (ix2 r 0)
    = max (m (ix2 r 0)) (Finset.univ.fold max ⊥ fun j => k0_pay10 s f (ix2 r j)) := by
  pointwise [k0_pay12]; rw [ofBits_bot]

theorem pay63_at (l : Fin 128) (s : FVec Ideal S512x1024 .f32) (v : FVec Ideal S1024x128 .bf16) :
    k0_pay63 v (k0_pay13 m s f) (k0_pay14 m a s f) (constant S512x128 .f32 0#32) (ix2 r l)
      = Ideal.exp2 (m (ix2 r 0) - k0_pay12 m s f (ix2 r 0)) * a (ix2 r l)
        + ∑ j : Fin 1024, Ideal.exp2 (k0_pay10 s f (ix2 r j) - k0_pay12 m s f (ix2 r 0)) * v (ix2 j l) := by
  pointwise [k0_pay63, k0_pay13, k0_pay14]; rfl

end Wide

end Cert.FoxIdeal.Step

end
-- ==== Proof.FoxNarrow.lean ====
/- The forgetting attention's blocks of 512 keys at an index, the block on the diagonal, and the quotient at the end. -/
module

public import proofs.«01_k».proof.Proof.FoxStep
public import Idealize.ShloMosaic.Lib.WordCmp

@[expose] public section

set_option maxRecDepth 16384

noncomputable section

namespace Cert.FoxIdeal.Step

open Idealize.ShloMosaic Idealize.ShloMosaic.TcCoe Cert.FoxIdeal.Gen Cert.FoxIdeal.Index Cert.Softmax

/-! ## The payloads of a block of 512 keys, at an index -/

section Narrow

variable (w : FVec Ideal S512x128 .bf16) (K : Vec Ideal S1x512x128 .bf16) (f : Vec Ideal S1x1x512 .f32)
  (m : FVec Ideal S512x1 .f32) (a : FVec Ideal S512x128 .f32) (r : Fin 512)

theorem pay31_at (j : Fin 512) : k0_pay31 w K f (ix2 r j)
    = ∑ l : Fin 128, w (ix2 r l) * K (ix3 0 j l) - f (ix3 0 0 j) * lam := by
  pointwise [k0_pay31, k0_pay28]; rw [log2e]

theorem pay32_at (j : Fin 512) (l : Fin 128) : k0_pay32 (F := Ideal) K (ix2 j l)
    = if l.val < 64 then K (ix3 0 j l) else if l.val = 64 then 1 else 0 := by
  pointwise [k0_pay32, k0_pay30]; rw [lo_lane, eq_lane64, select_ite, select_ite]

theorem pay33_at : k0_pay33 w m K f (ix2 r 0)
    = max (m (ix2 r 0)) (Finset.univ.fold max ⊥ fun j => k0_pay31 w K f (ix2 r j)) := by
  pointwise [k0_pay33]; rw [ofBits_bot]

theorem pay35_at (l : Fin 128) (s : FVec Ideal S512x512 .f32) (v : FVec Ideal S512x128 .bf16) :
    k0_pay35 a s v (k0_pay33 w m K f) (k0_pay34 w m K f) (ix2 r l)
      = Ideal.exp2 (m (ix2 r 0) - k0_pay33 w m K f (ix2 r 0)) * a (ix2 r l)
        + ∑ j : Fin 512, Ideal.exp2 (s (ix2 r j) - k0_pay33 w m K f (ix2 r 0)) * v (ix2 j l) := by
  pointwise [k0_pay35, k0_pay34]; rfl

theorem pay36_at (j : Fin 512) : k0_pay36 (k0_pay29 w K) f (ix2 r j)
    = ∑ l : Fin 128, w (ix2 r l) * K (ix3 0 j l) - f (ix3 0 0 j) * lam := by
  pointwise [k0_pay36, k0_pay29, k0_pay28]; rw [log2e]

theorem pay37_at (j : Fin 512) (l : Fin 128) : k0_pay37 (F := Ideal) (k0_pay30 K) (ix2 j l)
    = if 64 ≤ l.val then K (ix3 0 j l) else if l.val = 0 then 1 else 0 := by
  pointwise [k0_pay37, k0_pay30]; rw [hi_lane, eq_lane0, select_ite, select_ite]

theorem pay38_at (s : FVec Ideal S512x512 .f32) : k0_pay38 m s f (ix2 r 0)
    = max (m (ix2 r 0)) (Finset.univ.fold max ⊥ fun j => k0_pay36 s f (ix2 r j)) := by
  pointwise [k0_pay38]; rw [ofBits_bot]

theorem pay65_at (l : Fin 128) (s : FVec Ideal S512x512 .f32) (v : FVec Ideal S512x128 .bf16) :
    k0_pay65 v (k0_pay39 m s f) (k0_pay40 m a s f) (constant S512x128 .f32 0#32) (ix2 r l)
      = Ideal.exp2 (m (ix2 r 0) - k0_pay38 m s f (ix2 r 0)) * a (ix2 r l)
        + ∑ j : Fin 512, Ideal.exp2 (k0_pay36 s f (ix2 r j) - k0_pay38 m s f (ix2 r 0)) * v (ix2 j l) := by
  pointwise [k0_pay65, k0_pay39, k0_pay40]; rfl

end Narrow

/-! ## The diagonal block -/

section Diag

variable (w : FVec Ideal S512x128 .bf16) (K V : Vec Ideal S1x512x128 .bf16) (f : Vec Ideal S1x1x512 .f32)
  (m : FVec Ideal S512x1 .f32) (a : FVec Ideal S512x128 .f32) (s : FVec Ideal S512x512 .f32) (r : Fin 512)

/-- The mask's comparison of key and row positions, at the words of query tile `q`. -/
theorem causal : ∀ (q : Fin 8) (r j : Fin 512),
    IntOp.cmpi .sle (IntOp.addi (Scalar.muli (BitVec.ofNat 32 q.val) 512#32) (BitVec.ofNat 32 j.val))
      (IntOp.addi (Scalar.muli (BitVec.ofNat 32 q.val) 512#32) (BitVec.ofNat 32 r.val))
    = if j.val ≤ r.val then 1#1 else 0#1 := by
  intro q r j
  have hq := q.isLt
  have hr := r.isLt
  have hj := j.isLt
  rw [show Scalar.muli (BitVec.ofNat 32 q.val) 512#32 = BitVec.ofNat 32 (q.val * 512) from WordCmp.muli_ofNat q.val 512,
    WordCmp.addi_ofNat, WordCmp.addi_ofNat, WordCmp.cmpi_sle_ofNat (by omega) (by omega)]
  by_cases h : j.val ≤ r.val
  · rw [if_pos h, decide_eq_true (by omega)]; rfl
  · rw [if_neg h, decide_eq_false (by omega)]; rfl

theorem pay70_at (i : grid0.Coords) (q : BitVec 32) (hq : q = BitVec.ofNat 32 (i 2).val) (j : Fin 512) :
    k0_pay70 (k0_pay55 i) q w K f (ix2 r j)
      = if j.val ≤ r.val then ∑ l : Fin 128, w (ix2 r l) * K (ix3 0 j l) - f (ix3 0 0 j) * lam else ⊥ := by
  subst hq
  pointwise [k0_pay70, k0_pay67, k0_pay55]
  have := causal (i 2) r j
  rw [this, select_ite, log2e, mask]

theorem pay74_at (i : grid0.Coords) (q : BitVec 32) (hq : q = BitVec.ofNat 32 (i 2).val) (j : Fin 512) :
    k0_pay74 (k0_pay55 i) (Scalar.muli q 512#32) (k0_pay68 w K) f (ix2 r j)
      = if j.val ≤ r.val then ∑ l : Fin 128, w (ix2 r l) * K (ix3 0 j l) - f (ix3 0 0 j) * lam else ⊥ := by
  subst hq
  pointwise [k0_pay74, k0_pay67, k0_pay68, k0_pay55]
  have := causal (i 2) r j
  rw [this, select_ite, log2e, mask]

theorem pay73_at (l : Fin 128) :
    k0_pay73 m a (k0_pay69 V) s k0_pay71 (iota .tc S1x128 32 [1] iota_S1x128_d1_w32) k0_pay72 64#32 (ix2 r l)
      = Ideal.exp2 (m (ix2 r 0) - max (m (ix2 r 0)) (Finset.univ.fold max ⊥ fun j => s (ix2 r j))) * a (ix2 r l)
        + ∑ j : Fin 512, Ideal.exp2 (s (ix2 r j) - max (m (ix2 r 0)) (Finset.univ.fold max ⊥ fun j => s (ix2 r j)))
            * (if l.val < 64 then V (ix3 0 j l) else if l.val = 64 then 1 else 0) := by
  pointwise [k0_pay73, k0_pay69, k0_pay71, k0_pay72]
  rw [ofBits_bot, lo_lane, eq_lane64]; simp only [select_ite]; rfl

theorem pay77_at (l : Fin 128) :
    k0_pay77 m a (k0_pay69 V) s k0_pay75 (iota .tc S1x128 32 [1] iota_S1x128_d1_w32) k0_pay76 (ix2 r l)
      = Ideal.exp2 (m (ix2 r 0) - max (m (ix2 r 0)) (Finset.univ.fold max ⊥ fun j => s (ix2 r j))) * a (ix2 r l)
        + ∑ j : Fin 512, Ideal.exp2 (s (ix2 r j) - max (m (ix2 r 0)) (Finset.univ.fold max ⊥ fun j => s (ix2 r j)))
            * (if 64 ≤ l.val then V (ix3 0 j l) else if l.val = 0 then 1 else 0) := by
  pointwise [k0_pay77, k0_pay69, k0_pay75, k0_pay76]
  rw [ofBits_bot, hi_lane, eq_lane0]; simp only [select_ite]; rfl

end Diag

/-! ## The queries and the result -/

theorem scale : Named.named (F := Ideal) κ "scale_log2e" (φ := .f32) 0x3E38AA3B#32
    = (((8⁻¹ * (Real.log 2)⁻¹ : ℝ)) : EReal) := IdealRules.named_const.ideal_named_scalar _ _ _ _ rfl

theorem pay56_at (x : Vec Ideal S1x512x128 .bf16) (r : Fin 512) (l : Fin 128) : k0_pay56 x (ix2 r l)
    = if l.val < 64 then x (ix3 0 r l) * ((8⁻¹ * (Real.log 2)⁻¹ : ℝ) : EReal) else 0 := by
  pointwise [k0_pay56, k0_pay54]; rw [lo_lane, select_ite, scale]

theorem pay58_at (x : Vec Ideal S1x512x128 .bf16) (r : Fin 512) (l : Fin 128) :
    k0_pay58 (k0_pay54 x) (iota .tc S1x128 32 [1] iota_S1x128_d1_w32) k0_pay57 (ix2 r l)
      = if 64 ≤ l.val then x (ix3 0 r l) * ((8⁻¹ * (Real.log 2)⁻¹ : ℝ) : EReal) else 0 := by
  pointwise [k0_pay58, k0_pay57, k0_pay54]; rw [hi_lane, select_ite, scale]

theorem one_lane (g : Fin 128 → EReal) (n : Fin 128) : ∑ x : Fin 128, (if x.val = n.val then g x else 0) = g n := by
  rw [Finset.sum_eq_single n (fun b _ hb => if_neg fun h => hb (Fin.ext h)) (fun h => absurd (Finset.mem_univ _) h),
    if_pos rfl]

theorem pay78_at (a : FVec Ideal S512x128 .f32) (r : Fin 512) (l : Fin 128) : k0_pay78 a (ix2 r l)
    = if l.val < 64 then Ideal.div (a (ix2 r l)) (a (ix2 r 64)) else 0 := by
  pointwise [k0_pay78]
  simp only [lo_lane, eq_lane64, select_ite]
  rw [show (∑ x : Fin 128, if x.val = 64 then a (ix2 r x) else 0) = a (ix2 r 64) from one_lane (fun x => a (ix2 r x)) 64]

theorem pay1_at (m : FVec Ideal S512x1 .f32) (a : FVec Ideal S512x128 .f32) (v : FVec Ideal S512x128 .bf16)
    (s : FVec Ideal S512x512 .f32) (o : FVec Ideal S1x128 .bf16) (i : IVec S1x128 32) (g : IVec S1x128 1)
    (b : FVec Ideal S512x128 .f32) (r : Fin 512) (l : Fin 128) :
    k0_pay1 (k0_pay77 m a v s o i g) b (k0_pay79 m a v s o i g) (ix3 0 r l)
      = b (ix2 r l) + if 64 ≤ l.val then
          Ideal.div (k0_pay77 m a v s o i g (ix2 r l)) (k0_pay77 m a v s o i g (ix2 r 0)) else 0 := by
  unfold k0_pay79
  generalize k0_pay77 m a v s o i g = x
  pointwise [k0_pay1]
  simp only [hi_lane, eq_lane0, select_ite]
  rw [show (∑ y : Fin 128, if y.val = 0 then x (ix2 r y) else 0) = x (ix2 r 0) from one_lane (fun y => x (ix2 r y)) 0]

end Cert.FoxIdeal.Step

end
-- ==== Proof.FoxTrip.lean ====
/- One trip of each of the forgetting attention's key loops, and the loops whole: the carried maxima and sums stand for
   the keys read so far. -/
module

public import proofs.«01_k».proof.Proof.FoxNarrow

@[expose] public section

set_option maxRecDepth 16384

noncomputable section

namespace Cert.FoxIdeal.Step

open Idealize.ShloMosaic Idealize.ShloMosaic.TcCoe Cert.FoxIdeal.Gen Cert.FoxIdeal.Index Cert.Softmax

/-- What the loops carry: each head's running maximum and its rescaled sums. -/
abbrev Acc := FVec Ideal S512x1 .f32 × FVec Ideal S512x128 .f32 × FVec Ideal S512x1 .f32 × FVec Ideal S512x128 .f32

theorem pair_lt (i : grid0.Coords) : (i 1).val < 3 := (i 1).isLt

theorem tile_lt (i : grid0.Coords) : (i 2).val < 8 := (i 2).isLt

/-- The pair's first head, as a row of the forget gates. -/
def head0 (i : grid0.Coords) : Fin 8 := ⟨2 * (i 1).val, by have := pair_lt i; omega⟩

/-- The pair's second head. -/
def head1 (i : grid0.Coords) : Fin 8 := ⟨2 * (i 1).val + 1, by have := pair_lt i; omega⟩

/-- The carried values stand for the first `N` keys. -/
structure Carried (w0 w1 : FVec Ideal S512x128 .bf16) (K V : Vec Ideal S1x4096x128 .bf16) (f : Vec Ideal S1x8x4096 .f32)
    (i : grid0.Coords) (N : ℕ) (acc : Acc) : Prop where
  lo : ∀ (r : Fin 512) (l : Fin 128), St (score w0 K f (head0 i) (512 * (i 2).val + r.val) r) (val0 V l) N
    (acc.1 (ix2 r 0)) (acc.2.1 (ix2 r l))
  hi : ∀ (r : Fin 512) (l : Fin 128), St (score w1 K f (head1 i) (512 * (i 2).val + r.val) r) (val1 V l) N
    (acc.2.2.1 (ix2 r 0)) (acc.2.2.2 (ix2 r l))

/-- No score of a head is the top. -/
def NoTop (w : FVec Ideal S512x128 .bf16) (K : Vec Ideal S1x4096x128 .bf16) (f : Vec Ideal S1x8x4096 .f32) (h : Fin 8) : Prop :=
  ∀ R r c, score w K f h R r c ≠ ⊤

theorem carried_zero (w0 w1 : FVec Ideal S512x128 .bf16) (K V : Vec Ideal S1x4096x128 .bf16) (f : Vec Ideal S1x8x4096 .f32)
    (i : grid0.Coords) : Carried w0 w1 K V f i 0 (k0_pay59, k0_pay60, k0_pay61, k0_pay62) := by
  have h1 : ∀ r : Fin 512, k0_pay59 (F := Ideal) (ix2 r 0) = (⊥ : EReal) := fun r => by pointwise [k0_pay59]; exact mask
  have h2 : ∀ (r : Fin 512) (l : Fin 128), k0_pay60 (F := Ideal) (ix2 r l) = (0 : EReal) := fun r l => by pointwise [k0_pay60]
  have h3 : ∀ r : Fin 512, k0_pay61 (F := Ideal) (ix2 r 0) = (⊥ : EReal) := fun r => by pointwise [k0_pay61]; exact mask
  have h4 : ∀ (r : Fin 512) (l : Fin 128), k0_pay62 (F := Ideal) (ix2 r l) = (0 : EReal) := fun r l => by pointwise [k0_pay62]
  refine ⟨fun r l => ?_, fun r l => ?_⟩
  · show St _ _ _ (k0_pay59 (F := Ideal) (ix2 r 0)) (k0_pay60 (F := Ideal) (ix2 r l)); rw [h1, h2]; exact st_zero _ _
  · show St _ _ _ (k0_pay61 (F := Ideal) (ix2 r 0)) (k0_pay62 (F := Ideal) (ix2 r l)); rw [h3, h4]; exact st_zero _ _

section Trips

variable (𝒱 : Variants) (c : Dev nD) (bd : Option 𝒱.V) (i : grid0.Coords)
  (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x8x4096 .f32) (harg6 : arg6.IsWhole)
  (arg7 : Memref sig .tc .vmem S1x512x128 .bf16) (harg7 : arg7.IsWhole)
  (arg1 : BitVec 32) (v5 : FVec Ideal S512x128 .bf16) (v27 : BitVec 32) (v37 : FVec Ideal S512x128 .bf16)
  (v38 v39 : IVec S1x128 32) (v73 : BitVec 32)
  (K V : Vec Ideal S1x4096x128 .bf16) (f : Vec Ideal S1x8x4096 .f32)

theorem trip1 (h0 : NoTop v37 K f (head0 i)) (h1 : NoTop (k0_pay58 v5 v38 v39) K f (head1 i))
    (k : Fin (k0_t1_loop i).trips) (acc : Acc)
    (h : Carried v37 (k0_pay58 v5 v38 v39) K V f i (1024 * k.val) acc) :
    Carried v37 (k0_pay58 v5 v38 v39) K V f i (1024 * k.val + 1024)
      (tripR_k0_t1 (F := Ideal) 𝒱 c bd i arg3 harg3 arg4 harg4 arg5 harg5 arg6 harg6 arg7 harg7 arg1 v5 v27 v37 v38 v39
        (harg4.unread K) (harg5.unread V) (harg6.unread f) k acc) := by
  have hk : k.val < (i 2).val / 2 := trips1 i ▸ k.isLt
  have hq := tile_lt i
  have hp := pair_lt i
  unfold tripR_k0_t1 trip_k0_t1
  frame_out
  refine ⟨fun r l => ?_, fun r l => ?_⟩ <;> dsimp only
  · refine (h.lo r l).block (W := 1024) (S := fun j => k0_pay5 v37 _ _ (ix2 r j)) (V := fun j => k0_pay6 (F := Ideal) _ (ix2 j l))
      (fun c _ => h0 _ _ c) (fun j => ?_) (fun j => ?_) (pay7_at _ _ _ _ _) (pay9_at _ _ _ _ _ _ _ _ _)
    · have hj := j.isLt
      rw [pay5_at, score, dif_pos ⟨by omega, by omega⟩, ld_gate1024 _ _ _ _ (off2_0 i k) _ _ (head0 i).isLt]
      refine congrArg₂ _ (Finset.sum_congr rfl fun x _ => ?_) rfl
      rw [ld_rows1024 _ _ _ (off1 i k)]
      omega
    · have hj := j.isLt
      rw [pay6_at, val0, dif_pos (by omega), ld_rows1024 _ _ _ (off1 i k)]
  · refine (h.hi r l).block (W := 1024) (S := fun j => k0_pay10 (k0_pay3 (k0_pay58 v5 v38 v39) _) _ (ix2 r j))
      (V := fun j => k0_pay11 (F := Ideal) (k0_pay4 _) (ix2 j l))
      (fun c _ => h1 _ _ c) (fun j => ?_) (fun j => ?_) (pay12_at _ _ _ _) (pay63_at _ _ _ _ _ _ _)
    · have hj := j.isLt
      rw [pay10_at, score, dif_pos ⟨by omega, by omega⟩, ld_gate1024 _ _ _ _ (off2_1 i k) _ _ (head1 i).isLt]
      refine congrArg₂ _ (Finset.sum_congr rfl fun x _ => ?_) rfl
      rw [ld_rows1024 _ _ _ (off1 i k)]
      omega
    · have hj := j.isLt
      rw [pay11_at, val1, dif_pos (by omega), ld_rows1024 _ _ _ (off1 i k)]

theorem loop1 (h0 : NoTop v37 K f (head0 i)) (h1 : NoTop (k0_pay58 v5 v38 v39) K f (head1 i)) (init : Acc)
    (h : Carried v37 (k0_pay58 v5 v38 v39) K V f i 0 init) (k : ℕ) (hk : k ≤ (k0_t1_loop i).trips) :
    Carried v37 (k0_pay58 v5 v38 v39) K V f i (1024 * k)
      (st_k0_t1 (F := Ideal) 𝒱 c bd i arg3 harg3 arg4 harg4 arg5 harg5 arg6 harg6 arg7 harg7 arg1 v5 v27 v37 v38 v39
        (harg4.unread K) (harg5.unread V) (harg6.unread f) init k) := by
  induction k with
  | zero => rw [st_k0_t1_zero]; exact h
  | succ k ih =>
    have := st_k0_t1_succ (F := Ideal) 𝒱 c bd i arg3 harg3 arg4 harg4 arg5 harg5 arg6 harg6 arg7 harg7 arg1 v5 v27 v37 v38
      v39 (harg4.unread K) (harg5.unread V) (harg6.unread f) init ⟨k, hk⟩
    rw [show (⟨k, hk⟩ : Fin (k0_t1_loop i).trips).val + 1 = k + 1 from rfl] at this
    rw [this]
    exact trip1 𝒱 c bd i arg3 harg3 arg4 harg4 arg5 harg5 arg6 harg6 arg7 harg7 arg1 v5 v27 v37 v38 v39 K V f h0 h1 ⟨k, hk⟩ _
      (ih (by omega))

theorem loop2 (init : Acc) (X4 X5 X6) (n : ℕ) :
    st_k0_t2 (F := Ideal) 𝒱 c bd i arg3 harg3 arg4 harg4 arg5 harg5 arg6 harg6 arg7 harg7 arg1 v5 v27 v37 v38 v39 v73
      X4 X5 X6 init n = init := by
  induction n with
  | zero => rfl
  | succ n ih =>
    rw [st_k0_t2.eq_2, ih]; unfold st_k0_t2Step
    exact dif_neg (by rw [trips2 i]; exact Nat.not_lt_zero _)

variable (v9 : IVec S512x1 32) (v47 : FVec Ideal S512x128 .bf16) (v75_0 : FVec Ideal S512x1 .f32)
  (v75_1 : FVec Ideal S512x128 .f32) (v75_2 : FVec Ideal S512x1 .f32) (v75_3 : FVec Ideal S512x128 .f32)
  (v76 v80 v81 : BitVec 32)

theorem trip3 (h0 : NoTop v37 K f (head0 i)) (h1 : NoTop v47 K f (head1 i))
    (k : Fin (k0_t3_loop i).trips) (acc : Acc)
    (h : Carried v37 v47 K V f i (1024 * ((i 2).val / 2) + 512 * k.val) acc) :
    Carried v37 v47 K V f i (1024 * ((i 2).val / 2) + 512 * k.val + 512)
      (tripR_k0_t3 (F := Ideal) 𝒱 c bd i arg3 harg3 arg4 harg4 arg5 harg5 arg6 harg6 arg7 harg7 arg1 v9 v27 v37 v47 v75_0 v75_1 v75_2 v75_3 v76 v80
        (harg4.unread K) (harg5.unread V) (harg6.unread f) k acc) := by
  have hk : k.val < (i 2).val - 2 * ((i 2).val / 2) := trips3 i ▸ k.isLt
  have hq := tile_lt i
  have hp := pair_lt i
  unfold tripR_k0_t3 trip_k0_t3
  frame_out
  refine ⟨fun r l => ?_, fun r l => ?_⟩ <;> dsimp only
  · refine (h.lo r l).block (W := 512) (S := fun j => k0_pay31 v37 _ _ (ix2 r j)) (V := fun j => k0_pay32 (F := Ideal) _ (ix2 j l))
      (fun c _ => h0 _ _ c) (fun j => ?_) (fun j => ?_) (pay33_at _ _ _ _ _) (pay35_at _ _ _ _ _ _ _ _ _)
    · have hj := j.isLt
      rw [pay31_at, score, dif_pos ⟨by omega, by omega⟩, ld_gate512 _ _ _ _ (off6_0 i k) _ _ (head0 i).isLt]
      refine congrArg₂ _ (Finset.sum_congr rfl fun x _ => ?_) rfl
      rw [ld_rows512 _ _ _ (off5 i k)]
      omega
    · have hj := j.isLt
      rw [pay32_at, val0, dif_pos (by omega), ld_rows512 _ _ _ (off5 i k)]
  · refine (h.hi r l).block (W := 512) (S := fun j => k0_pay36 (k0_pay29 v47 _) _ (ix2 r j))
      (V := fun j => k0_pay37 (F := Ideal) (k0_pay30 _) (ix2 j l))
      (fun c _ => h1 _ _ c) (fun j => ?_) (fun j => ?_) (pay38_at _ _ _ _) (pay65_at _ _ _ _ _ _ _)
    · have hj := j.isLt
      rw [pay36_at, score, dif_pos ⟨by omega, by omega⟩, ld_gate512 _ _ _ _ (off6_1 i k) _ _ (head1 i).isLt]
      refine congrArg₂ _ (Finset.sum_congr rfl fun x _ => ?_) rfl
      rw [ld_rows512 _ _ _ (off5 i k)]
      omega
    · have hj := j.isLt
      rw [pay37_at, val1, dif_pos (by omega), ld_rows512 _ _ _ (off5 i k)]

theorem loop3 (h0 : NoTop v37 K f (head0 i)) (h1 : NoTop v47 K f (head1 i)) (init : Acc)
    (h : Carried v37 v47 K V f i (1024 * ((i 2).val / 2)) init) (k : ℕ) (hk : k ≤ (k0_t3_loop i).trips) :
    Carried v37 v47 K V f i (1024 * ((i 2).val / 2) + 512 * k)
      (st_k0_t3 (F := Ideal) 𝒱 c bd i arg3 harg3 arg4 harg4 arg5 harg5 arg6 harg6 arg7 harg7 arg1 v9 v27 v37 v47 v75_0
        v75_1 v75_2 v75_3 v76 v80 (harg4.unread K) (harg5.unread V) (harg6.unread f) init k) := by
  induction k with
  | zero => rw [st_k0_t3_zero]; exact h
  | succ k ih =>
    have := st_k0_t3_succ (F := Ideal) 𝒱 c bd i arg3 harg3 arg4 harg4 arg5 harg5 arg6 harg6 arg7 harg7 arg1 v9 v27 v37 v47
      v75_0 v75_1 v75_2 v75_3 v76 v80 (harg4.unread K) (harg5.unread V) (harg6.unread f) init ⟨k, hk⟩
    rw [show (⟨k, hk⟩ : Fin (k0_t3_loop i).trips).val + 1 = k + 1 from rfl] at this
    rw [this, Nat.mul_succ, ← Nat.add_assoc]
    exact trip3 𝒱 c bd i arg3 harg3 arg4 harg4 arg5 harg5 arg6 harg6 arg7 harg7 arg1 v27 v37 K V f v9 v47 v75_0 v75_1 v75_2
      v75_3 v76 v80 h0 h1 ⟨k, hk⟩ _ (ih (by omega))

theorem loop4 (init : Acc) (X4 X5 X6) (n : ℕ) :
    st_k0_t4 (F := Ideal) 𝒱 c bd i arg3 harg3 arg4 harg4 arg5 harg5 arg6 harg6 arg7 harg7 arg1 v9 v27 v37 v47 v75_0 v75_1
      v75_2 v75_3 v76 v80 v81 X4 X5 X6 init n = init := by
  induction n with
  | zero => rfl
  | succ n ih =>
    rw [st_k0_t4.eq_2, ih]; unfold st_k0_t4Step
    exact dif_neg (by rw [trips4 i]; exact Nat.not_lt_zero _)

end Trips

end Cert.FoxIdeal.Step

end
-- ==== Proof.FoxOut.lean ====
/- What one grid point of the forgetting attention writes: for each row, each head's weighted sum of values over the sum of
   its weights. -/
module

public import proofs.«01_k».proof.Proof.FoxTrip
public import proofs.«01_k».proof.Proof.Gen.FoxIdeal.Frame

@[expose] public section

set_option maxRecDepth 16384

noncomputable section

namespace Cert.FoxIdeal.Step

open Idealize.ShloMosaic Idealize.ShloMosaic.TcCoe Cert.FoxIdeal.Gen Cert.FoxIdeal.Index Cert.Softmax

variable (c : Dev nD) (i : grid0.Coords)
  (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x8x4096 .f32) (harg6 : arg6.IsWhole)
  (arg7 : Memref sig .tc .vmem S1x512x128 .bf16) (harg7 : arg7.IsWhole)
  (Q : Vec Ideal S1x512x128 .bf16) (K V : Vec Ideal S1x4096x128 .bf16) (f : Vec Ideal S1x8x4096 .f32)

/-- The first head's scaled queries: the block's first 64 lanes, zero elsewhere. -/
abbrev query0 : FVec Ideal S512x128 .bf16 := k0_pay56 Q

/-- The second head's scaled queries: the last 64 lanes. -/
abbrev query1 : FVec Ideal S512x128 .bf16 := k0_pay58 (k0_pay54 Q) (iota .tc S1x128 32 [1] iota_S1x128_d1_w32) k0_pay57

/-- THE DIAGONAL BLOCK closes the first head's pass. -/
theorem diag0 (w0 w1 : FVec Ideal S512x128 .bf16) (acc : Acc) (h : Carried w0 w1 K V f i (512 * (i 2).val) acc)
    (h0 : NoTop w0 K f (head0 i)) (q : BitVec 32) (hw : q = BitVec.ofNat 32 (i 2).val) (h9 h10) (r : Fin 512) (l : Fin 128) :
    St (score w0 K f (head0 i) (512 * (i 2).val + r.val) r) (val0 V l) (512 * (i 2).val + 512)
      (max (acc.1 (ix2 r 0)) (Finset.univ.fold max ⊥ fun j =>
        k0_pay70 (k0_pay55 i) q w0 (View.ld K (Rect.unit (k0_off9 i) ![1, 512, 128] h9))
          (View.ld f (Rect.unit (k0_off10 i 0#32) ![1, 1, 512] h10)) (ix2 r j)))
      (k0_pay73 acc.1 acc.2.1 (k0_pay69 (View.ld V (Rect.unit (k0_off9 i) ![1, 512, 128] h9)))
        (k0_pay70 (k0_pay55 i) q w0 (View.ld K (Rect.unit (k0_off9 i) ![1, 512, 128] h9))
          (View.ld f (Rect.unit (k0_off10 i 0#32) ![1, 1, 512] h10)))
        k0_pay71 (iota Kind.tc S1x128 32 [1] iota_S1x128_d1_w32) k0_pay72 (64#32) (ix2 r l)) := by
  have hq := tile_lt i
  refine (h.lo r l).block (W := 512)
    (S := fun j => k0_pay70 (k0_pay55 i) q w0 (View.ld K (Rect.unit (k0_off9 i) ![1, 512, 128] h9))
      (View.ld f (Rect.unit (k0_off10 i 0#32) ![1, 1, 512] h10)) (ix2 r j))
    (V := fun j => if l.val < 64 then (View.ld V (Rect.unit (k0_off9 i) ![1, 512, 128] h9)) (ix3 0 j l)
      else if l.val = 64 then 1 else 0)
    (fun c _ => h0 _ _ c) (fun j => ?_) (fun j => ?_) rfl (pay73_at _ _ _ _ _ _)
  · have hj := j.isLt
    have hr := r.isLt
    rw [pay70_at _ _ _ _ i q hw, score]
    by_cases hc : j.val ≤ r.val
    · rw [if_pos hc, dif_pos ⟨by omega, by omega⟩, ld_gate512 _ _ _ _ (show k0_off10 i 0#32 = ![0, 2 * (i 1).val + 0, 512 * (i 2).val] from k0_off10_eq i 0) _ _ (head0 i).isLt]
      refine congrArg₂ _ (Finset.sum_congr rfl fun x _ => ?_) rfl
      rw [ld_rows512 _ _ _ (k0_off9_eq i)]
      omega
    · rw [if_neg hc, dif_neg (by omega)]
  · have hj := j.isLt
    rw [val0, dif_pos (by omega), ld_rows512 _ _ _ (k0_off9_eq i)]

/-- … and the second head's. -/
theorem diag1 (w0 w1 : FVec Ideal S512x128 .bf16) (acc : Acc) (h : Carried w0 w1 K V f i (512 * (i 2).val) acc)
    (h1 : NoTop w1 K f (head1 i)) (q : BitVec 32) (hw : q = BitVec.ofNat 32 (i 2).val) (h9 h10) (r : Fin 512) (l : Fin 128) :
    St (score w1 K f (head1 i) (512 * (i 2).val + r.val) r) (val1 V l) (512 * (i 2).val + 512)
      (max (acc.2.2.1 (ix2 r 0)) (Finset.univ.fold max ⊥ fun j =>
        k0_pay74 (k0_pay55 i) (Scalar.muli q 512#32) (k0_pay68 w1 (View.ld K (Rect.unit (k0_off9 i) ![1, 512, 128] h9)))
          (View.ld f (Rect.unit (k0_off10 i 1#32) ![1, 1, 512] h10)) (ix2 r j)))
      (k0_pay77 acc.2.2.1 acc.2.2.2 (k0_pay69 (View.ld V (Rect.unit (k0_off9 i) ![1, 512, 128] h9)))
        (k0_pay74 (k0_pay55 i) (Scalar.muli q 512#32) (k0_pay68 w1 (View.ld K (Rect.unit (k0_off9 i) ![1, 512, 128] h9)))
          (View.ld f (Rect.unit (k0_off10 i 1#32) ![1, 1, 512] h10)))
        k0_pay75 (iota Kind.tc S1x128 32 [1] iota_S1x128_d1_w32) k0_pay76 (ix2 r l)) := by
  have hq := tile_lt i
  refine (h.hi r l).block (W := 512)
    (S := fun j => k0_pay74 (k0_pay55 i) (Scalar.muli q 512#32)
      (k0_pay68 w1 (View.ld K (Rect.unit (k0_off9 i) ![1, 512, 128] h9)))
      (View.ld f (Rect.unit (k0_off10 i 1#32) ![1, 1, 512] h10)) (ix2 r j))
    (V := fun j => if 64 ≤ l.val then (View.ld V (Rect.unit (k0_off9 i) ![1, 512, 128] h9)) (ix3 0 j l)
      else if l.val = 0 then 1 else 0)
    (fun c _ => h1 _ _ c) (fun j => ?_) (fun j => ?_) rfl (pay77_at _ _ _ _ _ _)
  · have hj := j.isLt
    have hr := r.isLt
    rw [pay74_at _ _ _ _ i q hw, score]
    by_cases hc : j.val ≤ r.val
    · rw [if_pos hc, dif_pos ⟨by omega, by omega⟩, ld_gate512 _ _ _ _ (show k0_off10 i 1#32 = ![0, 2 * (i 1).val + 1, 512 * (i 2).val] from k0_off10_eq i 1) _ _ (head1 i).isLt]
      refine congrArg₂ _ (Finset.sum_congr rfl fun x _ => ?_) rfl
      rw [ld_rows512 _ _ _ (k0_off9_eq i)]
      omega
    · rw [if_neg hc, dif_neg (by omega)]
  · have hj := j.isLt
    rw [val1, dif_pos (by omega), ld_rows512 _ _ _ (k0_off9_eq i)]

/-- THE POINT'S BLOCK at row `r` and lane `l`: the two heads side by side, each lane its head's weighted sum of values over
    the weights' own sum. -/
theorem out_at (h0 : NoTop (query0 Q) K f (head0 i)) (h1 : NoTop (query1 Q) K f (head1 i)) (r : Fin 512) (l : Fin 128) :
    ∃ m a b, out0_A_4 c i arg3 harg3 arg4 harg4 arg5 harg5 arg6 harg6 arg7 harg7 Q K V f (ix3 0 r l) = Ideal.div a b ∧
      if l.val < 64 then
        St (score (query0 Q) K f (head0 i) (512 * (i 2).val + r.val) r) (val0 V l) (512 * (i 2).val + 512) m a ∧
        St (score (query0 Q) K f (head0 i) (512 * (i 2).val + r.val) r) (val0 V 64) (512 * (i 2).val + 512) m b
      else
        St (score (query1 Q) K f (head1 i) (512 * (i 2).val + r.val) r) (val1 V l) (512 * (i 2).val + 512) m a ∧
        St (score (query1 Q) K f (head1 i) (512 * (i 2).val + r.val) r) (val1 V 0) (512 * (i 2).val + 512) m b := by
  have hq := tile_lt i
  have hp := pair_lt i
  unfold out0_A_4
  frame_out
  simp only [loop2, loop4]
  generalize hacc : st_k0_t3 (F := Ideal) _ _ _ _ _ _ _ _ _ _ _ _ _ _ _ _ _ _ _ _ _ _ _ _ _ _ _ _ _ _ = acc
  have hC : Carried (query0 Q) (query1 Q) K V f i (512 * (i 2).val) acc := by
    rw [← hacc]
    have e : 512 * (i 2).val = 1024 * ((i 2).val / 2) + 512 * (k0_t3_loop i).trips := by rw [trips3]; omega
    rw [e]
    refine loop3 _ c _ i arg3 harg3 arg4 harg4 arg5 harg5 arg6 harg6 arg7 harg7 _ _ _ K V f _ _ _ _ _ _ _ _ h0 h1 _ ?_ _ le_rfl
    have e1 : 1024 * ((i 2).val / 2) = 1024 * (k0_t1_loop i).trips := by rw [trips1]
    rw [e1]
    exact loop1 _ c _ i arg3 harg3 arg4 harg4 arg5 harg5 arg6 harg6 arg7 harg7 _ _ _ _ _ _ K V f h0 h1 _
      (carried_zero _ _ K V f i) _ le_rfl
  clear hacc
  rw [pay1_at, pay78_at]
  generalize hqq : Scalar.select (Scalar.andi _ _) _ _ = q
  have hw : q = BitVec.ofNat 32 (i 2).val := hqq.symm.trans (tile_word i)
  clear hqq
  by_cases hl : l.val < 64
  · simp only [if_pos hl]
    rw [if_neg (by omega), add_zero]
    exact ⟨_, _, _, rfl, diag0 i K V f _ _ acc hC h0 q hw _ _ r l, diag0 i K V f _ _ acc hC h0 q hw _ _ r 64⟩
  · simp only [if_neg hl]
    rw [if_pos (by omega), zero_add]
    exact ⟨_, _, _, rfl, diag1 i K V f _ _ acc hC h1 q hw _ _ r l, diag1 i K V f _ _ acc hC h1 q hw _ _ r 0⟩

end Cert.FoxIdeal.Step

end
-- ==== Proof.FoxHost.lean ====
/- The forgetting attention's operands: where each block of a grid point lies in the program's arguments, and what its
   precondition says of them. -/
module

public import proofs.«01_k».proof.Proof.Gen.FoxIdeal.Value
public import proofs.«01_k».proof.Pre_finite
public import Idealize.ShloMosaic.Lib.Pipeline.ValueKit
public import Idealize.ShloMosaic.Lib.Pointwise
public import Idealize.ShloMosaic.Lib.ReduceAll
public import Idealize.ShloMosaic.Lib.Claim

@[expose] public section

set_option maxRecDepth 16384

noncomputable section

namespace Cert.FoxIdeal.Operands

open Idealize.ShloMosaic Idealize.ShloMosaic.TcCoe Cert.FoxIdeal Cert.FoxIdeal.Gen

variable (m : (ℓ : Loc nD τ sig) → Buf (Elt Ideal) ℓ) (c : Dev nD)

abbrev qs : FVec Ideal S8x4096x6x64 .f32 := m ((c : Thread nD τ).loc main_arg0)
abbrev ks : FVec Ideal S8x4096x6x64 .f32 := m ((c : Thread nD τ).loc main_arg1)
abbrev vs : FVec Ideal S8x4096x6x64 .f32 := m ((c : Thread nD τ).loc main_arg2)
abbrev fs : FVec Ideal S8x4096x6 .f32 := m ((c : Thread nD τ).loc main_arg3)

theorem idx : ∀ t : Fin cfg0.N,
    win0_0.index t = ![(grid0.coords t 0).val, (grid0.coords t 2).val, 8 + (grid0.coords t 1).val]
    ∧ win0_1.index t = ![(grid0.coords t 0).val, 0, 11 + (grid0.coords t 1).val]
    ∧ win0_2.index t = ![(grid0.coords t 0).val, 0, 22 + (grid0.coords t 1).val]
    ∧ win0_3.index t = ![(grid0.coords t 0).val, 0, 0]
    ∧ win0_4.index t = ![(grid0.coords t 0).val, (grid0.coords t 2).val, (grid0.coords t 1).val] :=
  (by decide +kernel : ∀ t : Fin grid0.N, _)

/-- The joined operand in the queries' lanes. -/
theorem joined_q (b : Fin 8) (r : Fin 4096) (h : Fin 6) (d : Fin 64) (x : Fin 3584) (hx : x.val = 1024 + 64 * h.val + d.val) :
    (V m c main_v8 : FVec Ideal S8x4096x3584 .bf16) (ix3 b r x) = qs m c (ix4 b r h d) := by
  show StableHlo.after [hostOps0, hostOps0_1].flatten (fun b => m (c, b)) (Proc.tc.devRef _) _ = _
  simp only [hostOps0, hostOps0_1, List.flatten_cons, List.flatten_nil, List.append_nil, List.cons_append, List.nil_append]
  after_results_simp
  pointwise
  rw [dif_neg (by omega), dif_pos (by omega)]
  after_results_simp
  pointwise
  refine congrArg₂ (fun x y => qs m c (ix4 b r x y)) (Fin.ext ?_) (Fin.ext ?_)
  · show (x.val - 1024) / 64 = h.val; omega
  · show (x.val - 1024) % 64 = d.val; omega

/-- The joined operand in the keys' lanes. -/
theorem joined_k (b : Fin 8) (r : Fin 4096) (h : Fin 6) (d : Fin 64) (x : Fin 3584) (hx : x.val = 1408 + 64 * h.val + d.val) :
    (V m c main_v8 : FVec Ideal S8x4096x3584 .bf16) (ix3 b r x) = ks m c (ix4 b r h d) := by
  show StableHlo.after [hostOps0, hostOps0_1].flatten (fun b => m (c, b)) (Proc.tc.devRef _) _ = _
  simp only [hostOps0, hostOps0_1, List.flatten_cons, List.flatten_nil, List.append_nil, List.cons_append, List.nil_append]
  after_results_simp
  pointwise
  rw [dif_neg (by omega), dif_neg (by omega), dif_pos (by omega)]
  after_results_simp
  pointwise
  refine congrArg₂ (fun x y => ks m c (ix4 b r x y)) (Fin.ext ?_) (Fin.ext ?_)
  · show (x.val - 1024 - 384) / 64 = h.val; omega
  · show (x.val - 1024 - 384) % 64 = d.val; omega

/-- The joined operand in the values' lanes. -/
theorem joined_v (b : Fin 8) (r : Fin 4096) (h : Fin 6) (d : Fin 64) (x : Fin 3584) (hx : x.val = 2816 + 64 * h.val + d.val) :
    (V m c main_v8 : FVec Ideal S8x4096x3584 .bf16) (ix3 b r x) = vs m c (ix4 b r h d) := by
  show StableHlo.after [hostOps0, hostOps0_1].flatten (fun b => m (c, b)) (Proc.tc.devRef _) _ = _
  simp only [hostOps0, hostOps0_1, List.flatten_cons, List.flatten_nil, List.append_nil, List.cons_append, List.nil_append]
  after_results_simp
  pointwise
  rw [dif_neg (by omega), dif_neg (by omega), dif_neg (by omega), dif_neg (by omega), dif_pos (by omega)]
  after_results_simp
  pointwise
  refine congrArg₂ (fun x y => vs m c (ix4 b r x y)) (Fin.ext ?_) (Fin.ext ?_)
  · show (x.val - 1024 - 384 - 384 - 1024) / 64 = h.val; omega
  · show (x.val - 1024 - 384 - 384 - 1024) % 64 = d.val; omega

/-- The padded gates at a head's row. -/
theorem gate (b : Fin 8) (r : Fin 4096) (h : Fin 6) (x : Fin 8) (hx : x.val = h.val) :
    (V m c main_v10 : FVec Ideal S8x8x4096 .f32) (ix3 b x r) = fs m c (ix3 b r h) := by
  show StableHlo.after [hostOps0, hostOps0_1].flatten (fun b => m (c, b)) (Proc.tc.devRef _) _ = _
  simp only [hostOps0, hostOps0_1, List.flatten_cons, List.flatten_nil, List.append_nil, List.cons_append, List.nil_append]
  after_results_simp
  simp only [StableHlo.TRef.toBuf, StableHlo.TRef.ofBuf, cast_eq]
  pointwise
  have hh := h.isLt
  rw [dif_pos (by omega)]
  exact congrArg (fun x => fs m c (ix3 b r x)) (Fin.ext hx)

/-- The queries' block of a grid point. -/
theorem blk0 (t : Fin cfg0.N) (b : Fin 8) (r : Fin 512) (R : Fin 4096) (h : Fin 6) (d : Fin 64) (l : Fin 128)
    (hb : b.val = (grid0.coords t 0).val) (hR : R.val = 512 * (grid0.coords t 2).val + r.val)
    (hl : 128 * (grid0.coords t 1).val + l.val = 64 * h.val + d.val) :
    (iblk m c 0 t : FVec Ideal S1x512x128 .bf16) (ix3 0 r l) = qs m c (ix4 b R h d) := by
  rw [← joined_q m c b R h d ⟨1024 + 64 * h.val + d.val, by omega⟩ rfl]
  blk_ext [iblk, idx t]

/-- The keys' block. -/
theorem blk1 (t : Fin cfg0.N) (b : Fin 8) (R : Fin 4096) (h : Fin 6) (d : Fin 64) (l : Fin 128)
    (hb : b.val = (grid0.coords t 0).val) (hl : 128 * (grid0.coords t 1).val + l.val = 64 * h.val + d.val) :
    (iblk m c 1 t : FVec Ideal S1x4096x128 .bf16) (ix3 0 R l) = ks m c (ix4 b R h d) := by
  rw [← joined_k m c b R h d ⟨1408 + 64 * h.val + d.val, by omega⟩ rfl]
  blk_ext [iblk, idx t]

/-- The values' block. -/
theorem blk2 (t : Fin cfg0.N) (b : Fin 8) (R : Fin 4096) (h : Fin 6) (d : Fin 64) (l : Fin 128)
    (hb : b.val = (grid0.coords t 0).val) (hl : 128 * (grid0.coords t 1).val + l.val = 64 * h.val + d.val) :
    (iblk m c 2 t : FVec Ideal S1x4096x128 .bf16) (ix3 0 R l) = vs m c (ix4 b R h d) := by
  rw [← joined_v m c b R h d ⟨2816 + 64 * h.val + d.val, by omega⟩ rfl]
  blk_ext [iblk, idx t]

/-- The gates' block. -/
theorem blk3 (t : Fin cfg0.N) (b : Fin 8) (R : Fin 4096) (h : Fin 6) (x : Fin 8)
    (hb : b.val = (grid0.coords t 0).val) (hx : x.val = h.val) :
    (iblk m c 3 t : FVec Ideal S1x8x4096 .f32) (ix3 0 x R) = fs m c (ix3 b R h) := by
  rw [← gate m c b R h x hx]
  blk_ext [iblk, idx t]

/-- A value below the top in magnitude is real. -/
theorem real_of_abs (x : EReal) (h : FloatOps.cmpf (F := Ideal) (φ := .f32) .olt (FloatOps.hostAbsf (F := Ideal) (φ := .f32) x) (Ideal.ofBits .f32 0x7F800000#32) = 1#1) : ∃ r : ℝ, x = r := by
  rw [show Ideal.ofBits .f32 0x7F800000#32 = ⊤ by simp [Ideal.ofBits, Ideal.ieee]] at h
  have h : Ideal.cmp .olt (max x (-x)) ⊤ = 1#1 := h
  induction x with
  | coe r => exact ⟨r, rfl⟩
  | top => simp [Ideal.cmp] at h
  | bot => simp [Ideal.cmp] at h

instance facts : Cert.Pre_finite.Facts where
  bcast_S_S8x4096x6x64 := by decide
  reducesTo_S8x4096x6x64_S_d0_1_2_3 := by decide
  h_S_ := by decide
  bcast_S_S8x4096x6 := by decide
  reducesTo_S8x4096x6_S_d0_1_2 := by decide

/-- THE PRECONDITION: queries, keys and gates are real. -/
theorem real_args (q k v : FVec Ideal S8x4096x6x64 .f32) (F : FVec Ideal S8x4096x6 .f32)
    (h : Cert.Pre_finite.fn (F := Ideal) q k v F = fun _ => 1#1) :
    (∀ i, ∃ r : ℝ, q i = r) ∧ (∀ i, ∃ r : ℝ, k i = r) ∧ ∀ i, ∃ r : ℝ, F i = r := by
  have h := congrFun h ix0
  unfold Cert.Pre_finite.fn at h
  dsimp only at h
  obtain ⟨h, h3⟩ := IntOp.andi_eq_one.mp h
  obtain ⟨h1, h2⟩ := IntOp.andi_eq_one.mp h
  refine ⟨fun i => real_of_abs _ ?_, fun i => real_of_abs _ ?_, fun i => real_of_abs _ ?_⟩
  · exact Host.reduce_andi_all _ _ _ _ _ h1 i
  · exact Host.reduce_andi_all _ _ _ _ _ h2 i
  · exact Host.reduce_andi_all _ _ _ _ _ h3 i

end Cert.FoxIdeal.Operands

end
-- ==== Proof.FoxRef.lean ====
/- The forgetting attention's reference read at an index: one row's softmax over the keys up to it, times the values. -/
module

public import proofs.«01_k».proof.Proof.Gen.FoxRefIdeal.Run
public import Idealize.ShloMosaic.Lib.Pipeline.ValueKit
public import Idealize.ShloMosaic.Lib.Pointwise
public import Idealize.ShloMosaic.Lib.WordCmp

@[expose] public section

set_option maxRecDepth 16384

noncomputable section

namespace Cert.FoxRefIdeal.Soft

open Idealize.ShloMosaic Idealize.ShloMosaic.TcCoe Cert.FoxRefIdeal Cert.FoxRefIdeal.Gen

variable (q k v : FVec Ideal S8x4096x6x64 .f32) (F : FVec Ideal S8x4096x6 .f32)

/-- The masked scores. -/
def scores : FVec Ideal S8x6x4096x4096 .f32 :=
  select (broadcastInDim S8x6x4096x4096 ![2, 3] bcast_S4096x4096_S8x6x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (mulf (Host.dotGeneral dot_S8x4096x6x64_S8x4096x6x64_S8x6x4096x4096_3_3_1_1_02_02 none q k) (broadcastInDim S8x6x4096x4096 ![] bcast_S_S8x6x4096x4096 (constant S_ .f32 0x3E000000#32))) (broadcastInDim S8x6x4096x4096 ![0, 1, 2, 3] bcast_S8x6x4096x1_S8x6x4096x4096_0_1_2_3 (broadcastInDim S8x6x4096x1 ![0, 1, 2] bcast_S8x6x4096_S8x6x4096x1_0_1_2 (transpose S8x6x4096 [0, 2, 1] F transposes_S8x4096x6_S8x6x4096_0_2_1)))) (broadcastInDim S8x6x4096x4096 ![0, 1, 2, 3] bcast_S8x6x1x4096_S8x6x4096x4096_0_1_2_3 (broadcastInDim S8x6x1x4096 ![0, 1, 3] bcast_S8x6x4096_S8x6x1x4096_0_1_3 (transpose S8x6x4096 [0, 2, 1] F transposes_S8x4096x6_S8x6x4096_0_2_1)))) (broadcastInDim S8x6x4096x4096 ![] bcast_S_S8x6x4096x4096 (id (constant S_ .f32 0xFF800000#32)))

/-- A row's largest score. -/
def rowMax (L : FVec Ideal S8x6x4096x4096 .f32) : FVec Ideal S8x6x4096 .f32 :=
  maximumf (broadcastInDim S8x6x4096 ![] bcast_S_S8x6x4096 (constant S_ .f32 0xFF800000#32)) (Host.reduce FloatOps.maximumf L (constant S_ .f32 0xFF800000#32) reducesTo_S8x6x4096x4096_S8x6x4096_d3 h_S_)

/-- The exponentials under a row shift. -/
def expo (L : FVec Ideal S8x6x4096x4096 .f32) (M : FVec Ideal S8x6x4096 .f32) : FVec Ideal S8x6x4096x4096 .f32 :=
  Host.exp (subf L (broadcastInDim S8x6x4096x4096 ![0, 1, 2, 3] bcast_S8x6x4096x1_S8x6x4096x4096_0_1_2_3 (broadcastInDim S8x6x4096x1 ![0, 1, 2] bcast_S8x6x4096_S8x6x4096x1_0_1_2 M)))

/-- The weighted values of normalized exponentials. -/
def mixed (E : FVec Ideal S8x6x4096x4096 .f32) : FVec Ideal S8x4096x384 .bf16 :=
  truncf .bf16 (shapeCast S8x4096x384 (transpose S8x4096x6x64 [0, 3, 1, 2] (Host.dotGeneral dot_S8x4096x6x64_S8x6x4096x4096_S8x6x64x4096_1_3_3_2_02_01 none v (Host.divf E (broadcastInDim S8x6x4096x4096 ![0, 1, 2, 3] bcast_S8x6x4096x1_S8x6x4096x4096_0_1_2_3 (broadcastInDim S8x6x4096x1 ![0, 1, 2] bcast_S8x6x4096_S8x6x4096x1_0_1_2 (Host.reduceAdd E (constant S_ .f32 0x00000000#32) reducesTo_S8x6x4096x4096_S8x6x4096_d3 h_S_))))) transposes_S8x6x64x4096_S8x4096x6x64_0_3_1_2) shapeCasts_S8x4096x6x64_S8x4096x384) bitsLt_bf16_f32

theorem res_eq (m : (ℓ : Loc nD τ sig) → Buf (Elt Ideal) ℓ) (c : Dev nD) :
    Value.res_main_v31 m c = mixed (m ((c.tc : Thread nD τ).loc main_arg2))
      (expo (scores (m ((c.tc : Thread nD τ).loc main_arg0)) (m ((c.tc : Thread nD τ).loc main_arg1)) (m ((c.tc : Thread nD τ).loc main_arg3)))
        (rowMax (scores (m ((c.tc : Thread nD τ).loc main_arg0)) (m ((c.tc : Thread nD τ).loc main_arg1)) (m ((c.tc : Thread nD τ).loc main_arg3))))) := by
  unfold Value.res_main_v31 mixed expo rowMax scores; rfl

theorem expo_at (L : FVec Ideal S8x6x4096x4096 .f32) (M : FVec Ideal S8x6x4096 .f32) (b : Fin 8) (h : Fin 6) (r j : Fin 4096) :
    expo L M (ix4 b h r j) = Ideal.exp (L (ix4 b h r j) - M (ix3 b h r)) := by
  pointwise [expo]

/-- A reduction by maximum is the largest of the elements it runs over and the initial value. -/
theorem reduce_max {s t u : Shape} {axes : List (Fin s.rank)} (x : s.Idx → EReal) (init : u.Idx → EReal)
    (h : s.ReducesTo axes t) (hu : 0 < u.numel) (j : t.Idx) :
    Host.reduce (FloatOps.maximumf (F := Ideal) (φ := .f32)) x init h hu j
      = max (init (Shape.Idx.first hu)) ((Finset.univ.filter fun i => h.drop i = j).sup x) := by
  have e := Host.reduce_eq_fold (max : EReal → EReal → EReal) x init h hu j
  refine e.trans ?_
  generalize (Finset.univ.filter fun i => h.drop i = j) = S
  generalize init (Shape.Idx.first hu) = z
  classical
  induction S using Finset.induction_on with
  | empty => simp
  | insert a S ha ih => rw [Finset.fold_insert ha, ih, Finset.sup_insert, max_left_comm]

/-- A row whose scores are not the top and not all the bottom has a real largest score. -/
theorem rowMax_real (L : FVec Ideal S8x6x4096x4096 .f32) (b : Fin 8) (h : Fin 6) (r : Fin 4096)
    (h1 : ∀ j, L (ix4 b h r j) ≠ ⊤) (h2 : L (ix4 b h r 0) ≠ ⊥) : ∃ T : ℝ, rowMax L (ix3 b h r) = T := by
  have e : rowMax L (ix3 b h r) = max ⊥ (max ⊥ ((Finset.univ.filter fun i =>
      (Shape.ReducesTo.drop reducesTo_S8x6x4096x4096_S8x6x4096_d3 i) = ix3 b h r).sup L)) := by
    unfold rowMax
    rw [maximumf_apply]
    refine congrArg₂ max ?_ ((reduce_max L _ _ _ _).trans (congrArg₂ max ?_ rfl))
    · show Ideal.ofBits .f32 0xFF800000#32 = ⊥
      simp [Ideal.ofBits, Ideal.ieee]
    · show Ideal.ofBits .f32 0xFF800000#32 = ⊥
      simp [Ideal.ofBits, Ideal.ieee]
  rw [bot_sup_eq, bot_sup_eq] at e
  refine ⟨(rowMax L (ix3 b h r)).toReal, (EReal.coe_toReal ?_ ?_).symm⟩
  · rw [e, ← lt_top_iff_ne_top, Finset.sup_lt_iff bot_lt_top]
    intro i hi
    obtain ⟨k, hk⟩ := (Shape.ReducesTo.fiber_r4_a3 reducesTo_S8x6x4096x4096_S8x6x4096_d3 _ i).mp (Finset.mem_filter.mp hi).2
    rw [← hk]
    exact lt_top_iff_ne_top.mpr (h1 k)
  · rw [e, ← bot_lt_iff_ne_bot]
    refine lt_of_lt_of_le (bot_lt_iff_ne_bot.mpr h2) (Finset.le_sup (f := L) (Finset.mem_filter.mpr ⟨Finset.mem_univ _, ?_⟩))
    exact (Shape.ReducesTo.fiber_r4_a3 reducesTo_S8x6x4096x4096_S8x6x4096_d3 _ _).mpr ⟨0, rfl⟩

theorem mixed_lane (E : FVec Ideal S8x6x4096x4096 .f32) (b : Fin 8) (r : Fin 4096) (x : Fin 384) :
    mixed v E (ix3 b r x) = ∑ j : Fin 4096, v (ix4 b j ⟨x.val / 64, by omega⟩ ⟨x.val % 64, by omega⟩) *
      Ideal.div (E (ix4 b ⟨x.val / 64, by omega⟩ r j)) (∑ j : Fin 4096, E (ix4 b ⟨x.val / 64, by omega⟩ r j)) := by
  pointwise [mixed]

theorem mixed_at (E : FVec Ideal S8x6x4096x4096 .f32) (b : Fin 8) (r : Fin 4096) (h : Fin 6) (d : Fin 64) (x : Fin 384)
    (hx : x.val = 64 * h.val + d.val) :
    mixed v E (ix3 b r x) = ∑ j : Fin 4096, Ideal.div (E (ix4 b h r j)) (∑ j : Fin 4096, E (ix4 b h r j)) * v (ix4 b j h d) := by
  have e1 : h = ⟨x.val / 64, by omega⟩ := Fin.ext (by show h.val = x.val / 64; omega)
  have e2 : d = ⟨x.val % 64, by omega⟩ := Fin.ext (by show d.val = x.val % 64; omega)
  rw [mixed_lane, ← e1, ← e2]
  exact Finset.sum_congr rfl fun j _ => mul_comm _ _

theorem scores_at (b : Fin 8) (h : Fin 6) (r j : Fin 4096) :
    scores q k F (ix4 b h r j) = if j.val ≤ r.val then
      (∑ d : Fin 64, q (ix4 b r h d) * k (ix4 b j h d)) * ((8⁻¹ : ℝ) : EReal) + F (ix3 b r h) - F (ix3 b j h) else ⊥ := by
  pointwise [scores]
  have hr := r.isLt
  have hj := j.isLt
  show Scalar.select _ _ (Ideal.ofBits .f32 0xFF800000#32) = _
  rw [show Ideal.ofBits .f32 0xFF800000#32 = ⊥ by simp [Ideal.ofBits, Ideal.ieee],
    show Ideal.ofBits .f32 0x3E000000#32 = ((8⁻¹ : ℝ) : EReal) by
      simp [Ideal.ofBits, Ideal.ieee]; rw [← EReal.coe_mul]; congr 1; norm_num,
    WordCmp.cmpi_sle_ofNat (by omega) (by omega)]
  by_cases h : j.val ≤ r.val
  · rw [if_pos h, decide_eq_true h]; rfl
  · rw [if_neg h, decide_eq_false h]; rfl

end Cert.FoxRefIdeal.Soft

end
-- ==== Proof.FoxValue.lean ====
/- The forgetting attention's result array is its reference's, for real queries, keys and gates. -/
module

public import proofs.«01_k».proof.Proof.FoxOut
public import proofs.«01_k».proof.Proof.FoxHost
public import proofs.«01_k».proof.Proof.FoxRef

@[expose] public section

set_option maxRecDepth 16384

noncomputable section

namespace Cert.FoxIdeal.Final

open Idealize.ShloMosaic Idealize.ShloMosaic.TcCoe Cert.FoxIdeal Cert.FoxIdeal.Gen Cert.FoxIdeal.Step Cert.FoxIdeal.Operands
  Cert.Softmax
open Cert.FoxRefIdeal.Soft (scores rowMax expo mixed scores_at rowMax_real expo_at mixed_at)

/-- A finite sum of reals is real. -/
theorem coe_sum {ι : Type*} (s : Finset ι) (g : ι → ℝ) : ((∑ i ∈ s, g i : ℝ) : EReal) = ∑ i ∈ s, (g i : EReal) :=
  map_sum (⟨⟨Real.toEReal, rfl⟩, EReal.coe_add⟩ : ℝ →+ EReal) g s

/-- A product over 128 lanes with one side masked to the first 64. -/
theorem lanes_lo (w A K : Fin 128 → EReal) (a k : Fin 64 → ℝ) (s : ℝ) (hw : ∀ l, w l = if l.val < 64 then A l * (s : EReal) else 0)
    (hA : ∀ (l : Fin 128) (d : Fin 64), l.val = d.val → A l = a d) (hK : ∀ (l : Fin 128) (d : Fin 64), l.val = d.val → K l = k d) :
    ∑ l, w l * K l = (((∑ d, a d * k d) * s : ℝ) : EReal) := by
  rw [show (∑ l : Fin 128, w l * K l) = ∑ l : Fin (64 + 64), w l * K l from rfl, Fin.sum_univ_add]
  have h2 : ∑ d : Fin 64, w (Fin.natAdd 64 d) * K (Fin.natAdd 64 d) = 0 :=
    Finset.sum_eq_zero fun d _ => by rw [hw, if_neg (by simp), zero_mul]
  rw [h2, add_zero, Finset.sum_mul, coe_sum]
  refine Finset.sum_congr rfl fun d _ => ?_
  rw [hw, if_pos (by simp), hA _ d (by simp), hK _ d (by simp), ← EReal.coe_mul, ← EReal.coe_mul]
  congr 1; ring

/-- … and to the last 64. -/
theorem lanes_hi (w A K : Fin 128 → EReal) (a k : Fin 64 → ℝ) (s : ℝ) (hw : ∀ l, w l = if 64 ≤ l.val then A l * (s : EReal) else 0)
    (hA : ∀ (l : Fin 128) (d : Fin 64), l.val = 64 + d.val → A l = a d)
    (hK : ∀ (l : Fin 128) (d : Fin 64), l.val = 64 + d.val → K l = k d) :
    ∑ l, w l * K l = (((∑ d, a d * k d) * s : ℝ) : EReal) := by
  rw [show (∑ l : Fin 128, w l * K l) = ∑ l : Fin (64 + 64), w l * K l from rfl, Fin.sum_univ_add]
  have h2 : ∑ d : Fin 64, w (Fin.castAdd 64 d) * K (Fin.castAdd 64 d) = 0 :=
    Finset.sum_eq_zero fun d _ => by rw [hw, if_neg (by simp), zero_mul]
  rw [h2, zero_add, Finset.sum_mul, coe_sum]
  refine Finset.sum_congr rfl fun d _ => ?_
  rw [hw, if_pos (by simp), hA _ d rfl, hK _ d rfl, ← EReal.coe_mul, ← EReal.coe_mul]
  congr 1; ring

/-- ONE ROW: the carried sums' quotient is the softmax's weighted sum. -/
theorem row {s v u : ℕ → EReal} {N R : ℕ} {m a b : EReal} {τ : ℕ → ℝ} (φ T : ℝ) (hR : R < N) (hN : N ≤ 4096)
    (hs : ∀ c, s c = if c ≤ R then (((τ c - φ) / Real.log 2 : ℝ) : EReal) else ⊥) (ha : St s v N m a) (hb : St s u N m b)
    (hu : ∀ c < 4096, u c = 1) (L : Fin 4096 → EReal) (hL : ∀ j, L j = if j.val ≤ R then ((τ j.val : ℝ) : EReal) else ⊥)
    (V : Fin 4096 → EReal) (hV : ∀ j, v j.val = V j) :
    Ideal.div a b = ∑ j, Ideal.div (Ideal.exp (L j - T)) (∑ j, Ideal.exp (L j - T)) * V j := by
  have hm1 : m ≠ ⊤ := by
    rw [ha.top]
    refine sup_ne_top fun c _ => ?_
    rw [hs]; split
    · exact EReal.coe_ne_top _
    · exact bot_ne_top
  have hm2 : m ≠ ⊥ := by
    rw [ha.top, ← bot_lt_iff_ne_bot]
    refine lt_of_lt_of_le ?_ (Finset.le_sup (f := s) (Finset.mem_range.mpr (show 0 < N by omega)))
    rw [hs, if_pos (Nat.zero_le _)]
    exact EReal.bot_lt_coe _
  obtain ⟨μ, hμ⟩ : ∃ μ : ℝ, m = μ := ⟨m.toReal, (EReal.coe_toReal hm1 hm2).symm⟩
  rw [ha.tot, (hb.congr (fun _ _ => rfl) (fun c hc => (hu c (by omega)).symm : ∀ c < N, (fun _ => (1 : EReal)) c = u c)).tot, hμ,
    average (t := fun c => if c ≤ R then ((τ c : ℝ) : EReal) else ⊥) φ μ T hR hN (fun _ => rfl) hs, Finset.sum_range,
    Finset.sum_range]
  simp only [← hL, hV]

/-- A real value is its own real part. -/
theorem toReal_of {x : EReal} (h : ∃ r : ℝ, x = r) : x = (x.toReal : EReal) := by
  obtain ⟨r, rfl⟩ := h; rfl

variable (m : (ℓ : Loc nD τ sig) → Buf (Elt Ideal) ℓ) (c : Dev nD)

section Point

variable (hq : ∀ i, ∃ r : ℝ, qs m c i = r) (hk : ∀ i, ∃ r : ℝ, ks m c i = r) (hf : ∀ i, ∃ r : ℝ, fs m c i = r)

/-- The reference's score of key `j` for head `h` of row `R`, as a real. -/
def tau (b : Fin 8) (h : Fin 6) (R : Fin 4096) (j : ℕ) : ℝ :=
  if hj : j < 4096 then (∑ d : Fin 64, (qs m c (ix4 b R h d)).toReal * (ks m c (ix4 b ⟨j, hj⟩ h d)).toReal) * 8⁻¹
    + (fs m c (ix3 b R h)).toReal - (fs m c (ix3 b ⟨j, hj⟩ h)).toReal else 0

include hq hk hf

theorem ref_score (b : Fin 8) (h : Fin 6) (R j : Fin 4096) :
    scores (qs m c) (ks m c) (fs m c) (ix4 b h R j) = if j.val ≤ R.val then ((tau m c b h R j.val : ℝ) : EReal) else ⊥ := by
  rw [scores_at]
  by_cases hj : j.val ≤ R.val
  · rw [if_pos hj, if_pos hj, tau, dif_pos j.isLt]
    rw [toReal_of (hf (ix3 b R h)), toReal_of (hf (ix3 b j h)), EReal.coe_sub, EReal.coe_add, EReal.coe_mul, coe_sum]
    refine congrArg₂ _ (congrArg₂ _ (congrArg₂ _ (Finset.sum_congr rfl fun d _ => ?_) rfl) rfl) rfl
    rw [toReal_of (hq (ix4 b R h d)), toReal_of (hk (ix4 b j h d)), EReal.coe_mul]; rfl
  · rw [if_neg hj, if_neg hj]

theorem score0 (t : Fin cfg0.N) (b : Fin 8) (h : Fin 6) (r : Fin 512) (R : Fin 4096) (hb : b.val = (grid0.coords t 0).val)
    (hh : h.val = 2 * (grid0.coords t 1).val) (hR : R.val = 512 * (grid0.coords t 2).val + r.val) (R' j : ℕ) :
    score (query0 (iblk m c 0 t)) (iblk m c 1 t) (iblk m c 3 t) (head0 (grid0.coords t)) R' r j
      = if j ≤ R' ∧ j < 4096 then (((tau m c b h R j - (fs m c (ix3 b R h)).toReal) / Real.log 2 : ℝ) : EReal) else ⊥ := by
  unfold score
  by_cases hj : j ≤ R' ∧ j < 4096
  · rw [dif_pos hj, if_pos hj, tau, dif_pos hj.2,
      lanes_lo (fun l => query0 (iblk m c 0 t) (ix2 r l)) (fun l => iblk m c 0 t (ix3 0 r l)) (fun l => iblk m c 1 t (ix3 0 ⟨j, hj.2⟩ l))
        (fun d => (qs m c (ix4 b R h d)).toReal) (fun d => (ks m c (ix4 b ⟨j, hj.2⟩ h d)).toReal) _ (fun l => pay56_at _ r l)
        (fun l d e => (blk0 m c t b r R h d l hb hR (by omega)).trans (toReal_of (hq _)))
        (fun l d e => (blk1 m c t b ⟨j, hj.2⟩ h d l hb (by omega)).trans (toReal_of (hk _))),
      blk3 m c t b ⟨j, hj.2⟩ h (head0 (grid0.coords t)) hb hh.symm, lam, toReal_of (hf (ix3 b ⟨j, hj.2⟩ h)),
      ← EReal.coe_mul, ← EReal.coe_sub]
    congr 1
    simp only [EReal.toReal_coe]
    field_simp; ring
  · rw [dif_neg hj, if_neg hj]

theorem score1 (t : Fin cfg0.N) (b : Fin 8) (h : Fin 6) (r : Fin 512) (R : Fin 4096) (hb : b.val = (grid0.coords t 0).val)
    (hh : h.val = 2 * (grid0.coords t 1).val + 1) (hR : R.val = 512 * (grid0.coords t 2).val + r.val) (R' j : ℕ) :
    score (query1 (iblk m c 0 t)) (iblk m c 1 t) (iblk m c 3 t) (head1 (grid0.coords t)) R' r j
      = if j ≤ R' ∧ j < 4096 then (((tau m c b h R j - (fs m c (ix3 b R h)).toReal) / Real.log 2 : ℝ) : EReal) else ⊥ := by
  unfold score
  by_cases hj : j ≤ R' ∧ j < 4096
  · rw [dif_pos hj, if_pos hj, tau, dif_pos hj.2,
      lanes_hi (fun l => query1 (iblk m c 0 t) (ix2 r l)) (fun l => iblk m c 0 t (ix3 0 r l)) (fun l => iblk m c 1 t (ix3 0 ⟨j, hj.2⟩ l))
        (fun d => (qs m c (ix4 b R h d)).toReal) (fun d => (ks m c (ix4 b ⟨j, hj.2⟩ h d)).toReal) _ (fun l => pay58_at _ r l)
        (fun l d e => (blk0 m c t b r R h d l hb hR (by omega)).trans (toReal_of (hq _)))
        (fun l d e => (blk1 m c t b ⟨j, hj.2⟩ h d l hb (by omega)).trans (toReal_of (hk _))),
      blk3 m c t b ⟨j, hj.2⟩ h (head1 (grid0.coords t)) hb hh.symm, lam, toReal_of (hf (ix3 b ⟨j, hj.2⟩ h)),
      ← EReal.coe_mul, ← EReal.coe_sub]
    congr 1
    simp only [EReal.toReal_coe]
    field_simp; ring
  · rw [dif_neg hj, if_neg hj]

/-- POINT `t`'s block is the reference's array where the block lies. -/
theorem point (t : Fin cfg0.N) (b : Fin 8) (r : Fin 512) (l : Fin 128) (R : Fin 4096) (x : Fin 384)
    (hb : b.val = (grid0.coords t 0).val) (hR : R.val = 512 * (grid0.coords t 2).val + r.val)
    (hx : x.val = 128 * (grid0.coords t 1).val + l.val) (arg3 harg3 arg4 harg4 arg5 harg5 arg6 harg6 arg7 harg7) :
    out0_A_4 c (grid0.coords t) arg3 harg3 arg4 harg4 arg5 harg5 arg6 harg6 arg7 harg7 (iblk m c 0 t) (iblk m c 1 t)
        (iblk m c 2 t) (iblk m c 3 t) (ix3 0 r l)
      = mixed (vs m c) (expo (scores (qs m c) (ks m c) (fs m c)) (rowMax (scores (qs m c) (ks m c) (fs m c)))) (ix3 b R x) := by
  have hp := pair_lt (grid0.coords t)
  have ht := tile_lt (grid0.coords t)
  have hb0 : (grid0.coords t 0).val < 8 := (grid0.coords t 0).isLt
  have hr := r.isLt
  have hl' := l.isLt
  have top_of : ∀ {p : Prop} [Decidable p] (y : ℝ), (if p then (y : EReal) else ⊥) ≠ ⊤ := by
    intro p _ y; split
    · exact EReal.coe_ne_top _
    · exact bot_ne_top
  have h0 : NoTop (query0 (iblk m c 0 t)) (iblk m c 1 t) (iblk m c 3 t) (head0 (grid0.coords t)) := fun R' r' j => by
    rw [score0 m c hq hk hf t ⟨(grid0.coords t 0).val, hb0⟩ ⟨2 * (grid0.coords t 1).val, by omega⟩ r'
      ⟨512 * (grid0.coords t 2).val + r'.val, by have := r'.isLt; omega⟩ rfl rfl rfl]
    exact top_of _
  have h1 : NoTop (query1 (iblk m c 0 t)) (iblk m c 1 t) (iblk m c 3 t) (head1 (grid0.coords t)) := fun R' r' j => by
    rw [score1 m c hq hk hf t ⟨(grid0.coords t 0).val, hb0⟩ ⟨2 * (grid0.coords t 1).val + 1, by omega⟩ r'
      ⟨512 * (grid0.coords t 2).val + r'.val, by have := r'.isLt; omega⟩ rfl rfl rfl]
    exact top_of _
  obtain ⟨μ, a, d, e, hst⟩ := out_at c (grid0.coords t) arg3 harg3 arg4 harg4 arg5 harg5 arg6 harg6 arg7 harg7 (iblk m c 0 t)
    (iblk m c 1 t) (iblk m c 2 t) (iblk m c 3 t) h0 h1 r l
  rw [e]
  have maxi : ∀ h : Fin 6, ∃ T : ℝ, rowMax (scores (qs m c) (ks m c) (fs m c)) (ix3 b h R) = T := fun h =>
    rowMax_real _ b h R (fun j => by rw [ref_score m c hq hk hf]; exact top_of _)
      (by rw [ref_score m c hq hk hf, if_pos (show (0 : Fin 4096).val ≤ R.val from Nat.zero_le _)]; exact EReal.coe_ne_bot _)
  have drop : ∀ (j : ℕ) (y : EReal), (if j ≤ 512 * (grid0.coords t 2).val + r.val ∧ j < 4096 then y else ⊥)
      = if j ≤ 512 * (grid0.coords t 2).val + r.val then y else ⊥ := fun j y => by
    by_cases hj : j ≤ 512 * (grid0.coords t 2).val + r.val
    · rw [if_pos hj, if_pos ⟨hj, by omega⟩]
    · rw [if_neg hj, if_neg fun h => hj h.1]
  by_cases hl : l.val < 64
  · rw [if_pos hl] at hst
    have hh : (2 * (grid0.coords t 1).val) < 6 := by omega
    obtain ⟨T, hT⟩ := maxi ⟨_, hh⟩
    rw [mixed_at _ _ b R ⟨_, hh⟩ ⟨l.val, hl⟩ x (by show x.val = 64 * (2 * (grid0.coords t 1).val) + l.val; omega)]
    simp only [expo_at, hT]
    refine row (fs m c (ix3 b R ⟨_, hh⟩)).toReal T (R := 512 * (grid0.coords t 2).val + r.val) (by omega) (by omega)
      (fun j => (score0 m c hq hk hf t b ⟨_, hh⟩ r R hb rfl hR _ j).trans (drop j _)) hst.1 hst.2 (fun j hj => ?_) _
      (fun j => (ref_score m c hq hk hf b ⟨_, hh⟩ R j).trans (by rw [hR])) _ (fun j => ?_)
    · rw [val0, dif_pos hj]; rfl
    · rw [val0, dif_pos j.isLt, if_pos hl]
      exact blk2 m c t b j ⟨_, hh⟩ ⟨l.val, hl⟩ l hb (by show _ = 64 * (2 * (grid0.coords t 1).val) + l.val; omega)
  · rw [if_neg hl] at hst
    have hh : (2 * (grid0.coords t 1).val + 1) < 6 := by omega
    have hd : l.val - 64 < 64 := by omega
    obtain ⟨T, hT⟩ := maxi ⟨_, hh⟩
    rw [mixed_at _ _ b R ⟨_, hh⟩ ⟨_, hd⟩ x (by show x.val = 64 * (2 * (grid0.coords t 1).val + 1) + (l.val - 64); omega)]
    simp only [expo_at, hT]
    refine row (fs m c (ix3 b R ⟨_, hh⟩)).toReal T (R := 512 * (grid0.coords t 2).val + r.val) (by omega) (by omega)
      (fun j => (score1 m c hq hk hf t b ⟨_, hh⟩ r R hb rfl hR _ j).trans (drop j _)) hst.1 hst.2 (fun j hj => ?_) _
      (fun j => (ref_score m c hq hk hf b ⟨_, hh⟩ R j).trans (by rw [hR])) _ (fun j => ?_)
    · rw [val1, dif_pos hj]; rfl
    · rw [val1, dif_pos j.isLt, if_pos (by omega)]
      exact blk2 m c t b j ⟨_, hh⟩ ⟨_, hd⟩ l hb (by show _ = 64 * (2 * (grid0.coords t 1).val + 1) + (l.val - 64); omega)

/-- THE RESULT ARRAY. -/
theorem final : (dats m 0 c).arrAt 4 cfg0.N
    = mixed (vs m c) (expo (scores (qs m c) (ks m c) (fs m c)) (rowMax (scores (qs m c) (ks m c) (fs m c)))) := by
  refine (dats m 0 c).arrAt_eq_of_covers 4 _ (by decide +kernel) fun t _ y => ?_
  blk_simp
  rw [after0_4]
  unfold outsAt0
  have h0 : (grid0.coords t 0).val < 8 := (grid0.coords t 0).isLt
  have h1 := pair_lt (grid0.coords t)
  have h2 := tile_lt (grid0.coords t)
  have y1 : (y 1).val < 512 := (y 1).isLt
  have y2 : (y 2).val < 128 := (y 2).isLt
  have hy : (y : S1x512x128.Idx) = ix3 0 ⟨(y 1).val, y1⟩ ⟨(y 2).val, y2⟩ := by blk_ext
  have he : ((win0_4.blk t).view.emb y : S8x4096x384.Idx) = ix3 ⟨(grid0.coords t 0).val, h0⟩
      ⟨512 * (grid0.coords t 2).val + (y 1).val, by omega⟩ ⟨128 * (grid0.coords t 1).val + (y 2).val, by omega⟩ := by
    blk_ext [idx t]
  exact (congrArg (out0_A_4 c (grid0.coords t) _ _ _ _ _ _ _ _ _ _ _ _ _ _) hy).trans
    ((point m c hq hk hf t _ _ _ _ _ rfl rfl rfl _ _ _ _ _ _ _ _ _ _).trans (congrArg (mixed (vs m c) _) he.symm))

end Point

end Cert.FoxIdeal.Final

end
-- ==== Proof.FoxClaim.lean ====
/- The forgetting attention's equality with its reference, from the two programs' runs. -/
module

public import proofs.«01_k».proof.Defs
public import proofs.«01_k».proof.Proof.FoxValue
public import Idealize.ShloMosaic.Lib.Claim

@[expose] public section

set_option maxRecDepth 16384

noncomputable section

namespace Cert.Proof

open Idealize.ShloMosaic Idealize.SL.Sem

/-- The kernel's result array and the reference's last array are the same mixture of the values. -/
theorem fox_algebraic : Cert.algebraic_FoxIdeal_FoxRefIdeal_pre_finite
    (hFoxIdeal := Cert.FoxIdeal.Gen.facts) (hFoxRefIdeal := Cert.FoxRefIdeal.Gen.facts)
    (hPre_finite := Cert.FoxIdeal.Operands.facts) := by
  pair_intro
  · run_from Cert.FoxIdeal.Value.run_blocks m g
  · run_from Cert.FoxRefIdeal.Value.run m' g'
    obtain ⟨hq, hk, hf⟩ := Cert.FoxIdeal.Operands.real_args _ _ _ _ (hpre c)
    rw [Cert.FoxIdeal.Final.final m c hq hk hf]
    refine (Cert.FoxRefIdeal.Soft.res_eq m' c).trans ?_
    obtain ⟨h0, h1, h2, h3⟩ := hagree c
    rw [h0, h1, h2, h3]

end Cert.Proof

end
-- ==== Proof.ChannelFold.lean ====
/- The channel mix's one block, folded: each of the eleven column chunks of the hidden layer goes through the same three
   steps (project, convolve over the rows, gate and project back), so the chunks' steps are named after the first one's,
   and the reads of the scratch buffers are what was stored there. -/
module

public import proofs.«01_k».proof.Proof.Gen.ChannelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ChannelIdeal.Fold

open Idealize.ShloMosaic Idealize.ShloMosaic.TcCoe Cert.ChannelIdeal Cert.ChannelIdeal.Gen

/-- Every projection into the hidden layer is the first one. -/
theorem ups :
    k0_pay10 (F := Ideal) = k0_pay9 ∧ k0_pay11 (F := Ideal) = k0_pay9 ∧ k0_pay12 (F := Ideal) = k0_pay9 ∧
    k0_pay13 (F := Ideal) = k0_pay9 ∧ k0_pay14 (F := Ideal) = k0_pay9 ∧ k0_pay15 (F := Ideal) = k0_pay9 ∧
    k0_pay16 (F := Ideal) = k0_pay9 ∧ k0_pay26 (F := Ideal) = k0_pay9 ∧ k0_pay27 (F := Ideal) = k0_pay9 ∧
    k0_pay39 (F := Ideal) = k0_pay9 ∧ k0_pay40 (F := Ideal) = k0_pay9 ∧ k0_pay50 (F := Ideal) = k0_pay9 ∧
    k0_pay51 (F := Ideal) = k0_pay9 ∧ k0_pay64 (F := Ideal) = k0_pay9 ∧ k0_pay65 (F := Ideal) = k0_pay9 ∧
    k0_pay76 (F := Ideal) = k0_pay9 ∧ k0_pay77 (F := Ideal) = k0_pay9 ∧ k0_pay88 (F := Ideal) = k0_pay9 ∧
    k0_pay100 (F := Ideal) = k0_pay9 ∧ k0_pay101 (F := Ideal) = k0_pay9 :=
  ⟨rfl, rfl, rfl, rfl, rfl, rfl, rfl, rfl, rfl, rfl, rfl, rfl, rfl, rfl, rfl, rfl, rfl, rfl, rfl, rfl⟩

theorem up_split (h : FVec Ideal S512x1024 .bf16) (w : Vec Ideal S1024x256 .bf16) :
    k0_pay90 (F := Ideal) h (k0_pay89 w) = k0_pay9 h w := rfl

/-- Every store of the rows kept from the tile before is the first one. -/
theorem halos :
    k0_pay21 (F := Ideal) = k0_pay17 ∧ k0_pay28 (F := Ideal) = k0_pay17 ∧ k0_pay34 (F := Ideal) = k0_pay17 ∧
    k0_pay41 (F := Ideal) = k0_pay17 ∧ k0_pay45 (F := Ideal) = k0_pay17 ∧ k0_pay52 (F := Ideal) = k0_pay17 ∧
    k0_pay57 (F := Ideal) = k0_pay17 ∧ k0_pay66 (F := Ideal) = k0_pay17 ∧ k0_pay70 (F := Ideal) = k0_pay17 ∧
    k0_pay78 (F := Ideal) = k0_pay17 ∧ k0_pay83 (F := Ideal) = k0_pay17 ∧ k0_pay91 (F := Ideal) = k0_pay17 ∧
    k0_pay95 (F := Ideal) = k0_pay17 ∧ k0_pay102 (F := Ideal) = k0_pay17 ∧ k0_pay106 (F := Ideal) = k0_pay17 ∧
    k0_pay111 (F := Ideal) = k0_pay17 ∧ k0_pay115 (F := Ideal) = k0_pay17 ∧ k0_pay120 (F := Ideal) = k0_pay17 ∧
    k0_pay124 (F := Ideal) = k0_pay17 ∧ k0_pay129 (F := Ideal) = k0_pay17 ∧ k0_pay134 (F := Ideal) = k0_pay17 :=
  ⟨rfl, rfl, rfl, rfl, rfl, rfl, rfl, rfl, rfl, rfl, rfl, rfl, rfl, rfl, rfl, rfl, rfl, rfl, rfl, rfl, rfl⟩

/-- Every store of a chunk's rows is the first one. -/
theorem mains :
    k0_pay22 (F := Ideal) = k0_pay18 ∧ k0_pay29 (F := Ideal) = k0_pay18 ∧ k0_pay35 (F := Ideal) = k0_pay18 ∧
    k0_pay42 (F := Ideal) = k0_pay18 ∧ k0_pay46 (F := Ideal) = k0_pay18 ∧ k0_pay53 (F := Ideal) = k0_pay18 ∧
    k0_pay58 (F := Ideal) = k0_pay18 ∧ k0_pay67 (F := Ideal) = k0_pay18 ∧ k0_pay71 (F := Ideal) = k0_pay18 ∧
    k0_pay79 (F := Ideal) = k0_pay18 ∧ k0_pay84 (F := Ideal) = k0_pay18 ∧ k0_pay92 (F := Ideal) = k0_pay18 ∧
    k0_pay96 (F := Ideal) = k0_pay18 ∧ k0_pay103 (F := Ideal) = k0_pay18 ∧ k0_pay107 (F := Ideal) = k0_pay18 ∧
    k0_pay112 (F := Ideal) = k0_pay18 ∧ k0_pay116 (F := Ideal) = k0_pay18 ∧ k0_pay121 (F := Ideal) = k0_pay18 ∧
    k0_pay125 (F := Ideal) = k0_pay18 ∧ k0_pay130 (F := Ideal) = k0_pay18 ∧ k0_pay135 (F := Ideal) = k0_pay18 :=
  ⟨rfl, rfl, rfl, rfl, rfl, rfl, rfl, rfl, rfl, rfl, rfl, rfl, rfl, rfl, rfl, rfl, rfl, rfl, rfl, rfl, rfl⟩

/-- Every store of a chunk's last rows is the first one. -/
theorem tails :
    k0_pay23 (F := Ideal) = k0_pay19 ∧ k0_pay30 (F := Ideal) = k0_pay19 ∧ k0_pay36 (F := Ideal) = k0_pay19 ∧
    k0_pay43 (F := Ideal) = k0_pay19 ∧ k0_pay47 (F := Ideal) = k0_pay19 ∧ k0_pay54 (F := Ideal) = k0_pay19 ∧
    k0_pay59 (F := Ideal) = k0_pay19 ∧ k0_pay68 (F := Ideal) = k0_pay19 ∧ k0_pay72 (F := Ideal) = k0_pay19 ∧
    k0_pay80 (F := Ideal) = k0_pay19 ∧ k0_pay85 (F := Ideal) = k0_pay19 ∧ k0_pay93 (F := Ideal) = k0_pay19 ∧
    k0_pay97 (F := Ideal) = k0_pay19 ∧ k0_pay104 (F := Ideal) = k0_pay19 ∧ k0_pay108 (F := Ideal) = k0_pay19 ∧
    k0_pay113 (F := Ideal) = k0_pay19 ∧ k0_pay117 (F := Ideal) = k0_pay19 ∧ k0_pay122 (F := Ideal) = k0_pay19 ∧
    k0_pay126 (F := Ideal) = k0_pay19 ∧ k0_pay131 (F := Ideal) = k0_pay19 ∧ k0_pay136 (F := Ideal) = k0_pay19 :=
  ⟨rfl, rfl, rfl, rfl, rfl, rfl, rfl, rfl, rfl, rfl, rfl, rfl, rfl, rfl, rfl, rfl, rfl, rfl, rfl, rfl, rfl⟩

/-- The convolutions over the rows that are one step. -/
theorem convs :
    k0_pay44 (F := Ideal) = k0_pay20 ∧ k0_pay69 (F := Ideal) = k0_pay20 ∧ k0_pay94 (F := Ideal) = k0_pay20 ∧
    k0_pay105 (F := Ideal) = k0_pay20 ∧ k0_pay114 (F := Ideal) = k0_pay20 ∧ k0_pay123 (F := Ideal) = k0_pay20 :=
  ⟨rfl, rfl, rfl, rfl, rfl, rfl⟩

/-- The convolutions cut in several steps. -/
theorem convs_split (u : FVec Ideal S512x256 .f32) (b w0 w1 w2 : Vec Ideal S1x256 .f32) (s0 s1 : Vec Ideal S1x512x256 .f32) :
    k0_pay33 (F := Ideal) u (k0_pay31 b) (k0_pay32 w0 s0) w1 s1 w2 = k0_pay20 u b w0 s0 w1 s1 w2 ∧
    k0_pay56 (F := Ideal) u (k0_pay55 b) w0 s0 w1 s1 w2 = k0_pay20 u b w0 s0 w1 s1 w2 ∧
    k0_pay82 (F := Ideal) u (k0_pay81 b) w0 s0 w1 s1 w2 = k0_pay20 u b w0 s0 w1 s1 w2 ∧
    k0_pay133 (F := Ideal) u (k0_pay132 b w0 s0) w1 s1 w2 = k0_pay20 u b w0 s0 w1 s1 w2 :=
  ⟨rfl, rfl, rfl, rfl⟩

/-- The gated chunks' projections back, each added to the chunks' before it. -/
theorem chunks (u g : FVec Ideal S512x256 .f32) (b w0 w1 w2 : Vec Ideal S1x256 .f32) (s0 s1 : Vec Ideal S1x512x256 .f32)
    (d : Vec Ideal S256x1024 .bf16) (a : FVec Ideal S512x1024 .f32) :
    k0_pay38 (F := Ideal) u g (k0_pay37 b w0 s0) w1 s1 w2 d a = k0_pay49 (k0_pay24 u g b w0 s0 w1 s1 w2 d) a ∧
    k0_pay63 (F := Ideal) u g (k0_pay60 b) (k0_pay61 s0) (k0_pay62 w0) w1 s1 w2 d a =
      k0_pay49 (k0_pay24 u g b w0 s0 w1 s1 w2 d) a ∧
    k0_pay75 (F := Ideal) (k0_pay73 u g b w0 s0 w1 s1 w2) (k0_pay74 d) a = k0_pay49 (k0_pay24 u g b w0 s0 w1 s1 w2 d) a ∧
    k0_pay87 (F := Ideal) u g (k0_pay86 b) w0 s0 w1 s1 w2 d a = k0_pay49 (k0_pay24 u g b w0 s0 w1 s1 w2 d) a ∧
    k0_pay99 (F := Ideal) (k0_pay98 u g b w0 s0 w1 s1 w2) d a = k0_pay49 (k0_pay24 u g b w0 s0 w1 s1 w2 d) a ∧
    k0_pay110 (F := Ideal) u g (k0_pay109 b) w0 s0 w1 s1 w2 d a = k0_pay49 (k0_pay24 u g b w0 s0 w1 s1 w2 d) a ∧
    k0_pay119 (F := Ideal) (k0_pay118 u g b w0 s0 w1 s1 w2 d a) = k0_pay49 (k0_pay24 u g b w0 s0 w1 s1 w2 d) a ∧
    k0_pay128 (F := Ideal) (k0_pay127 u g b w0 s0 w1 s1 w2) d a = k0_pay49 (k0_pay24 u g b w0 s0 w1 s1 w2 d) a ∧
    k0_pay138 (F := Ideal) u g (k0_pay137 b w0 s0) w1 s1 w2 d a = k0_pay49 (k0_pay24 u g b w0 s0 w1 s1 w2 d) a :=
  ⟨rfl, rfl, rfl, rfl, rfl, rfl, rfl, rfl, rfl⟩

theorem chunk_fold : k0_pay48 (F := Ideal) = k0_pay24 := rfl

/-! ## Reads -/

section Reads

variable {sig : RefSig} {κ : Kind} {sp : Space}

/-- A read of an input block is the block's rectangle. -/
theorem read_in {s : Shape} {e : EltTy} (w : Memref sig κ sp s e) (hw : w.IsWhole) (X : Vec Ideal s e) (r : Rect s) :
    View.readAt (Elt Ideal) w.view r.toLoadRect (hw.unread X) = View.ld X r :=
  congrArg (fun Y => View.ld Y r) (hw.read_unread X)

/-- Row `r` of what a convolution reads from row `k` on of the eight kept rows `t` followed by the tile's own rows `u`. -/
def rowsAt (k : ℕ) (t : Vec Ideal S1x8x256 .f32) (u : Vec Ideal S1x512x256 .f32) (r : Fin 512) (j : Fin 256) : EReal :=
  if h : r.val + k < 8 then t (ix3 0 ⟨r.val + k, h⟩ j)
  else if h' : r.val + k - 8 < 512 then u (ix3 0 ⟨r.val + k - 8, h'⟩ j) else 0

def rows (k : ℕ) (t : Vec Ideal S1x8x256 .f32) (u : Vec Ideal S1x512x256 .f32) : Vec Ideal S1x512x256 .f32 :=
  fun y => rowsAt k t u (y 1) (y 2)

/-- A read at an index the last store holds is that store there. -/
theorem read_hit {s : Shape} {e : EltTy} (v : View sig κ sp s e) {off size off' size' : Fin s.rank → ℕ} (i1) (i2)
    (w : (Rect.unit off size i1).shape.Idx → Elt Ideal e) (L : List (View.Piece (Elt Ideal) s e))
    (y : (Rect.unit off' size' i2).shape.Idx) (x : (Rect.unit off size i1).shape.Idx)
    (h : ∀ a, off' a + (y a).val = off a + (x a).val) :
    v.readCov (⟨Rect.unit off size i1, w⟩ :: L) (Rect.unit off' size' i2).toLoadRect y = w x := by
  rw [View.readCov_eq_canon']
  refine (congrArg _ (funext fun a => Fin.ext ?_)).trans (View.canon_cons_emb (Rect.unit off size i1) w L x)
  show off' a + 1 * (y a).val = off a + 1 * (x a).val
  have := h a
  omega

/-- A read at an index the last store does not hold is a read of the stores before it. -/
theorem read_miss {s : Shape} {e : EltTy} (v : View sig κ sp s e) {off size off' size' : Fin s.rank → ℕ} (i1) (i2)
    (w : (Rect.unit off size i1).shape.Idx → Elt Ideal e) (L : List (View.Piece (Elt Ideal) s e))
    (y : (Rect.unit off' size' i2).shape.Idx) (a : Fin s.rank)
    (h : off' a + (y a).val < off a ∨ off a + size a ≤ off' a + (y a).val) :
    v.readCov (⟨Rect.unit off size i1, w⟩ :: L) (Rect.unit off' size' i2).toLoadRect y =
      v.readCov L (Rect.unit off' size' i2).toLoadRect y := by
  rw [View.readCov_eq_canon', View.readCov_eq_canon']
  refine View.canon_cons_of_not_mem ⟨Rect.unit off size i1, w⟩ L fun hm => ?_
  have h1 : off a ≤ off' a + 1 * (y a).val ∧ off' a + 1 * (y a).val < off a + size a := (Rect.mem_set_unit (inb := i1) (i := (Rect.unit off' size' i2).toLoadRect.idx y)).1 hm a
  omega

/-- A read from row `k` of a buffer whose last two stores were the kept rows and the tile's own. -/
theorem read_rows (v : View sig κ sp S2x520x256 .f32) (s k : ℕ) (i1) (i2) (i3)
    (t : Vec Ideal S1x8x256 .f32) (u : Vec Ideal S1x512x256 .f32) (L : List (View.Piece (Elt Ideal) S2x520x256 .f32)) (hk : k ≤ 8) :
    v.readCov (⟨Rect.unit ![s, 8, 0] ![1, 512, 256] i1, u⟩ :: ⟨Rect.unit ![s, 0, 0] ![1, 8, 256] i2, t⟩ :: L)
      (Rect.unit ![s, k, 0] ![1, 512, 256] i3).toLoadRect = rows k t u := by
  funext y
  obtain ⟨a, r, j, rfl⟩ : ∃ (a : Fin 1) (r : Fin 512) (j : Fin 256), y = ix3 a r j := ⟨y 0, y 1, y 2, by blk_ext⟩
  obtain rfl : a = 0 := Subsingleton.elim _ _
  refine Eq.trans (b := rowsAt k t u r j) ?_ rfl
  unfold rowsAt
  by_cases h : r.val + k < 8
  · rw [dif_pos h]
    refine (read_miss v i1 i3 u _ (ix3 0 r j) 1 (.inl ?_)).trans (read_hit v i2 i3 t L (ix3 0 r j) (ix3 0 ⟨r.val + k, h⟩ j) ?_)
    · show k + r.val < 8
      omega
    · exact fun
        | 0 => rfl
        | 1 => show k + r.val = 0 + (r.val + k) by omega
        | 2 => rfl
  · have h' : r.val + k - 8 < 512 := by omega
    rw [dif_neg h, dif_pos h']
    refine read_hit v i1 i3 u _ (ix3 0 r j) (ix3 0 ⟨r.val + k - 8, h'⟩ j) ?_
    exact fun
      | 0 => rfl
      | 1 => show k + r.val = 8 + (r.val + k - 8) by omega
      | 2 => rfl

/-- The three branches' columns side by side. -/
def catAt (x1 : Vec Ideal S512x256 .bf16) (x2 x3 : Vec Ideal S512x384 .bf16) (r : Fin 512) (j : Fin 1024) : EReal :=
  if h : j.val < 256 then x1 (ix2 r ⟨j.val, h⟩)
  else if h' : j.val < 640 then x2 (ix2 r ⟨j.val - 256, by omega⟩)
  else x3 (ix2 r ⟨j.val - 640, by omega⟩)

def cat (x1 : Vec Ideal S512x256 .bf16) (x2 x3 : Vec Ideal S512x384 .bf16) : Vec Ideal S512x1024 .bf16 :=
  fun y => catAt x1 x2 x3 (y 0) (y 1)

theorem read_cat (v : View sig κ sp S512x1024 .bf16) (i1) (i2) (i3) (i4) (x1 : Vec Ideal S512x256 .bf16)
    (x2 x3 : Vec Ideal S512x384 .bf16) (L : List (View.Piece (Elt Ideal) S512x1024 .bf16)) :
    v.readCov (⟨Rect.unit ![0, 640] ![512, 384] i1, x3⟩ :: ⟨Rect.unit ![0, 256] ![512, 384] i2, x2⟩ ::
      ⟨Rect.unit ![0, 0] ![512, 256] i3, x1⟩ :: L) (Rect.unit ![0, 0] ![512, 1024] i4).toLoadRect = cat x1 x2 x3 := by
  funext y
  obtain ⟨r, j, rfl⟩ : ∃ (r : Fin 512) (j : Fin 1024), y = ix2 r j := ⟨y 0, y 1, by blk_ext⟩
  refine Eq.trans (b := catAt x1 x2 x3 r j) ?_ rfl
  have hj := j.isLt
  unfold catAt
  by_cases h : j.val < 256
  · rw [dif_pos h]
    refine (read_miss v i1 i4 x3 _ (ix2 r j) 1 (.inl ?_)).trans ((read_miss v i2 i4 x2 _ (ix2 r j) 1 (.inl ?_)).trans
      (read_hit v i3 i4 x1 L (ix2 r j) (ix2 r ⟨j.val, h⟩) ?_))
    · show 0 + j.val < 640
      omega
    · show 0 + j.val < 256
      omega
    · exact fun
        | 0 => rfl
        | 1 => rfl
  · rw [dif_neg h]
    by_cases h' : j.val < 640
    · rw [dif_pos h']
      refine (read_miss v i1 i4 x3 _ (ix2 r j) 1 (.inl ?_)).trans
        (read_hit v i2 i4 x2 _ (ix2 r j) (ix2 r ⟨j.val - 256, by omega⟩) ?_)
      · show 0 + j.val < 640
        omega
      · exact fun
          | 0 => rfl
          | 1 => show 0 + j.val = 256 + (j.val - 256) by omega
    · rw [dif_neg h']
      refine read_hit v i1 i4 x3 _ (ix2 r j) (ix2 r ⟨j.val - 640, by omega⟩) ?_
      exact fun
        | 0 => rfl
        | 1 => show 0 + j.val = 640 + (j.val - 640) by omega

end Reads

end Cert.ChannelIdeal.Fold

end
-- ==== Proof.ChannelPoint.lean ====
/- The channel mix's block at an index: the residual, its normalization, the hidden layer's columns, the convolution over
   the rows, and one chunk's share of the projection back. -/
module

public import proofs.«01_k».proof.Proof.ChannelFold

@[expose] public section

set_option maxRecDepth 16384

noncomputable section

namespace Cert.ChannelIdeal.Point

open Idealize.ShloMosaic Idealize.ShloMosaic.TcCoe Cert.ChannelIdeal Cert.ChannelIdeal.Gen Cert.ChannelIdeal.Fold

/-- Column `j` of row `r` of the hidden layer before the convolution. -/
def hid (h : FVec Ideal S512x1024 .bf16) (w : Vec Ideal S1024x5632 .bf16) (r : Fin 512) (j : Fin 5632) : EReal :=
  ∑ k : Fin 1024, h (ix2 r k) * w (ix2 k j)

/-- The same column, `8 - k` rows earlier: one of the eight rows kept from the tile before where the tile has none. -/
def back (k : ℕ) (h : FVec Ideal S512x1024 .bf16) (w : Vec Ideal S1024x5632 .bf16) (t : Vec Ideal S8x5632 .f32) (r : Fin 512)
    (j : Fin 5632) : EReal :=
  if g : r.val + k < 8 then t (ix2 ⟨r.val + k, g⟩ j)
  else if g' : r.val + k - 8 < 512 then hid h w ⟨r.val + k - 8, g'⟩ j else 0

/-- Column `j` of row `r` of the convolution. -/
def conv (h : FVec Ideal S512x1024 .bf16) (w : Vec Ideal S1024x5632 .bf16) (cw : Vec Ideal S3x5632 .f32)
    (cb : Vec Ideal S1x5632 .f32) (t : Vec Ideal S8x5632 .f32) (r : Fin 512) (j : Fin 5632) : EReal :=
  cb (ix2 0 j) + cw (ix2 0 j) * back 6 h w t r j + cw (ix2 1 j) * back 7 h w t r j + cw (ix2 2 j) * hid h w r j

/-- Column `j` of the gated hidden layer. -/
def act (h : FVec Ideal S512x1024 .bf16) (w : Vec Ideal S1024x5632 .bf16) (cw : Vec Ideal S3x5632 .f32)
    (cb : Vec Ideal S1x5632 .f32) (t : Vec Ideal S8x5632 .f32) (r : Fin 512) (j : Fin 2816) : EReal :=
  conv h w cw cb t r ⟨j.val, by omega⟩ * Ideal.logistic (conv h w cw cb t r ⟨j.val, by omega⟩) *
    conv h w cw cb t r ⟨2816 + j.val, by omega⟩

section Columns

variable (h : FVec Ideal S512x1024 .bf16) (w : Vec Ideal S1024x5632 .bf16) (cw : Vec Ideal S3x5632 .f32)
  (cb : Vec Ideal S1x5632 .f32) (t : Vec Ideal S8x5632 .f32) (wd : Vec Ideal S2816x1024 .bf16)

theorem hid_eq (o : ℕ) (i) (r : Fin 512) (j : Fin 256) (hj : o + j.val < 5632) :
    k0_pay9 h (View.ld w (Rect.unit (s := S1024x5632) ![0, o] ![1024, 256] i)) (ix2 r j) = hid h w r ⟨o + j.val, hj⟩ := by
  pointwise [k0_pay9]
  rfl

theorem rows_eq (k : ℕ) (o : ℕ) (i6 : ∀ a, (![0, o] : Fin 2 → ℕ) a + (![8, 256] : Fin 2 → ℕ) a ≤ S8x5632.size a)
    (u : FVec Ideal S512x256 .f32) (r : Fin 512) (j : Fin 256) (hj : o + j.val < 5632)
    (hu : ∀ r : Fin 512, u (ix2 r j) = hid h w r ⟨o + j.val, hj⟩) :
    rows k (k0_pay17 (View.ld t (Rect.unit (s := S8x5632) ![0, o] ![8, 256] i6))) (k0_pay18 u) (ix3 0 r j) =
      back k h w t r ⟨o + j.val, hj⟩ := by
  refine Eq.trans (b := rowsAt k _ _ r j) rfl ?_
  unfold rowsAt back
  by_cases g : r.val + k < 8
  · rw [dif_pos g, dif_pos g]
    pointwise [k0_pay17]
  · rw [dif_neg g, dif_neg g]
    by_cases g' : r.val + k - 8 < 512
    · rw [dif_pos g', dif_pos g', ← hu]
      pointwise [k0_pay18]
    · rw [dif_neg g', dif_neg g']

/-- The convolution at a column given by its number. -/
def convN (r : Fin 512) (j : ℕ) : EReal := if hj : j < 5632 then conv h w cw cb t r ⟨j, hj⟩ else 0

/-- The convolution's columns from `o` on. -/
def convV (o : ℕ) : FVec Ideal S512x256 .f32 := fun y => convN h w cw cb t (y 0) (o + (y 1).val)

/-- One chunk's columns through the convolution, as the kernel computes them. -/
theorem conv_eq (o : ℕ) (i1) (i2) (i3) (i4) (i5) (i6) :
    k0_pay20 (k0_pay9 h (View.ld w (Rect.unit (s := S1024x5632) ![0, o] ![1024, 256] i1)))
      (View.ld cb (Rect.unit (s := S1x5632) ![0, o] ![1, 256] i2))
      (View.ld cw (Rect.unit (s := S3x5632) ![0, o] ![1, 256] i3))
      (rows 6 (k0_pay17 (View.ld t (Rect.unit (s := S8x5632) ![0, o] ![8, 256] i6)))
        (k0_pay18 (k0_pay9 h (View.ld w (Rect.unit (s := S1024x5632) ![0, o] ![1024, 256] i1)))))
      (View.ld cw (Rect.unit (s := S3x5632) ![1, o] ![1, 256] i4))
      (rows 7 (k0_pay17 (View.ld t (Rect.unit (s := S8x5632) ![0, o] ![8, 256] i6)))
        (k0_pay18 (k0_pay9 h (View.ld w (Rect.unit (s := S1024x5632) ![0, o] ![1024, 256] i1)))))
      (View.ld cw (Rect.unit (s := S3x5632) ![2, o] ![1, 256] i5)) = convV h w cw cb t o := by
  funext y
  obtain ⟨r, j, rfl⟩ : ∃ (r : Fin 512) (j : Fin 256), y = ix2 r j := ⟨y 0, y 1, by blk_ext⟩
  have hj : o + j.val < 5632 := by
    have : o + 256 ≤ 5632 := i1 1
    omega
  refine Eq.trans ?_ (dif_pos hj).symm
  have hu : ∀ r : Fin 512, k0_pay9 h (View.ld w (Rect.unit (s := S1024x5632) ![0, o] ![1024, 256] i1)) (ix2 r j) =
      hid h w r ⟨o + j.val, hj⟩ := fun r => hid_eq h w o i1 r j hj
  generalize k0_pay9 h (View.ld w (Rect.unit (s := S1024x5632) ![0, o] ![1024, 256] i1)) = u at hu ⊢
  pointwise [k0_pay20]
  rw [rows_eq h w t 6 o i6 u r j hj hu, rows_eq h w t 7 o i6 u r j hj hu, hu r]
  rfl

/-- One chunk's share of the projection back, as the kernel computes it from the chunk's two halves. -/
def part (g v : FVec Ideal S512x256 .f32) (d : Vec Ideal S256x1024 .bf16) : FVec Ideal S512x1024 .f32 :=
  let e : FVec Ideal S256x1024 .bf16 := shapeCast S256x1024 d shapeCasts_S256x1024_S256x1024
  matmul dot_S512x256_S256x1024_S512x1024_1_0_0_1_n_n none
    (truncf .bf16 (mulf (mulf g (logistic g)) v) bitsLt_bf16_f32) e (constant S512x1024 .f32 0x00000000#32)

theorem part_fold (u g : FVec Ideal S512x256 .f32) (b w0 w1 w2 : Vec Ideal S1x256 .f32) (s0 s1 : Vec Ideal S1x512x256 .f32)
    (d : Vec Ideal S256x1024 .bf16) : k0_pay24 u g b w0 s0 w1 s1 w2 d = part g (k0_pay20 u b w0 s0 w1 s1 w2) d := rfl

/-- The term of hidden column `j` in column `n` of the projection back. -/
def term (r : Fin 512) (n : Fin 1024) (j : ℕ) : EReal :=
  if hj : j < 2816 then act h w cw cb t r ⟨j, hj⟩ * wd (ix2 ⟨j, hj⟩ n) else 0

theorem part_eq (o o' : ℕ) (i7) (r : Fin 512) (n : Fin 1024) (ho' : o' = 2816 + o) :
    part (convV h w cw cb t o) (convV h w cw cb t o') (View.ld wd (Rect.unit (s := S2816x1024) ![o, 0] ![256, 1024] i7))
      (ix2 r n) = ∑ j : Fin 256, term h w cw cb t wd r n (o + j.val) := by
  have ho : o + 256 ≤ 2816 := i7 0
  subst ho'
  have hg : ∀ j : Fin 256, convV h w cw cb t o (ix2 r j) = conv h w cw cb t r ⟨o + j.val, by omega⟩ := fun j => dif_pos _
  have hv : ∀ j : Fin 256, convV h w cw cb t (2816 + o) (ix2 r j) = conv h w cw cb t r ⟨2816 + (o + j.val), by omega⟩ :=
    fun j => (dif_pos (by show 2816 + o + j.val < 5632; omega)).trans
      (congrArg (conv h w cw cb t r) (Fin.ext (Nat.add_assoc _ _ _)))
  generalize convV h w cw cb t o = g at hg ⊢
  generalize convV h w cw cb t (2816 + o) = v at hv ⊢
  pointwise [part]
  refine Finset.sum_congr rfl fun j _ => ?_
  have hj : o + j.val < 2816 := by omega
  rw [hg, hv, term, dif_pos hj]
  rfl

end Columns

/-! ## The residual and the normalizations -/

/-- Column `n` of row `r` of the residual. -/
def resAt (x0 : Vec Ideal S512x1024 .f32) (x1 : Vec Ideal S512x256 .bf16) (x2 x3 : Vec Ideal S512x384 .bf16)
    (x4 : Vec Ideal S1024x1024 .bf16) (r : Fin 512) (n : Fin 1024) : EReal :=
  x0 (ix2 r n) + ∑ k : Fin 1024, catAt x1 x2 x3 r k * x4 (ix2 k n)

def res (x0 : Vec Ideal S512x1024 .f32) (x1 : Vec Ideal S512x256 .bf16) (x2 x3 : Vec Ideal S512x384 .bf16)
    (x4 : Vec Ideal S1024x1024 .bf16) : FVec Ideal S512x1024 .f32 := fun y => resAt x0 x1 x2 x3 x4 (y 0) (y 1)

theorem res_eq (x0 : Vec Ideal S512x1024 .f32) (x1 : Vec Ideal S512x256 .bf16) (x2 x3 : Vec Ideal S512x384 .bf16)
    (x4 : Vec Ideal S1024x1024 .bf16) (i0) (i1) (i2) (i3) (i4) :
    k0_pay7 (k0_pay6 (View.ld x0 (Rect.unit (s := S512x1024) ![0, 0] ![512, 1024] i0)))
      (cat (k0_pay3 (View.ld x1 (Rect.unit (s := S512x256) ![0, 0] ![512, 256] i1)))
        (k0_pay4 (View.ld x2 (Rect.unit (s := S512x384) ![0, 0] ![512, 384] i2)))
        (k0_pay5 (View.ld x3 (Rect.unit (s := S512x384) ![0, 0] ![512, 384] i3))))
      (View.ld x4 (Rect.unit (s := S1024x1024) ![0, 0] ![1024, 1024] i4)) = res x0 x1 x2 x3 x4 := by
  have h1 : k0_pay3 (View.ld x1 (Rect.unit (s := S512x256) ![0, 0] ![512, 256] i1)) = x1 := by
    funext y
    obtain ⟨r, n, rfl⟩ : ∃ (r : Fin 512) (n : Fin 256), y = ix2 r n := ⟨y 0, y 1, by blk_ext⟩
    pointwise [k0_pay3]
  have h2 : k0_pay4 (View.ld x2 (Rect.unit (s := S512x384) ![0, 0] ![512, 384] i2)) = x2 := by
    funext y
    obtain ⟨r, n, rfl⟩ : ∃ (r : Fin 512) (n : Fin 384), y = ix2 r n := ⟨y 0, y 1, by blk_ext⟩
    pointwise [k0_pay4]
  have h3 : k0_pay5 (View.ld x3 (Rect.unit (s := S512x384) ![0, 0] ![512, 384] i3)) = x3 := by
    funext y
    obtain ⟨r, n, rfl⟩ : ∃ (r : Fin 512) (n : Fin 384), y = ix2 r n := ⟨y 0, y 1, by blk_ext⟩
    pointwise [k0_pay5]
  rw [h1, h2, h3]
  funext y
  obtain ⟨r, n, rfl⟩ : ∃ (r : Fin 512) (n : Fin 1024), y = ix2 r n := ⟨y 0, y 1, by blk_ext⟩
  refine Eq.trans (b := resAt x0 x1 x2 x3 x4 r n) ?_ rfl
  pointwise [k0_pay7, k0_pay6]
  rfl

/-- The normalization of the rows of `v` by their root mean square, scaled by `g`. -/
def normAt (v : Fin 1024 → EReal) (g : Vec Ideal S1x1024 .f32) (n : Fin 1024) : EReal :=
  v n * Ideal.rsqrt (Ideal.div (∑ k : Fin 1024, v k * v k) (Ideal.ofBits .f32 0x44800000#32) +
    Ideal.ofBits .f32 0x358637BD#32) * g (ix2 0 n)

def norm (v : FVec Ideal S512x1024 .f32) (g : Vec Ideal S1x1024 .f32) : FVec Ideal S512x1024 .bf16 := fun y =>
  normAt (fun k => v (ix2 (y 0) k)) g (y 1)

theorem norm_eq (v : FVec Ideal S512x1024 .f32) (g : Vec Ideal S1x1024 .f32) (i0) :
    k0_pay8 v (View.ld g (Rect.unit (s := S1x1024) ![0, 0] ![1, 1024] i0)) = norm v g := by
  funext y
  obtain ⟨r, n, rfl⟩ : ∃ (r : Fin 512) (n : Fin 1024), y = ix2 r n := ⟨y 0, y 1, by blk_ext⟩
  refine Eq.trans (b := normAt (fun k => v (ix2 r k)) g n) ?_ rfl
  pointwise [k0_pay8]
  rfl

theorem norm2_eq (v a : FVec Ideal S512x1024 .f32) (g : Vec Ideal S1x1024 .f32) (i0) :
    k0_pay140 v a (View.ld g (Rect.unit (s := S1x1024) ![0, 0] ![1, 1024] i0)) = norm (k0_pay139 v a) g := by
  funext y
  obtain ⟨r, n, rfl⟩ : ∃ (r : Fin 512) (n : Fin 1024), y = ix2 r n := ⟨y 0, y 1, by blk_ext⟩
  refine Eq.trans (b := normAt (fun k : Fin 1024 => (k0_pay139 v a : FVec Ideal S512x1024 .f32) (ix2 r k)) g n) ?_ rfl
  pointwise [k0_pay140, k0_pay139]
  rfl

theorem last_eq (v : FVec Ideal S512x1024 .f32) (h : FVec Ideal S512x1024 .bf16) (wg : Vec Ideal S1024x1024 .bf16)
    (p : Vec Ideal S512x256 .f32) (wp : Vec Ideal S256x1024 .bf16) (i0) (i1) (i2) (r : Fin 512) (n : Fin 1024) :
    k0_pay1 v h (View.ld wg (Rect.unit (s := S1024x1024) ![0, 0] ![1024, 1024] i0))
      (View.ld p (Rect.unit (s := S512x256) ![0, 0] ![512, 256] i1))
      (View.ld wp (Rect.unit (s := S256x1024) ![0, 0] ![256, 1024] i2)) (ix2 r n) =
      v (ix2 r n) + (∑ k : Fin 256, p (ix2 r k) * wp (ix2 k n)) *
        Ideal.logistic (∑ k : Fin 1024, h (ix2 r k) * wg (ix2 k n)) := by
  pointwise [k0_pay1]

/-! ## The whole block -/

theorem sum_blocks (f : ℕ → EReal) :
    (∑ j : Fin 256, f (0 + j.val)) + (∑ j : Fin 256, f (256 + j.val)) + (∑ j : Fin 256, f (512 + j.val)) +
      (∑ j : Fin 256, f (768 + j.val)) + (∑ j : Fin 256, f (1024 + j.val)) + (∑ j : Fin 256, f (1280 + j.val)) +
      (∑ j : Fin 256, f (1536 + j.val)) + (∑ j : Fin 256, f (1792 + j.val)) + (∑ j : Fin 256, f (2048 + j.val)) +
      (∑ j : Fin 256, f (2304 + j.val)) + (∑ j : Fin 256, f (2560 + j.val)) = ∑ j : Fin 2816, f j.val := by
  have e : ∀ n, ∑ j : Fin 256, f (n + j.val) = ∑ i ∈ Finset.range 256, f (n + i) := fun n =>
    (Finset.sum_range (fun i => f (n + i))).symm
  rw [← Finset.sum_range (fun i => f i)]
  simp only [e]
  simp only [Nat.zero_add]
  simp only [← Finset.sum_range_add, Nat.reduceAdd]

/-- Column `n` of row `r` of the block's second residual. -/
def mixAt (x0 : Vec Ideal S512x1024 .f32) (x1 : Vec Ideal S512x256 .bf16) (x2 x3 : Vec Ideal S512x384 .bf16)
    (x4 : Vec Ideal S1024x1024 .bf16) (x5 : Vec Ideal S1x1024 .f32) (x6 : Vec Ideal S1024x5632 .bf16)
    (x7 : Vec Ideal S3x5632 .f32) (x8 : Vec Ideal S1x5632 .f32) (x9 : Vec Ideal S2816x1024 .bf16)
    (t : Vec Ideal S8x5632 .f32) (r : Fin 512) (n : Fin 1024) : EReal :=
  resAt x0 x1 x2 x3 x4 r n +
    ∑ j : Fin 2816, term (norm (res x0 x1 x2 x3 x4) x5) x6 x7 x8 t x9 r n j.val

/-- Column `n` of row `r` of the block's output. -/
def outAt (x0 : Vec Ideal S512x1024 .f32) (x1 : Vec Ideal S512x256 .bf16) (x2 x3 : Vec Ideal S512x384 .bf16)
    (x4 : Vec Ideal S1024x1024 .bf16) (x5 : Vec Ideal S1x1024 .f32) (x6 : Vec Ideal S1024x5632 .bf16)
    (x7 : Vec Ideal S3x5632 .f32) (x8 : Vec Ideal S1x5632 .f32) (x9 : Vec Ideal S2816x1024 .bf16)
    (x10 : Vec Ideal S512x256 .f32) (x11 : Vec Ideal S1x1024 .f32) (x12 : Vec Ideal S1024x1024 .bf16)
    (x13 : Vec Ideal S256x1024 .bf16) (t : Vec Ideal S8x5632 .f32) (r : Fin 512) (n : Fin 1024) : EReal :=
  mixAt x0 x1 x2 x3 x4 x5 x6 x7 x8 x9 t r n + (∑ k : Fin 256, x10 (ix2 r k) * x13 (ix2 k n)) *
    Ideal.logistic (∑ k : Fin 1024, normAt (mixAt x0 x1 x2 x3 x4 x5 x6 x7 x8 x9 t r) x11 k * x12 (ix2 k n))

end Cert.ChannelIdeal.Point

end
-- ==== Proof.ChannelOut.lean ====
/- The channel mix's block  as a whole: its output from its steps, and the rows it keeps for the next tile. -/
module

public import proofs.«01_k».proof.Proof.ChannelPoint

@[expose] public section

set_option maxRecDepth 65536

noncomputable section

namespace Cert.ChannelIdeal.Out

open Idealize.ShloMosaic Idealize.ShloMosaic.TcCoe Cert.ChannelIdeal Cert.ChannelIdeal.Gen
open Cert.ChannelIdeal.Fold Cert.ChannelIdeal.Point

theorem keep (p : FVec Ideal S512x1024 .f32) (r : Fin 512) (n : Fin 1024) : k0_pay25 p (ix2 r n) = p (ix2 r n) := by
  pointwise [k0_pay25]

theorem accum (p a : FVec Ideal S512x1024 .f32) (r : Fin 512) (n : Fin 1024) :
    k0_pay49 p a (ix2 r n) = a (ix2 r n) + p (ix2 r n) := by
  pointwise [k0_pay49]

theorem mix (a b : FVec Ideal S512x1024 .f32) (r : Fin 512) (n : Fin 1024) :
    k0_pay139 a b (ix2 r n) = a (ix2 r n) + b (ix2 r n) := by
  pointwise [k0_pay139]

/-- The block's output from its steps. -/
theorem whole
    (x0 : Vec Ideal S512x1024 .f32) (x1 : Vec Ideal S512x256 .bf16) (x2 x3 : Vec Ideal S512x384 .bf16)
    (x4 : Vec Ideal S1024x1024 .bf16) (x5 : Vec Ideal S1x1024 .f32) (x6 : Vec Ideal S1024x5632 .bf16)
    (x7 : Vec Ideal S3x5632 .f32) (x8 : Vec Ideal S1x5632 .f32) (x9 : Vec Ideal S2816x1024 .bf16)
    (x10 : Vec Ideal S512x256 .f32) (x11 : Vec Ideal S1x1024 .f32) (x12 : Vec Ideal S1024x1024 .bf16)
    (x13 : Vec Ideal S256x1024 .bf16) (t : Vec Ideal S8x5632 .f32) (M : FVec Ideal S512x1024 .f32)
    (hM : ∀ (r : Fin 512) (n : Fin 1024), M (ix2 r n) = mixAt x0 x1 x2 x3 x4 x5 x6 x7 x8 x9 t r n) (i0) (i1) (i2) :
    k0_pay1 M (norm M x11) (View.ld x12 (Rect.unit (s := S1024x1024) ![0, 0] ![1024, 1024] i0))
      (View.ld x10 (Rect.unit (s := S512x256) ![0, 0] ![512, 256] i1))
      (View.ld x13 (Rect.unit (s := S256x1024) ![0, 0] ![256, 1024] i2)) =
      fun y => outAt x0 x1 x2 x3 x4 x5 x6 x7 x8 x9 x10 x11 x12 x13 t (y 0) (y 1) := by
  funext y
  obtain ⟨r, n, rfl⟩ : ∃ (r : Fin 512) (n : Fin 1024), y = ix2 r n := ⟨y 0, y 1, by blk_ext⟩
  refine (last_eq M (norm M x11) x12 x10 x13 i0 i1 i2 r n).trans ?_
  have hN : ∀ k : Fin 1024, norm M x11 (ix2 r k) = normAt (mixAt x0 x1 x2 x3 x4 x5 x6 x7 x8 x9 t r) x11 k := fun k =>
    congrArg (fun v => normAt v x11 k) (funext fun k => hM r k)
  simp only [hM, hN]
  rfl

/-- The rows a tile keeps for the next one: the last eight of its hidden layer before the convolution. -/
def tail (h : FVec Ideal S512x1024 .bf16) (w : Vec Ideal S1024x5632 .bf16) : Vec Ideal S8x5632 .f32 := fun y =>
  hid h w ⟨504 + (y 0).val, by have : (y 0).val < 8 := (y 0).isLt; omega⟩ (y 1)

theorem tail_piece (h : FVec Ideal S512x1024 .bf16) (w : Vec Ideal S1024x5632 .bf16) (o : ℕ) (i1) (i2)
    (x : (Rect.unit (s := S8x5632) ![0, o] ![8, 256] i2).shape.Idx) :
    k0_pay19 (k0_pay9 h (View.ld w (Rect.unit (s := S1024x5632) ![0, o] ![1024, 256] i1))) x =
      tail h w ((Rect.unit (s := S8x5632) ![0, o] ![8, 256] i2).emb x) := by
  obtain ⟨r, j, rfl⟩ : ∃ (r : Fin 8) (j : Fin 256), x = ix2 r j := ⟨x 0, x 1, by blk_ext⟩
  have hj : o + j.val < 5632 := by
    have : o + 256 ≤ 5632 := i1 1
    omega
  have hu : ∀ r : Fin 512, k0_pay9 h (View.ld w (Rect.unit (s := S1024x5632) ![0, o] ![1024, 256] i1)) (ix2 r j) =
      hid h w r ⟨o + j.val, hj⟩ := fun r => hid_eq h w o i1 r j hj
  generalize k0_pay9 h (View.ld w (Rect.unit (s := S1024x5632) ![0, o] ![1024, 256] i1)) = u at hu ⊢
  have e : (Rect.unit (s := S8x5632) ![0, o] ![8, 256] i2).emb (ix2 r j) = ix2 r ⟨o + j.val, hj⟩ := by blk_ext
  rw [e]
  pointwise [k0_pay19]
  rw [hu]
  rfl

/-- The stores of all the chunks' last rows, over any earlier stores, leave the rows the tile keeps. -/
theorem canon_tail (h : FVec Ideal S512x1024 .bf16) (w : Vec Ideal S1024x5632 .bf16)
    (L : List (View.Piece (Elt Ideal) S8x5632 .f32)) (y : S8x5632.Idx) :
    View.canon (
      ⟨Rect.unit ![0, 5376] ![8, 256] inb_S8x5632_S8x256_0_5376,
        k0_pay19 (k0_pay9 h (View.ld w (Rect.unit ![0, 5376] ![1024, 256] inb_S1024x5632_S1024x256_0_5376)))⟩ ::
      ⟨Rect.unit ![0, 2560] ![8, 256] inb_S8x5632_S8x256_0_2560,
        k0_pay19 (k0_pay9 h (View.ld w (Rect.unit ![0, 2560] ![1024, 256] inb_S1024x5632_S1024x256_0_2560)))⟩ ::
      ⟨Rect.unit ![0, 5120] ![8, 256] inb_S8x5632_S8x256_0_5120,
        k0_pay19 (k0_pay9 h (View.ld w (Rect.unit ![0, 5120] ![1024, 256] inb_S1024x5632_S1024x256_0_5120)))⟩ ::
      ⟨Rect.unit ![0, 2304] ![8, 256] inb_S8x5632_S8x256_0_2304,
        k0_pay19 (k0_pay9 h (View.ld w (Rect.unit ![0, 2304] ![1024, 256] inb_S1024x5632_S1024x256_0_2304)))⟩ ::
      ⟨Rect.unit ![0, 4864] ![8, 256] inb_S8x5632_S8x256_0_4864,
        k0_pay19 (k0_pay9 h (View.ld w (Rect.unit ![0, 4864] ![1024, 256] inb_S1024x5632_S1024x256_0_4864)))⟩ ::
      ⟨Rect.unit ![0, 2048] ![8, 256] inb_S8x5632_S8x256_0_2048,
        k0_pay19 (k0_pay9 h (View.ld w (Rect.unit ![0, 2048] ![1024, 256] inb_S1024x5632_S1024x256_0_2048)))⟩ ::
      ⟨Rect.unit ![0, 4608] ![8, 256] inb_S8x5632_S8x256_0_4608,
        k0_pay19 (k0_pay9 h (View.ld w (Rect.unit ![0, 4608] ![1024, 256] inb_S1024x5632_S1024x256_0_4608)))⟩ ::
      ⟨Rect.unit ![0, 1792] ![8, 256] inb_S8x5632_S8x256_0_1792,
        k0_pay19 (k0_pay9 h (View.ld w (Rect.unit ![0, 1792] ![1024, 256] inb_S1024x5632_S1024x256_0_1792)))⟩ ::
      ⟨Rect.unit ![0, 4352] ![8, 256] inb_S8x5632_S8x256_0_4352,
        k0_pay19 (k0_pay9 h (View.ld w (Rect.unit ![0, 4352] ![1024, 256] inb_S1024x5632_S1024x256_0_4352)))⟩ ::
      ⟨Rect.unit ![0, 1536] ![8, 256] inb_S8x5632_S8x256_0_1536,
        k0_pay19 (k0_pay9 h (View.ld w (Rect.unit ![0, 1536] ![1024, 256] inb_S1024x5632_S1024x256_0_1536)))⟩ ::
      ⟨Rect.unit ![0, 4096] ![8, 256] inb_S8x5632_S8x256_0_4096,
        k0_pay19 (k0_pay9 h (View.ld w (Rect.unit ![0, 4096] ![1024, 256] inb_S1024x5632_S1024x256_0_4096)))⟩ ::
      ⟨Rect.unit ![0, 1280] ![8, 256] inb_S8x5632_S8x256_0_1280,
        k0_pay19 (k0_pay9 h (View.ld w (Rect.unit ![0, 1280] ![1024, 256] inb_S1024x5632_S1024x256_0_1280)))⟩ ::
      ⟨Rect.unit ![0, 3840] ![8, 256] inb_S8x5632_S8x256_0_3840,
        k0_pay19 (k0_pay9 h (View.ld w (Rect.unit ![0, 3840] ![1024, 256] inb_S1024x5632_S1024x256_0_3840)))⟩ ::
      ⟨Rect.unit ![0, 1024] ![8, 256] inb_S8x5632_S8x256_0_1024,
        k0_pay19 (k0_pay9 h (View.ld w (Rect.unit ![0, 1024] ![1024, 256] inb_S1024x5632_S1024x256_0_1024)))⟩ ::
      ⟨Rect.unit ![0, 3584] ![8, 256] inb_S8x5632_S8x256_0_3584,
        k0_pay19 (k0_pay9 h (View.ld w (Rect.unit ![0, 3584] ![1024, 256] inb_S1024x5632_S1024x256_0_3584)))⟩ ::
      ⟨Rect.unit ![0, 768] ![8, 256] inb_S8x5632_S8x256_0_768,
        k0_pay19 (k0_pay9 h (View.ld w (Rect.unit ![0, 768] ![1024, 256] inb_S1024x5632_S1024x256_0_768)))⟩ ::
      ⟨Rect.unit ![0, 3328] ![8, 256] inb_S8x5632_S8x256_0_3328,
        k0_pay19 (k0_pay9 h (View.ld w (Rect.unit ![0, 3328] ![1024, 256] inb_S1024x5632_S1024x256_0_3328)))⟩ ::
      ⟨Rect.unit ![0, 512] ![8, 256] inb_S8x5632_S8x256_0_512,
        k0_pay19 (k0_pay9 h (View.ld w (Rect.unit ![0, 512] ![1024, 256] inb_S1024x5632_S1024x256_0_512)))⟩ ::
      ⟨Rect.unit ![0, 3072] ![8, 256] inb_S8x5632_S8x256_0_3072,
        k0_pay19 (k0_pay9 h (View.ld w (Rect.unit ![0, 3072] ![1024, 256] inb_S1024x5632_S1024x256_0_3072)))⟩ ::
      ⟨Rect.unit ![0, 256] ![8, 256] inb_S8x5632_S8x256_0_256,
        k0_pay19 (k0_pay9 h (View.ld w (Rect.unit ![0, 256] ![1024, 256] inb_S1024x5632_S1024x256_0_256)))⟩ ::
      ⟨Rect.unit ![0, 2816] ![8, 256] inb_S8x5632_S8x256_0_2816,
        k0_pay19 (k0_pay9 h (View.ld w (Rect.unit ![0, 2816] ![1024, 256] inb_S1024x5632_S1024x256_0_2816)))⟩ ::
      ⟨Rect.unit ![0, 0] ![8, 256] inb_S8x5632_S8x256_0_0,
        k0_pay19 (k0_pay9 h (View.ld w (Rect.unit ![0, 0] ![1024, 256] inb_S1024x5632_S1024x256_0_0)))⟩ ::
      L) y = tail h w y :=
  View.canon_append_of_piecesOf (tail h w) L
    [_, _, _, _, _, _, _, _, _, _, _, _, _, _, _, _, _, _, _, _, _, _]
    ⟨tail_piece h w 5376 inb_S1024x5632_S1024x256_0_5376 inb_S8x5632_S8x256_0_5376,
      tail_piece h w 2560 inb_S1024x5632_S1024x256_0_2560 inb_S8x5632_S8x256_0_2560,
      tail_piece h w 5120 inb_S1024x5632_S1024x256_0_5120 inb_S8x5632_S8x256_0_5120,
      tail_piece h w 2304 inb_S1024x5632_S1024x256_0_2304 inb_S8x5632_S8x256_0_2304,
      tail_piece h w 4864 inb_S1024x5632_S1024x256_0_4864 inb_S8x5632_S8x256_0_4864,
      tail_piece h w 2048 inb_S1024x5632_S1024x256_0_2048 inb_S8x5632_S8x256_0_2048,
      tail_piece h w 4608 inb_S1024x5632_S1024x256_0_4608 inb_S8x5632_S8x256_0_4608,
      tail_piece h w 1792 inb_S1024x5632_S1024x256_0_1792 inb_S8x5632_S8x256_0_1792,
      tail_piece h w 4352 inb_S1024x5632_S1024x256_0_4352 inb_S8x5632_S8x256_0_4352,
      tail_piece h w 1536 inb_S1024x5632_S1024x256_0_1536 inb_S8x5632_S8x256_0_1536,
      tail_piece h w 4096 inb_S1024x5632_S1024x256_0_4096 inb_S8x5632_S8x256_0_4096,
      tail_piece h w 1280 inb_S1024x5632_S1024x256_0_1280 inb_S8x5632_S8x256_0_1280,
      tail_piece h w 3840 inb_S1024x5632_S1024x256_0_3840 inb_S8x5632_S8x256_0_3840,
      tail_piece h w 1024 inb_S1024x5632_S1024x256_0_1024 inb_S8x5632_S8x256_0_1024,
      tail_piece h w 3584 inb_S1024x5632_S1024x256_0_3584 inb_S8x5632_S8x256_0_3584,
      tail_piece h w 768 inb_S1024x5632_S1024x256_0_768 inb_S8x5632_S8x256_0_768,
      tail_piece h w 3328 inb_S1024x5632_S1024x256_0_3328 inb_S8x5632_S8x256_0_3328,
      tail_piece h w 512 inb_S1024x5632_S1024x256_0_512 inb_S8x5632_S8x256_0_512,
      tail_piece h w 3072 inb_S1024x5632_S1024x256_0_3072 inb_S8x5632_S8x256_0_3072,
      tail_piece h w 256 inb_S1024x5632_S1024x256_0_256 inb_S8x5632_S8x256_0_256,
      tail_piece h w 2816 inb_S1024x5632_S1024x256_0_2816 inb_S8x5632_S8x256_0_2816,
      tail_piece h w 0 inb_S1024x5632_S1024x256_0_0 inb_S8x5632_S8x256_0_0,
      trivial⟩ y (View.cover_of_tiledL _ ![8, 256] (by sl_kernel_rfl) y)

end Cert.ChannelIdeal.Out

end
-- ==== Proof.ChannelCaseA.lean ====
/- The channel mix's block at a batch's first tile, where the rows kept from the tile before are zero. Both the block's output and the rows it keeps for the next tile. -/
module

public import proofs.«01_k».proof.Proof.ChannelOut

@[expose] public section

set_option maxRecDepth 65536

noncomputable section

namespace Cert.ChannelIdeal.Out

open Idealize.ShloMosaic Idealize.ShloMosaic.TcCoe Cert.ChannelIdeal Cert.ChannelIdeal.Gen
open Cert.ChannelIdeal.Fold Cert.ChannelIdeal.Point

set_option maxHeartbeats 400000 in
theorem out_A
    (c : Dev nD) (i : grid0.Coords) (arg1 : Memref sig .tc .vmem S512x1024 .f32) (harg1 : arg1.IsWhole) (arg2 : Memref
    sig .tc .vmem S512x256 .bf16) (harg2 : arg2.IsWhole) (arg3 : Memref sig .tc .vmem S512x384 .bf16) (harg3 :
    arg3.IsWhole) (arg4 : Memref sig .tc .vmem S512x384 .bf16) (harg4 : arg4.IsWhole) (arg5 : Memref sig .tc .vmem
    S1024x1024 .bf16) (harg5 : arg5.IsWhole) (arg6 : Memref sig .tc .vmem S1x1024 .f32) (harg6 : arg6.IsWhole) (arg7 :
    Memref sig .tc .vmem S1024x5632 .bf16) (harg7 : arg7.IsWhole) (arg8 : Memref sig .tc .vmem S3x5632 .f32) (harg8 :
    arg8.IsWhole) (arg9 : Memref sig .tc .vmem S1x5632 .f32) (harg9 : arg9.IsWhole) (arg10 : Memref sig .tc .vmem
    S2816x1024 .bf16) (harg10 : arg10.IsWhole) (arg11 : Memref sig .tc .vmem S512x256 .f32) (harg11 : arg11.IsWhole)
    (arg12 : Memref sig .tc .vmem S1x1024 .f32) (harg12 : arg12.IsWhole) (arg13 : Memref sig .tc .vmem S1024x1024
    .bf16) (harg13 : arg13.IsWhole) (arg14 : Memref sig .tc .vmem S256x1024 .bf16) (harg14 : arg14.IsWhole) (arg15 :
    Memref sig .tc .vmem S512x1024 .f32) (harg15 : arg15.IsWhole) (arg16 : Memref sig .tc .vmem S512x1024 .bf16)
    (harg16 : arg16.IsWhole) (arg17 : Memref sig .tc .vmem S512x1024 .bf16) (harg17 : arg17.IsWhole) (arg18 : Memref
    sig .tc .vmem S2x520x256 .f32) (harg18 : arg18.IsWhole) (arg19 : Memref sig .tc .vmem S8x5632 .f32) (harg19 :
    arg19.IsWhole) (arg20 : Memref sig .tc .vmem S512x1024 .f32) (harg20 : arg20.IsWhole) (arg21 : Memref sig .tc
    .vmem S512x1024 .f32) (harg21 : arg21.IsWhole) (hc0 : cond0_0 i) (x0 : Vec Ideal S512x1024 .f32) (x1 : Vec Ideal
    S512x256 .bf16) (x2 : Vec Ideal S512x384 .bf16) (x3 : Vec Ideal S512x384 .bf16) (x4 : Vec Ideal S1024x1024 .bf16)
    (x5 : Vec Ideal S1x1024 .f32) (x6 : Vec Ideal S1024x5632 .bf16) (x7 : Vec Ideal S3x5632 .f32) (x8 : Vec Ideal
    S1x5632 .f32) (x9 : Vec Ideal S2816x1024 .bf16) (x10 : Vec Ideal S512x256 .f32) (x11 : Vec Ideal S1x1024 .f32)
    (x12 : Vec Ideal S1024x1024 .bf16) (x13 : Vec Ideal S256x1024 .bf16) :
    out0_A_14
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 hc0 x0 x1 x2 x3 x4 x5 x6 x7 x8 x9 x10 x11 x12 x13 =
      fun y => outAt x0 x1 x2 x3 x4 x5 x6 x7 x8 x9 x10 x11 x12 x13 (k0_pay2 (F := Ideal)) (y 0) (y 1) := by
  unfold out0_A_14
  frame_open
  simp (disch := decide) only [↓ View.readCov_skip, ↓ View.readCov_cons_toLoadRect, ↓ View.readCov_fill, ↓ read_rows,
    ↓ read_cat, read_in, ups, up_split, halos, mains, tails, convs, convs_split, chunks, chunk_fold, part_fold, res_eq, norm_eq, norm2_eq,
    conv_eq]
  rw [View.read_writes_junk_eq_canon, View.canon_cons_unit_lit' _ _ _ (by decide)]
  refine whole x0 x1 x2 x3 x4 x5 x6 x7 x8 x9 x10 x11 x12 x13 (k0_pay2 (F := Ideal)) _ (fun r n => ?_) _ _ _
  rw [mix]
  refine congrArg (fun v : EReal => resAt x0 x1 x2 x3 x4 r n + v) ?_
  simp (disch := decide) only [accum, keep, part_eq]
  exact sum_blocks (term (norm (res x0 x1 x2 x3 x4) x5) x6 x7 x8 (k0_pay2 (F := Ideal)) x9 r n)

set_option maxHeartbeats 400000 in
theorem tail_A
    (c : Dev nD) (i : grid0.Coords) (arg1 : Memref sig .tc .vmem S512x1024 .f32) (harg1 : arg1.IsWhole) (arg2 : Memref
    sig .tc .vmem S512x256 .bf16) (harg2 : arg2.IsWhole) (arg3 : Memref sig .tc .vmem S512x384 .bf16) (harg3 :
    arg3.IsWhole) (arg4 : Memref sig .tc .vmem S512x384 .bf16) (harg4 : arg4.IsWhole) (arg5 : Memref sig .tc .vmem
    S1024x1024 .bf16) (harg5 : arg5.IsWhole) (arg6 : Memref sig .tc .vmem S1x1024 .f32) (harg6 : arg6.IsWhole) (arg7 :
    Memref sig .tc .vmem S1024x5632 .bf16) (harg7 : arg7.IsWhole) (arg8 : Memref sig .tc .vmem S3x5632 .f32) (harg8 :
    arg8.IsWhole) (arg9 : Memref sig .tc .vmem S1x5632 .f32) (harg9 : arg9.IsWhole) (arg10 : Memref sig .tc .vmem
    S2816x1024 .bf16) (harg10 : arg10.IsWhole) (arg11 : Memref sig .tc .vmem S512x256 .f32) (harg11 : arg11.IsWhole)
    (arg12 : Memref sig .tc .vmem S1x1024 .f32) (harg12 : arg12.IsWhole) (arg13 : Memref sig .tc .vmem S1024x1024
    .bf16) (harg13 : arg13.IsWhole) (arg14 : Memref sig .tc .vmem S256x1024 .bf16) (harg14 : arg14.IsWhole) (arg15 :
    Memref sig .tc .vmem S512x1024 .f32) (harg15 : arg15.IsWhole) (arg16 : Memref sig .tc .vmem S512x1024 .bf16)
    (harg16 : arg16.IsWhole) (arg17 : Memref sig .tc .vmem S512x1024 .bf16) (harg17 : arg17.IsWhole) (arg18 : Memref
    sig .tc .vmem S2x520x256 .f32) (harg18 : arg18.IsWhole) (arg19 : Memref sig .tc .vmem S8x5632 .f32) (harg19 :
    arg19.IsWhole) (arg20 : Memref sig .tc .vmem S512x1024 .f32) (harg20 : arg20.IsWhole) (arg21 : Memref sig .tc
    .vmem S512x1024 .f32) (harg21 : arg21.IsWhole) (hc0 : cond0_0 i) (x0 : Vec Ideal S512x1024 .f32) (x1 : Vec Ideal
    S512x256 .bf16) (x2 : Vec Ideal S512x384 .bf16) (x3 : Vec Ideal S512x384 .bf16) (x4 : Vec Ideal S1024x1024 .bf16)
    (x5 : Vec Ideal S1x1024 .f32) (x6 : Vec Ideal S1024x5632 .bf16) (x7 : Vec Ideal S3x5632 .f32) (x8 : Vec Ideal
    S1x5632 .f32) (x9 : Vec Ideal S2816x1024 .bf16) (x10 : Vec Ideal S512x256 .f32) (x11 : Vec Ideal S1x1024 .f32)
    (x12 : Vec Ideal S1024x1024 .bf16) (x13 : Vec Ideal S256x1024 .bf16) :
    sout0_A_3
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 hc0 x0 x1 x2 x3 x4 x5 x6 x7 x8 x9 x10 x11 x12 x13 =
      tail (norm (res x0 x1 x2 x3 x4) x5) x6 := by
  unfold sout0_A_3
  frame_open
  simp (disch := decide) only [↓ View.readCov_skip, ↓ View.readCov_cons_toLoadRect, ↓ View.readCov_fill, ↓ read_rows,
    ↓ read_cat, read_in, ups, up_split, tails, res_eq, norm_eq]
  rw [View.read_writes_junk_eq_canon]
  funext y
  generalize norm (res x0 x1 x2 x3 x4) x5 = h
  rw [canon_tail]

end Cert.ChannelIdeal.Out

end
-- ==== Proof.ChannelCaseB.lean ====
/- The channel mix's block at a tile with one before it in its batch, which kept its last rows. Both the block's output and the rows it keeps for the next tile. -/
module

public import proofs.«01_k».proof.Proof.ChannelOut

@[expose] public section

set_option maxRecDepth 65536

noncomputable section

namespace Cert.ChannelIdeal.Out

open Idealize.ShloMosaic Idealize.ShloMosaic.TcCoe Cert.ChannelIdeal Cert.ChannelIdeal.Gen
open Cert.ChannelIdeal.Fold Cert.ChannelIdeal.Point

set_option maxHeartbeats 400000 in
theorem out_B
    (c : Dev nD) (i : grid0.Coords) (arg1 : Memref sig .tc .vmem S512x1024 .f32) (harg1 : arg1.IsWhole) (arg2 : Memref
    sig .tc .vmem S512x256 .bf16) (harg2 : arg2.IsWhole) (arg3 : Memref sig .tc .vmem S512x384 .bf16) (harg3 :
    arg3.IsWhole) (arg4 : Memref sig .tc .vmem S512x384 .bf16) (harg4 : arg4.IsWhole) (arg5 : Memref sig .tc .vmem
    S1024x1024 .bf16) (harg5 : arg5.IsWhole) (arg6 : Memref sig .tc .vmem S1x1024 .f32) (harg6 : arg6.IsWhole) (arg7 :
    Memref sig .tc .vmem S1024x5632 .bf16) (harg7 : arg7.IsWhole) (arg8 : Memref sig .tc .vmem S3x5632 .f32) (harg8 :
    arg8.IsWhole) (arg9 : Memref sig .tc .vmem S1x5632 .f32) (harg9 : arg9.IsWhole) (arg10 : Memref sig .tc .vmem
    S2816x1024 .bf16) (harg10 : arg10.IsWhole) (arg11 : Memref sig .tc .vmem S512x256 .f32) (harg11 : arg11.IsWhole)
    (arg12 : Memref sig .tc .vmem S1x1024 .f32) (harg12 : arg12.IsWhole) (arg13 : Memref sig .tc .vmem S1024x1024
    .bf16) (harg13 : arg13.IsWhole) (arg14 : Memref sig .tc .vmem S256x1024 .bf16) (harg14 : arg14.IsWhole) (arg15 :
    Memref sig .tc .vmem S512x1024 .f32) (harg15 : arg15.IsWhole) (arg16 : Memref sig .tc .vmem S512x1024 .bf16)
    (harg16 : arg16.IsWhole) (arg17 : Memref sig .tc .vmem S512x1024 .bf16) (harg17 : arg17.IsWhole) (arg18 : Memref
    sig .tc .vmem S2x520x256 .f32) (harg18 : arg18.IsWhole) (arg19 : Memref sig .tc .vmem S8x5632 .f32) (harg19 :
    arg19.IsWhole) (arg20 : Memref sig .tc .vmem S512x1024 .f32) (harg20 : arg20.IsWhole) (arg21 : Memref sig .tc
    .vmem S512x1024 .f32) (harg21 : arg21.IsWhole) (hc0 : ¬cond0_0 i) (x0 : Vec Ideal S512x1024 .f32) (x1 : Vec Ideal
    S512x256 .bf16) (x2 : Vec Ideal S512x384 .bf16) (x3 : Vec Ideal S512x384 .bf16) (x4 : Vec Ideal S1024x1024 .bf16)
    (x5 : Vec Ideal S1x1024 .f32) (x6 : Vec Ideal S1024x5632 .bf16) (x7 : Vec Ideal S3x5632 .f32) (x8 : Vec Ideal
    S1x5632 .f32) (x9 : Vec Ideal S2816x1024 .bf16) (x10 : Vec Ideal S512x256 .f32) (x11 : Vec Ideal S1x1024 .f32)
    (x12 : Vec Ideal S1024x1024 .bf16) (x13 : Vec Ideal S256x1024 .bf16) (xs3 : Vec Ideal S8x5632 .f32) :
    out0_B_14
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 hc0 x0 x1 x2 x3 x4 x5 x6 x7 x8 x9 x10 x11 x12 x13 xs3 =
      fun y => outAt x0 x1 x2 x3 x4 x5 x6 x7 x8 x9 x10 x11 x12 x13 xs3 (y 0) (y 1) := by
  unfold out0_B_14
  frame_open
  simp (disch := decide) only [↓ View.readCov_skip, ↓ View.readCov_cons_toLoadRect, ↓ View.readCov_fill, ↓ read_rows,
    ↓ read_cat, read_in, ups, up_split, halos, mains, tails, convs, convs_split, chunks, chunk_fold, part_fold, res_eq, norm_eq, norm2_eq,
    conv_eq]
  rw [View.read_writes_junk_eq_canon, View.canon_cons_unit_lit' _ _ _ (by decide)]
  refine whole x0 x1 x2 x3 x4 x5 x6 x7 x8 x9 x10 x11 x12 x13 xs3 _ (fun r n => ?_) _ _ _
  rw [mix]
  refine congrArg (fun v : EReal => resAt x0 x1 x2 x3 x4 r n + v) ?_
  simp (disch := decide) only [accum, keep, part_eq]
  exact sum_blocks (term (norm (res x0 x1 x2 x3 x4) x5) x6 x7 x8 xs3 x9 r n)

set_option maxHeartbeats 400000 in
theorem tail_B
    (c : Dev nD) (i : grid0.Coords) (arg1 : Memref sig .tc .vmem S512x1024 .f32) (harg1 : arg1.IsWhole) (arg2 : Memref
    sig .tc .vmem S512x256 .bf16) (harg2 : arg2.IsWhole) (arg3 : Memref sig .tc .vmem S512x384 .bf16) (harg3 :
    arg3.IsWhole) (arg4 : Memref sig .tc .vmem S512x384 .bf16) (harg4 : arg4.IsWhole) (arg5 : Memref sig .tc .vmem
    S1024x1024 .bf16) (harg5 : arg5.IsWhole) (arg6 : Memref sig .tc .vmem S1x1024 .f32) (harg6 : arg6.IsWhole) (arg7 :
    Memref sig .tc .vmem S1024x5632 .bf16) (harg7 : arg7.IsWhole) (arg8 : Memref sig .tc .vmem S3x5632 .f32) (harg8 :
    arg8.IsWhole) (arg9 : Memref sig .tc .vmem S1x5632 .f32) (harg9 : arg9.IsWhole) (arg10 : Memref sig .tc .vmem
    S2816x1024 .bf16) (harg10 : arg10.IsWhole) (arg11 : Memref sig .tc .vmem S512x256 .f32) (harg11 : arg11.IsWhole)
    (arg12 : Memref sig .tc .vmem S1x1024 .f32) (harg12 : arg12.IsWhole) (arg13 : Memref sig .tc .vmem S1024x1024
    .bf16) (harg13 : arg13.IsWhole) (arg14 : Memref sig .tc .vmem S256x1024 .bf16) (harg14 : arg14.IsWhole) (arg15 :
    Memref sig .tc .vmem S512x1024 .f32) (harg15 : arg15.IsWhole) (arg16 : Memref sig .tc .vmem S512x1024 .bf16)
    (harg16 : arg16.IsWhole) (arg17 : Memref sig .tc .vmem S512x1024 .bf16) (harg17 : arg17.IsWhole) (arg18 : Memref
    sig .tc .vmem S2x520x256 .f32) (harg18 : arg18.IsWhole) (arg19 : Memref sig .tc .vmem S8x5632 .f32) (harg19 :
    arg19.IsWhole) (arg20 : Memref sig .tc .vmem S512x1024 .f32) (harg20 : arg20.IsWhole) (arg21 : Memref sig .tc
    .vmem S512x1024 .f32) (harg21 : arg21.IsWhole) (hc0 : ¬cond0_0 i) (x0 : Vec Ideal S512x1024 .f32) (x1 : Vec Ideal
    S512x256 .bf16) (x2 : Vec Ideal S512x384 .bf16) (x3 : Vec Ideal S512x384 .bf16) (x4 : Vec Ideal S1024x1024 .bf16)
    (x5 : Vec Ideal S1x1024 .f32) (x6 : Vec Ideal S1024x5632 .bf16) (x7 : Vec Ideal S3x5632 .f32) (x8 : Vec Ideal
    S1x5632 .f32) (x9 : Vec Ideal S2816x1024 .bf16) (x10 : Vec Ideal S512x256 .f32) (x11 : Vec Ideal S1x1024 .f32)
    (x12 : Vec Ideal S1024x1024 .bf16) (x13 : Vec Ideal S256x1024 .bf16) (xs3 : Vec Ideal S8x5632 .f32) :
    sout0_B_3
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 hc0 x0 x1 x2 x3 x4 x5 x6 x7 x8 x9 x10 x11 x12 x13 xs3 =
      tail (norm (res x0 x1 x2 x3 x4) x5) x6 := by
  unfold sout0_B_3
  frame_open
  simp (disch := decide) only [↓ View.readCov_skip, ↓ View.readCov_cons_toLoadRect, ↓ View.readCov_fill, ↓ read_rows,
    ↓ read_cat, read_in, ups, up_split, tails, res_eq, norm_eq]
  rw [View.read_writes_junk_eq_canon]
  funext y
  generalize norm (res x0 x1 x2 x3 x4) x5 = h
  rw [canon_tail]

end Cert.ChannelIdeal.Out

end
-- ==== Proof.ChannelRef.lean ====
/- The channel mix's reference read at an index: one position's residual, its hidden layer, the convolution over the
   positions before it, the projection back and the gated second projection. -/
module

public import proofs.«01_k».proof.Proof.Gen.ChannelRefIdeal.Run
public import Idealize.ShloMosaic.Lib.Pipeline.ValueKit
public import Idealize.ShloMosaic.Lib.Pointwise

@[expose] public section

set_option maxRecDepth 16384

noncomputable section

namespace Cert.ChannelRefIdeal.Rows

open Idealize.ShloMosaic Idealize.ShloMosaic.TcCoe Cert.ChannelRefIdeal Cert.ChannelRefIdeal.Gen

/-- The arrays the channel mix is computed from. -/
structure Args where
  x : FVec Ideal S8x4096x1024 .f32
  oa : FVec Ideal S8x4096x256 .bf16
  ob : FVec Ideal S8x4096x384 .bf16
  oc : FVec Ideal S8x4096x384 .bf16
  wo : FVec Ideal S1024x1024 .f32
  g : FVec Ideal S1024 .f32
  wu : FVec Ideal S1024x5632 .f32
  cw : FVec Ideal S3x5632 .f32
  cb : FVec Ideal S5632 .f32
  wd : FVec Ideal S2816x1024 .f32
  p : FVec Ideal S8x4096x256 .f32
  gp : FVec Ideal S1024 .f32
  wg : FVec Ideal S1024x1024 .f32
  wp : FVec Ideal S256x1024 .f32

/-- A row normalized by its root mean square and scaled. -/
def normRow (v g : Fin 1024 → EReal) (n : Fin 1024) : EReal :=
  v n * Ideal.rsqrt (Ideal.div (∑ k : Fin 1024, v k * v k) (Ideal.ofBits .f32 0x44800000#32) +
    Ideal.ofBits .f32 0x358637BD#32) * g n

namespace Args

variable (a : Args)

/-- The three head groups' outputs at a position, side by side. -/
def cat (b : Fin 8) (s : Fin 4096) (k : Fin 1024) : EReal :=
  if h : k.val < 256 then a.oa (ix3 b s ⟨k.val, h⟩)
  else if h' : k.val < 640 then a.ob (ix3 b s ⟨k.val - 256, by omega⟩)
  else a.oc (ix3 b s ⟨k.val - 640, by omega⟩)

/-- The first residual. -/
def res (b : Fin 8) (s : Fin 4096) (n : Fin 1024) : EReal :=
  a.x (ix3 b s n) + ∑ k : Fin 1024, a.cat b s k * a.wo (ix2 k n)

/-- The hidden layer before the convolution. -/
def hid (b : Fin 8) (s : Fin 4096) (j : Fin 5632) : EReal :=
  ∑ k : Fin 1024, normRow (a.res b s) (fun n => a.g (ix1 n)) k * a.wu (ix2 k j)

/-- The hidden layer `2 - d` positions earlier, nothing before the first. -/
def back (d : ℕ) (b : Fin 8) (s : Fin 4096) (j : Fin 5632) : EReal :=
  if h : 2 ≤ s.val + d ∧ s.val + d - 2 < 4096 then a.hid b ⟨s.val + d - 2, h.2⟩ j else 0

/-- The convolution over three positions. -/
def conv (b : Fin 8) (s : Fin 4096) (j : Fin 5632) : EReal :=
  a.cb (ix1 j) + a.cw (ix2 0 j) * a.back 0 b s j + a.cw (ix2 1 j) * a.back 1 b s j + a.cw (ix2 2 j) * a.back 2 b s j

/-- The gated hidden layer. -/
def act (b : Fin 8) (s : Fin 4096) (j : Fin 2816) : EReal :=
  a.conv b s ⟨j.val, by omega⟩ * Ideal.logistic (a.conv b s ⟨j.val, by omega⟩) * a.conv b s ⟨2816 + j.val, by omega⟩

/-- The second residual. -/
def mix (b : Fin 8) (s : Fin 4096) (n : Fin 1024) : EReal :=
  a.res b s n + ∑ j : Fin 2816, a.act b s j * a.wd (ix2 j n)

/-- The layer's output. -/
def out (b : Fin 8) (s : Fin 4096) (n : Fin 1024) : EReal :=
  a.mix b s n + (∑ k : Fin 256, a.p (ix3 b s k) * a.wp (ix2 k n)) *
    Ideal.logistic (∑ k : Fin 1024, normRow (a.mix b s) (fun n => a.gp (ix1 n)) k * a.wg (ix2 k n))

end Args

/-- The normalization as the reference computes it. -/
def normed (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

theorem normed_at (v : FVec Ideal S8x4096x1024 .f32) (g : FVec Ideal S1024 .f32) (b : Fin 8) (s : Fin 4096) (n : Fin 1024) :
    normed v g (ix3 b s n) = normRow (fun k => v (ix3 b s k)) (fun k => g (ix1 k)) n := by
  unfold normRow
  pointwise [normed]

/-- The hidden layer with two empty positions put before each sequence. -/
def padded (h : FVec Ideal S8x4096x1024 .f32) (w : FVec Ideal S1024x5632 .f32) : FVec Ideal S8x4098x5632 .f32 :=
  pad S8x4098x5632 ![0, 2, 0] ![0, 0, 0] ![0, 0, 0] (Host.dotGeneral dot_S8x4096x1024_S1024x5632_S8x4096x5632_2_0_01_1_n_n none h w) (sitofp .f32 (constantI S_ 32 0#32)) pads_S8x4096x5632_S8x4098x5632_000_200_000 h_S_

theorem zero_word : (FloatOps.sitofp FTy.f32 (0#32 : BitVec 32) : Ideal .f32) = (0 : EReal) := by
  show (((0#32 : BitVec 32).toInt : ℝ) : EReal) = 0
  simp

theorem padded_at (h : FVec Ideal S8x4096x1024 .f32) (w : FVec Ideal S1024x5632 .f32) (b : Fin 8) (s : Fin 4098) (j : Fin 5632) :
    padded h w (ix3 b s j) = if g : 2 ≤ s.val ∧ s.val - 2 < 4096 then ∑ k : Fin 1024, h (ix3 b ⟨s.val - 2, g.2⟩ k) * w (ix2 k j) else 0 := by
  pointwise [padded]
  rw [show (FloatOps.sitofp FTy.f32 (0#32 : BitVec 32) : Ideal .f32) = 0 from zero_word]

/-- The convolution as the reference computes it from the padded hidden layer. -/
def convolved (u : FVec Ideal S8x4098x5632 .f32) (cw : FVec Ideal S3x5632 .f32) (cb : FVec Ideal S5632 .f32) : FVec Ideal S8x4096x5632 .f32 :=
  addf (addf (addf (broadcastInDim S8x4096x5632 ![0, 1, 2] bcast_S1x1x5632_S8x4096x5632_0_1_2 (broadcastInDim S1x1x5632 ![2] bcast_S5632_S1x1x5632_2 cb)) (mulf (broadcastInDim S8x4096x5632 ![0, 1, 2] bcast_S1x1x5632_S8x4096x5632_0_1_2 (broadcastInDim S1x1x5632 ![2] bcast_S5632_S1x1x5632_2 (shapeCast _ (extractStridedSlice S1x5632 ![0, 0] cw slices_S3x5632_S1x5632_0_0) shapeCasts_S1x5632_S5632))) (extractStridedSlice S8x4096x5632 ![0, 0, 0] u slices_S8x4098x5632_S8x4096x5632_0_0_0))) (mulf (broadcastInDim S8x4096x5632 ![0, 1, 2] bcast_S1x1x5632_S8x4096x5632_0_1_2 (broadcastInDim S1x1x5632 ![2] bcast_S5632_S1x1x5632_2 (shapeCast _ (extractStridedSlice S1x5632 ![1, 0] cw slices_S3x5632_S1x5632_1_0) shapeCasts_S1x5632_S5632))) (extractStridedSlice S8x4096x5632 ![0, 1, 0] u slices_S8x4098x5632_S8x4096x5632_0_1_0))) (mulf (broadcastInDim S8x4096x5632 ![0, 1, 2] bcast_S1x1x5632_S8x4096x5632_0_1_2 (broadcastInDim S1x1x5632 ![2] bcast_S5632_S1x1x5632_2 (shapeCast _ (extractStridedSlice S1x5632 ![2, 0] cw slices_S3x5632_S1x5632_2_0) shapeCasts_S1x5632_S5632))) (extractStridedSlice S8x4096x5632 ![0, 2, 0] u slices_S8x4098x5632_S8x4096x5632_0_2_0))

theorem convolved_at (u : FVec Ideal S8x4098x5632 .f32) (cw : FVec Ideal S3x5632 .f32) (cb : FVec Ideal S5632 .f32) (b : Fin 8) (s : Fin 4096) (j : Fin 5632) :
    convolved u cw cb (ix3 b s j) = cb (ix1 j) + cw (ix2 0 j) * u (ix3 b ⟨s.val, by omega⟩ j) + cw (ix2 1 j) * u (ix3 b ⟨s.val + 1, by omega⟩ j) + cw (ix2 2 j) * u (ix3 b ⟨s.val + 2, by omega⟩ j) := by
  pointwise [convolved]
  rw [show (⟨1 + s.val, by omega⟩ : Fin 4098) = ⟨s.val + 1, by omega⟩ from Fin.ext (Nat.add_comm _ _),
    show (⟨2 + s.val, by omega⟩ : Fin 4098) = ⟨s.val + 2, by omega⟩ from Fin.ext (Nat.add_comm _ _)]

/-- The gating and the projection back as the reference computes them. -/
def projected (v : FVec Ideal S8x4096x1024 .f32) (u : FVec Ideal S8x4096x5632 .f32) (wd : FVec Ideal S2816x1024 .f32) : FVec Ideal S8x4096x1024 .f32 :=
  addf v (Host.dotGeneral dot_S8x4096x2816_S2816x1024_S8x4096x1024_2_0_01_1_n_n none (mulf (mulf (extractStridedSlice S8x4096x2816 ![0, 0, 0] u slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] u slices_S8x4096x5632_S8x4096x2816_0_0_0)))))) (extractStridedSlice S8x4096x2816 ![0, 0, 2816] u slices_S8x4096x5632_S8x4096x2816_0_0_2816)) wd)

theorem projected_at (v : FVec Ideal S8x4096x1024 .f32) (u : FVec Ideal S8x4096x5632 .f32) (wd : FVec Ideal S2816x1024 .f32) (b : Fin 8) (s : Fin 4096) (n : Fin 1024) :
    projected v u wd (ix3 b s n) = v (ix3 b s n) + ∑ j : Fin 2816, u (ix3 b s ⟨j.val, by omega⟩) * Ideal.logistic (u (ix3 b s ⟨j.val, by omega⟩)) * u (ix3 b s ⟨2816 + j.val, by omega⟩) * wd (ix2 j n) := by
  unfold Ideal.logistic
  pointwise [projected]

/-- The gated second projection as the reference computes it, the rows batch after batch. -/
def gated (v h : FVec Ideal S8x4096x1024 .f32) (p : FVec Ideal S8x4096x256 .f32) (wp : FVec Ideal S256x1024 .f32) (wg : FVec Ideal S1024x1024 .f32) : FVec Ideal S32768x1024 .f32 :=
  shapeCast _ (addf v (mulf (Host.dotGeneral dot_S8x4096x256_S256x1024_S8x4096x1024_2_0_01_1_n_n none p wp) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (Host.dotGeneral dot_S8x4096x1024_S1024x1024_S8x4096x1024_2_0_01_1_n_n none h wg))))))) shapeCasts_S8x4096x1024_S32768x1024

theorem gated_at (v h : FVec Ideal S8x4096x1024 .f32) (p : FVec Ideal S8x4096x256 .f32) (wp : FVec Ideal S256x1024 .f32) (wg : FVec Ideal S1024x1024 .f32) (R : Fin 32768) (b : Fin 8) (s : Fin 4096) (n : Fin 1024) (hR : R.val = 4096 * b.val + s.val) :
    gated v h p wp wg (ix2 R n) = v (ix3 b s n) + (∑ k : Fin 256, p (ix3 b s k) * wp (ix2 k n)) * Ideal.logistic (∑ k : Fin 1024, h (ix3 b s k) * wg (ix2 k n)) := by
  have hb : b = ⟨R.val / 4096, Nat.div_lt_of_lt_mul R.isLt⟩ := Fin.ext (by show b.val = R.val / 4096; omega)
  have hs : s = ⟨R.val % 4096, Nat.mod_lt _ (by decide)⟩ := Fin.ext (by show s.val = R.val % 4096; omega)
  rw [hb, hs]
  unfold Ideal.logistic
  pointwise [gated]

/-- The joined outputs' projection added to the input, as the reference computes it. -/
def joined (a : Args) : FVec Ideal S8x4096x1024 .f32 :=
  addf a.x (Host.dotGeneral dot_S8x4096x1024_S1024x1024_S8x4096x1024_2_0_01_1_n_n none (extf .f32 (concatenate S8x4096x1024 2 [⟨S8x4096x256, a.oa⟩, ⟨S8x4096x384, a.ob⟩, ⟨S8x4096x384, a.oc⟩] concatenates_S8x4096x256_S8x4096x384_S8x4096x384_S8x4096x1024_d2) bitsLt_bf16_f32) a.wo)

theorem joined_at (a : Args) (b : Fin 8) (s : Fin 4096) (n : Fin 1024) : joined a (ix3 b s n) = a.res b s n := by
  unfold Args.res
  pointwise [joined]
  refine congrArg _ (Finset.sum_congr rfl fun k _ => congrArg (· * a.wo (ix2 k n)) ?_)
  unfold Args.cat
  by_cases h : k.val < 256
  · rw [dif_pos h, dif_pos h]
  · rw [dif_neg h, dif_neg h]
    by_cases h' : k.val < 640
    · rw [dif_pos h', dif_pos (by omega)]
    · rw [dif_neg h', dif_neg (by omega)]
      exact congrArg (fun x => a.oc (ix3 b s x)) (Fin.ext (by show k.val - 256 - 384 = k.val - 640; omega))

/-- The whole layer as the reference computes it. -/
def layer (a : Args) : FVec Ideal S32768x1024 .f32 :=
  let m := projected (joined a) (convolved (padded (normed (joined a) a.g) a.wu) a.cw a.cb) a.wd
  gated m (normed m a.gp) a.p a.wp a.wg

theorem conv_at (a : Args) (b : Fin 8) (s : Fin 4096) (j : Fin 5632) :
    convolved (padded (normed (joined a) a.g) a.wu) a.cw a.cb (ix3 b s j) = a.conv b s j := by
  have e : ∀ (d : ℕ) (h : s.val + d < 4098), padded (normed (joined a) a.g) a.wu (ix3 b ⟨s.val + d, h⟩ j) = a.back d b s j := by
    intro d h
    rw [padded_at, Args.back]
    by_cases g : 2 ≤ s.val + d ∧ s.val + d - 2 < 4096
    · rw [dif_pos g, dif_pos g, Args.hid]
      refine Finset.sum_congr rfl fun k _ => ?_
      rw [normed_at]
      exact congrArg (fun v => normRow v _ k * _) (funext fun k => joined_at a b _ k)
    · rw [dif_neg g, dif_neg g]
  rw [convolved_at, e 1, e 2, Args.conv]
  exact congrArg (fun x => _ + _ * x + _ + _) (e 0 (by omega))

theorem mix_at (a : Args) (b : Fin 8) (s : Fin 4096) (n : Fin 1024) :
    projected (joined a) (convolved (padded (normed (joined a) a.g) a.wu) a.cw a.cb) a.wd (ix3 b s n) = a.mix b s n := by
  rw [projected_at, Args.mix, joined_at]
  simp only [conv_at]
  rfl

theorem layer_at (a : Args) (R : Fin 32768) (b : Fin 8) (s : Fin 4096) (n : Fin 1024) (hR : R.val = 4096 * b.val + s.val) :
    layer a (ix2 R n) = a.out b s n := by
  unfold layer Args.out
  rw [gated_at _ _ _ _ _ R b s n hR]
  simp only [normed_at, mix_at]

/-- The arrays the reference is launched on. -/
def args (m : (ℓ : Loc nD τ sig) → Buf (Elt Ideal) ℓ) (c : Dev nD) : Args where
  x := m ((c.tc : Thread nD τ).loc main_arg0)
  oa := m ((c.tc : Thread nD τ).loc main_arg1)
  ob := m ((c.tc : Thread nD τ).loc main_arg2)
  oc := m ((c.tc : Thread nD τ).loc main_arg3)
  wo := m ((c.tc : Thread nD τ).loc main_arg4)
  g := m ((c.tc : Thread nD τ).loc main_arg5)
  wu := m ((c.tc : Thread nD τ).loc main_arg6)
  cw := m ((c.tc : Thread nD τ).loc main_arg7)
  cb := m ((c.tc : Thread nD τ).loc main_arg8)
  wd := m ((c.tc : Thread nD τ).loc main_arg9)
  p := m ((c.tc : Thread nD τ).loc main_arg10)
  gp := m ((c.tc : Thread nD τ).loc main_arg11)
  wg := m ((c.tc : Thread nD τ).loc main_arg12)
  wp := m ((c.tc : Thread nD τ).loc main_arg13)

/-- The reference's second residual, in these parts. -/
theorem mix_eq (m : (ℓ : Loc nD τ sig) → Buf (Elt Ideal) ℓ) (c : Dev nD) :
    Value.res_main_v47 (StableHlo.launchContents m c) = projected (joined (args m c)) (convolved (padded (normed
      (joined (args m c)) (args m c).g) (args m c).wu) (args m c).cw (args m c).cb) (args m c).wd := by
  unfold Value.res_main_v47 Value.res_main_v42 Value.res_main_v41 Value.res_main_v18 Value.res_main_v3 projected convolved padded
    normed joined
  rfl

end Cert.ChannelRefIdeal.Rows

end
-- ==== Proof.ChannelHost.lean ====
/- The channel mix's operands: where each block of a grid point lies in the program's arguments. -/
module

public import proofs.«01_k».proof.Proof.Gen.ChannelIdeal.Value
public import proofs.«01_k».proof.Proof.ChannelRef
public import Idealize.ShloMosaic.Lib.Pipeline.ValueKit
public import Idealize.ShloMosaic.Lib.Pointwise

@[expose] public section

set_option maxRecDepth 16384

noncomputable section

namespace Cert.ChannelIdeal.Operands

open Idealize.ShloMosaic Idealize.ShloMosaic.TcCoe Cert.ChannelIdeal Cert.ChannelIdeal.Gen

variable (m : (ℓ : Loc nD τ sig) → Buf (Elt Ideal) ℓ) (c : Dev nD)

/-- The arrays the kernel is launched on. -/
def args : Cert.ChannelRefIdeal.Rows.Args where
  x := m ((c : Thread nD τ).loc main_arg0)
  oa := m ((c : Thread nD τ).loc main_arg1)
  ob := m ((c : Thread nD τ).loc main_arg2)
  oc := m ((c : Thread nD τ).loc main_arg3)
  wo := m ((c : Thread nD τ).loc main_arg4)
  g := m ((c : Thread nD τ).loc main_arg5)
  wu := m ((c : Thread nD τ).loc main_arg6)
  cw := m ((c : Thread nD τ).loc main_arg7)
  cb := m ((c : Thread nD τ).loc main_arg8)
  wd := m ((c : Thread nD τ).loc main_arg9)
  p := m ((c : Thread nD τ).loc main_arg10)
  gp := m ((c : Thread nD τ).loc main_arg11)
  wg := m ((c : Thread nD τ).loc main_arg12)
  wp := m ((c : Thread nD τ).loc main_arg13)

/-- Where the blocks of a grid point lie. -/
theorem idx : ∀ t : Fin cfg0.N,
    win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![0, 0]
    ∧ win0_12.index t = ![0, 0]
    ∧ win0_13.index t = ![0, 0]
    ∧ win0_14.index t = ![t.val, 0] :=
  (by decide +kernel : ∀ t : Fin grid0.N, _)

/-- The input as the kernel's call is given it: the argument itself, laid out row after row. -/
theorem host0 (R : Fin 32768) (b : Fin 8) (s : Fin 4096) (n : Fin 1024) (hR : R.val = 4096 * b.val + s.val) :
    (V m c main_v0 : FVec Ideal S32768x1024 .f32) (ix2 R n) = (args m c).x (ix3 b s n) := by
  have hb : b = ⟨R.val / 4096, Nat.div_lt_of_lt_mul R.isLt⟩ := Fin.ext (by show b.val = R.val / 4096; omega)
  have hs : s = ⟨R.val % 4096, Nat.mod_lt _ (by decide)⟩ := Fin.ext (by show s.val = R.val % 4096; omega)
  rw [hb, hs]
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the input. -/
theorem blk0 (t : Fin cfg0.N) (r : Fin 512) (b : Fin 8) (s : Fin 4096) (n : Fin 1024)
    (hr : 512 * t.val + r.val = 4096 * b.val + s.val) :
    (iblk m c 0 t : FVec Ideal S512x1024 .f32) (ix2 r n) = (args m c).x (ix3 b s n) := by
  rw [← host0 m c ⟨512 * t.val + r.val, by omega⟩ b s n hr]
  blk_ext [iblk, idx t]

/-- The first head group as the kernel's call is given it: the argument itself, laid out row after row. -/
theorem host1 (R : Fin 32768) (b : Fin 8) (s : Fin 4096) (n : Fin 256) (hR : R.val = 4096 * b.val + s.val) :
    (V m c main_v1 : FVec Ideal S32768x256 .bf16) (ix2 R n) = (args m c).oa (ix3 b s n) := by
  have hb : b = ⟨R.val / 4096, Nat.div_lt_of_lt_mul R.isLt⟩ := Fin.ext (by show b.val = R.val / 4096; omega)
  have hs : s = ⟨R.val % 4096, Nat.mod_lt _ (by decide)⟩ := Fin.ext (by show s.val = R.val % 4096; omega)
  rw [hb, hs]
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the first head group. -/
theorem blk1 (t : Fin cfg0.N) (r : Fin 512) (b : Fin 8) (s : Fin 4096) (n : Fin 256)
    (hr : 512 * t.val + r.val = 4096 * b.val + s.val) :
    (iblk m c 1 t : FVec Ideal S512x256 .bf16) (ix2 r n) = (args m c).oa (ix3 b s n) := by
  rw [← host1 m c ⟨512 * t.val + r.val, by omega⟩ b s n hr]
  blk_ext [iblk, idx t]

/-- The second head group as the kernel's call is given it: the argument itself, laid out row after row. -/
theorem host2 (R : Fin 32768) (b : Fin 8) (s : Fin 4096) (n : Fin 384) (hR : R.val = 4096 * b.val + s.val) :
    (V m c main_v2 : FVec Ideal S32768x384 .bf16) (ix2 R n) = (args m c).ob (ix3 b s n) := by
  have hb : b = ⟨R.val / 4096, Nat.div_lt_of_lt_mul R.isLt⟩ := Fin.ext (by show b.val = R.val / 4096; omega)
  have hs : s = ⟨R.val % 4096, Nat.mod_lt _ (by decide)⟩ := Fin.ext (by show s.val = R.val % 4096; omega)
  rw [hb, hs]
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the second head group. -/
theorem blk2 (t : Fin cfg0.N) (r : Fin 512) (b : Fin 8) (s : Fin 4096) (n : Fin 384)
    (hr : 512 * t.val + r.val = 4096 * b.val + s.val) :
    (iblk m c 2 t : FVec Ideal S512x384 .bf16) (ix2 r n) = (args m c).ob (ix3 b s n) := by
  rw [← host2 m c ⟨512 * t.val + r.val, by omega⟩ b s n hr]
  blk_ext [iblk, idx t]

/-- The third head group as the kernel's call is given it: the argument itself, laid out row after row. -/
theorem host3 (R : Fin 32768) (b : Fin 8) (s : Fin 4096) (n : Fin 384) (hR : R.val = 4096 * b.val + s.val) :
    (V m c main_v3 : FVec Ideal S32768x384 .bf16) (ix2 R n) = (args m c).oc (ix3 b s n) := by
  have hb : b = ⟨R.val / 4096, Nat.div_lt_of_lt_mul R.isLt⟩ := Fin.ext (by show b.val = R.val / 4096; omega)
  have hs : s = ⟨R.val % 4096, Nat.mod_lt _ (by decide)⟩ := Fin.ext (by show s.val = R.val % 4096; omega)
  rw [hb, hs]
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the third head group. -/
theorem blk3 (t : Fin cfg0.N) (r : Fin 512) (b : Fin 8) (s : Fin 4096) (n : Fin 384)
    (hr : 512 * t.val + r.val = 4096 * b.val + s.val) :
    (iblk m c 3 t : FVec Ideal S512x384 .bf16) (ix2 r n) = (args m c).oc (ix3 b s n) := by
  rw [← host3 m c ⟨512 * t.val + r.val, by omega⟩ b s n hr]
  blk_ext [iblk, idx t]

/-- The output projection as the kernel's call is given it: the argument itself, laid out row after row. -/
theorem host4 (r : Fin 1024) (n : Fin 1024) : (V m c main_v4 : FVec Ideal S1024x1024 .bf16) (ix2 r n) = (args m c).wo (ix2 r n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the output projection. -/
theorem blk4 (t : Fin cfg0.N) (r : Fin 1024) (n : Fin 1024) : (iblk m c 4 t : FVec Ideal S1024x1024 .bf16) (ix2 r n) = (args m c).wo (ix2 r n) := by
  rw [← host4 m c r n]
  blk_ext [iblk, idx t]

/-- The first norm's gains as the kernel's call is given it: the argument itself, laid out row after row. -/
theorem host5 (n : Fin 1024) : (V m c main_v5 : FVec Ideal S1x1024 .f32) (ix2 0 n) = (args m c).g (ix1 n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the first norm's gains. -/
theorem blk5 (t : Fin cfg0.N) (n : Fin 1024) : (iblk m c 5 t : FVec Ideal S1x1024 .f32) (ix2 0 n) = (args m c).g (ix1 n) := by
  rw [← host5 m c n]
  blk_ext [iblk, idx t]

/-- The up projection as the kernel's call is given it: the argument itself, laid out row after row. -/
theorem host6 (r : Fin 1024) (n : Fin 5632) : (V m c main_v6 : FVec Ideal S1024x5632 .bf16) (ix2 r n) = (args m c).wu (ix2 r n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the up projection. -/
theorem blk6 (t : Fin cfg0.N) (r : Fin 1024) (n : Fin 5632) : (iblk m c 6 t : FVec Ideal S1024x5632 .bf16) (ix2 r n) = (args m c).wu (ix2 r n) := by
  rw [← host6 m c r n]
  blk_ext [iblk, idx t]

/-- The convolution's taps as the kernel's call is given it: the argument itself, laid out row after row. -/
theorem host7 (r : Fin 3) (n : Fin 5632) : (V m c main_arg7 : FVec Ideal S3x5632 .f32) (ix2 r n) = (args m c).cw (ix2 r n) := by
  exact congrFun (V_main_arg7 m c) (ix2 r n)

/-- A grid point's block of the convolution's taps. -/
theorem blk7 (t : Fin cfg0.N) (r : Fin 3) (n : Fin 5632) : (iblk m c 7 t : FVec Ideal S3x5632 .f32) (ix2 r n) = (args m c).cw (ix2 r n) := by
  rw [← host7 m c r n]
  blk_ext [iblk, idx t]

/-- The convolution's bias as the kernel's call is given it: the argument itself, laid out row after row. -/
theorem host8 (n : Fin 5632) : (V m c main_v7 : FVec Ideal S1x5632 .f32) (ix2 0 n) = (args m c).cb (ix1 n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the convolution's bias. -/
theorem blk8 (t : Fin cfg0.N) (n : Fin 5632) : (iblk m c 8 t : FVec Ideal S1x5632 .f32) (ix2 0 n) = (args m c).cb (ix1 n) := by
  rw [← host8 m c n]
  blk_ext [iblk, idx t]

/-- The down projection as the kernel's call is given it: the argument itself, laid out row after row. -/
theorem host9 (r : Fin 2816) (n : Fin 1024) : (V m c main_v8 : FVec Ideal S2816x1024 .bf16) (ix2 r n) = (args m c).wd (ix2 r n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the down projection. -/
theorem blk9 (t : Fin cfg0.N) (r : Fin 2816) (n : Fin 1024) : (iblk m c 9 t : FVec Ideal S2816x1024 .bf16) (ix2 r n) = (args m c).wd (ix2 r n) := by
  rw [← host9 m c r n]
  blk_ext [iblk, idx t]

/-- The embedding rows as the kernel's call is given it: the argument itself, laid out row after row. -/
theorem host10 (R : Fin 32768) (b : Fin 8) (s : Fin 4096) (n : Fin 256) (hR : R.val = 4096 * b.val + s.val) :
    (V m c main_v9 : FVec Ideal S32768x256 .f32) (ix2 R n) = (args m c).p (ix3 b s n) := by
  have hb : b = ⟨R.val / 4096, Nat.div_lt_of_lt_mul R.isLt⟩ := Fin.ext (by show b.val = R.val / 4096; omega)
  have hs : s = ⟨R.val % 4096, Nat.mod_lt _ (by decide)⟩ := Fin.ext (by show s.val = R.val % 4096; omega)
  rw [hb, hs]
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the embedding rows. -/
theorem blk10 (t : Fin cfg0.N) (r : Fin 512) (b : Fin 8) (s : Fin 4096) (n : Fin 256)
    (hr : 512 * t.val + r.val = 4096 * b.val + s.val) :
    (iblk m c 10 t : FVec Ideal S512x256 .f32) (ix2 r n) = (args m c).p (ix3 b s n) := by
  rw [← host10 m c ⟨512 * t.val + r.val, by omega⟩ b s n hr]
  blk_ext [iblk, idx t]

/-- The second norm's gains as the kernel's call is given it: the argument itself, laid out row after row. -/
theorem host11 (n : Fin 1024) : (V m c main_v10 : FVec Ideal S1x1024 .f32) (ix2 0 n) = (args m c).gp (ix1 n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the second norm's gains. -/
theorem blk11 (t : Fin cfg0.N) (n : Fin 1024) : (iblk m c 11 t : FVec Ideal S1x1024 .f32) (ix2 0 n) = (args m c).gp (ix1 n) := by
  rw [← host11 m c n]
  blk_ext [iblk, idx t]

/-- The gate's weights as the kernel's call is given it: the argument itself, laid out row after row. -/
theorem host12 (r : Fin 1024) (n : Fin 1024) : (V m c main_v11 : FVec Ideal S1024x1024 .bf16) (ix2 r n) = (args m c).wg (ix2 r n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the gate's weights. -/
theorem blk12 (t : Fin cfg0.N) (r : Fin 1024) (n : Fin 1024) : (iblk m c 12 t : FVec Ideal S1024x1024 .bf16) (ix2 r n) = (args m c).wg (ix2 r n) := by
  rw [← host12 m c r n]
  blk_ext [iblk, idx t]

/-- The embedding's projection as the kernel's call is given it: the argument itself, laid out row after row. -/
theorem host13 (r : Fin 256) (n : Fin 1024) : (V m c main_v12 : FVec Ideal S256x1024 .bf16) (ix2 r n) = (args m c).wp (ix2 r n) := by
  show StableHlo.after hostOps0 (fun b => m (c, b)) (Proc.tc.devRef _) _ = _
  simp only [hostOps0]
  after_results_simp
  (try simp only [StableHlo.TRef.toBuf, StableHlo.TRef.ofBuf, cast_eq])
  pointwise
  rfl

/-- A grid point's block of the embedding's projection. -/
theorem blk13 (t : Fin cfg0.N) (r : Fin 256) (n : Fin 1024) : (iblk m c 13 t : FVec Ideal S256x1024 .bf16) (ix2 r n) = (args m c).wp (ix2 r n) := by
  rw [← host13 m c r n]
  blk_ext [iblk, idx t]

end Cert.ChannelIdeal.Operands

end
-- ==== Proof.ChannelValue.lean ====
/- The channel mix's result array is its reference's: each tile's rows are the layer's rows, the eight rows carried from one
   tile to the next being the hidden layer's last rows of the tile before. -/
module

public import proofs.«01_k».proof.Proof.ChannelCaseA
public import proofs.«01_k».proof.Proof.ChannelCaseB
public import proofs.«01_k».proof.Proof.ChannelHost

@[expose] public section

set_option maxRecDepth 16384

noncomputable section

namespace Cert.ChannelIdeal.Final

open Idealize.ShloMosaic Idealize.ShloMosaic.TcCoe Cert.ChannelIdeal Cert.ChannelIdeal.Gen Cert.ChannelIdeal.Operands
open Cert.ChannelRefIdeal.Rows (normRow layer layer_at)

variable (m : (ℓ : Loc nD τ sig) → Buf (Elt Ideal) ℓ) (c : Dev nD)

/-- A tile's normalized residual. -/
def normal (t : Fin cfg0.N) : FVec Ideal S512x1024 .bf16 :=
  Point.norm (Point.res (iblk m c 0 t) (iblk m c 1 t) (iblk m c 2 t) (iblk m c 3 t) (iblk m c 4 t)) (iblk m c 5 t)

/-- What a tile leaves for the next: the last eight rows of its hidden layer. -/
theorem carried (t : Fin cfg0.N) : (outsAt0 m c t.val t.isLt).2 = Out.tail (normal m c t) (iblk m c 6 t) := by
  by_cases h : t.val % 8 = 0
  · rw [outsAt0_A m c t h]
    dsimp only
    rw [Out.tail_A]
    rfl
  · rw [outsAt0_B m c t h]
    dsimp only
    rw [Out.tail_B]
    rfl

section Tile

variable (t : Fin cfg0.N) (r : Fin 512) (b : Fin 8) (s : Fin 4096) (hr : 512 * t.val + r.val = 4096 * b.val + s.val)

include hr

theorem res_at (n : Fin 1024) :
    Point.resAt (iblk m c 0 t) (iblk m c 1 t) (iblk m c 2 t) (iblk m c 3 t) (iblk m c 4 t) r n = (args m c).res b s n := by
  unfold Point.resAt Cert.ChannelRefIdeal.Rows.Args.res
  rw [blk0 m c t r b s n hr]
  refine congrArg _ (Finset.sum_congr rfl fun k _ => ?_)
  rw [blk4 m c t k n]
  refine congrArg (· * _) ?_
  unfold Fold.catAt Cert.ChannelRefIdeal.Rows.Args.cat
  by_cases h : k.val < 256
  · rw [dif_pos h, dif_pos h, blk1 m c t r b s _ hr]
  · rw [dif_neg h, dif_neg h]
    by_cases h' : k.val < 640
    · rw [dif_pos h', dif_pos h', blk2 m c t r b s _ hr]
    · rw [dif_neg h', dif_neg h', blk3 m c t r b s _ hr]

theorem hid_at (j : Fin 5632) : Point.hid (normal m c t) (iblk m c 6 t) r j = (args m c).hid b s j := by
  unfold Point.hid Cert.ChannelRefIdeal.Rows.Args.hid
  refine Finset.sum_congr rfl fun k _ => ?_
  rw [blk6 m c t k j]
  refine congrArg (· * _) ?_
  refine Eq.trans (b := Point.normAt (Point.resAt (iblk m c 0 t) (iblk m c 1 t) (iblk m c 2 t) (iblk m c 3 t) (iblk m c 4 t) r)
    (iblk m c 5 t) k) rfl ?_
  unfold Point.normAt normRow
  rw [blk5 m c t k]
  simp only [res_at m c t r b s hr]

end Tile

/-- The rows a tile starts from: the hidden layer's rows just before the tile, nothing before a sequence's first row. -/
def Starts (t : Fin cfg0.N) (v : Vec Ideal S8x5632 .f32) : Prop :=
  ∀ (i : Fin 8) (j : Fin 5632) (b : Fin 8), b.val = t.val / 8 →
    v (ix2 i j) = if h : 8 ≤ 512 * (t.val % 8) + i.val then
      (args m c).hid b ⟨512 * (t.val % 8) + i.val - 8, by omega⟩ j else 0

theorem starts_zero (t : Fin cfg0.N) (h : t.val % 8 = 0) : Starts m c t (k0_pay2 (F := Ideal)) := by
  intro i j b _
  rw [dif_neg (by omega)]
  pointwise [k0_pay2]

theorem starts_next (t : Fin cfg0.N) (h : ¬t.val % 8 = 0) :
    Starts m c t (outsAt0 m c (t.val - 1) (Nat.lt_of_le_of_lt (Nat.sub_le _ _) t.isLt)).2 := by
  intro i j b hb
  rw [dif_pos (by omega)]
  refine (congrFun (carried m c ⟨t.val - 1, Nat.lt_of_le_of_lt (Nat.sub_le _ _) t.isLt⟩) (ix2 i j)).trans ?_
  exact hid_at m c ⟨t.val - 1, _⟩ ⟨504 + i.val, by omega⟩ b ⟨512 * (t.val % 8) + i.val - 8, by omega⟩
    (by show 512 * (t.val - 1) + (504 + i.val) = 4096 * b.val + (512 * (t.val % 8) + i.val - 8); omega) j

section Row

variable (t : Fin cfg0.N) (v : Vec Ideal S8x5632 .f32) (hv : Starts m c t v) (r : Fin 512) (b : Fin 8) (s : Fin 4096)
  (hr : 512 * t.val + r.val = 4096 * b.val + s.val)

include hv hr

theorem back_at (d : ℕ) (hd : d < 2) (j : Fin 5632) :
    Point.back (6 + d) (normal m c t) (iblk m c 6 t) v r j = (args m c).back d b s j := by
  have hs := s.isLt
  have hr' := r.isLt
  unfold Point.back Cert.ChannelRefIdeal.Rows.Args.back
  by_cases h : r.val + (6 + d) < 8
  · rw [dif_pos h, hv ⟨r.val + (6 + d), h⟩ j b (by omega)]
    by_cases g : 2 ≤ s.val + d ∧ s.val + d - 2 < 4096
    · rw [dif_pos (show 8 ≤ 512 * (t.val % 8) + (r.val + (6 + d)) by omega), dif_pos g]
      exact congrArg (fun x => (args m c).hid b x j) (Fin.ext (by
        show 512 * (t.val % 8) + (r.val + (6 + d)) - 8 = s.val + d - 2; omega))
    · rw [dif_neg (show ¬8 ≤ 512 * (t.val % 8) + (r.val + (6 + d)) by omega), dif_neg g]
  · rw [dif_neg h, dif_pos (by omega), dif_pos (by omega)]
    exact hid_at m c t _ b _ (by
      show 512 * t.val + (r.val + (6 + d) - 8) = 4096 * b.val + (s.val + d - 2); omega) j

theorem conv_at (j : Fin 5632) :
    Point.conv (normal m c t) (iblk m c 6 t) (iblk m c 7 t) (iblk m c 8 t) v r j = (args m c).conv b s j := by
  unfold Point.conv Cert.ChannelRefIdeal.Rows.Args.conv
  rw [blk8 m c t j, blk7 m c t 0 j, blk7 m c t 1 j, blk7 m c t 2 j, back_at m c t v hv r b s hr 0 (by decide) j,
    back_at m c t v hv r b s hr 1 (by decide) j, hid_at m c t r b s hr j]
  refine congrArg₂ (fun x y : EReal => x + y) rfl (congrArg₂ (fun x y : EReal => x * y) rfl ?_)
  unfold Cert.ChannelRefIdeal.Rows.Args.back
  rw [dif_pos ⟨by omega, by omega⟩]
  rfl

theorem mix_at (n : Fin 1024) :
    Point.mixAt (iblk m c 0 t) (iblk m c 1 t) (iblk m c 2 t) (iblk m c 3 t) (iblk m c 4 t) (iblk m c 5 t) (iblk m c 6 t)
      (iblk m c 7 t) (iblk m c 8 t) (iblk m c 9 t) v r n = (args m c).mix b s n := by
  unfold Point.mixAt Cert.ChannelRefIdeal.Rows.Args.mix
  rw [res_at m c t r b s hr n]
  refine congrArg _ (Finset.sum_congr rfl fun j _ => ?_)
  unfold Point.term
  rw [dif_pos j.isLt, blk9 m c t j n]
  refine congrArg (· * _) ?_
  unfold Point.act Cert.ChannelRefIdeal.Rows.Args.act
  have e := conv_at m c t v hv r b s hr
  unfold normal at e
  rw [e, e]

theorem out_at (n : Fin 1024) :
    Point.outAt (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) v r n =
      (args m c).out b s n := by
  unfold Point.outAt Cert.ChannelRefIdeal.Rows.Args.out
  rw [mix_at m c t v hv r b s hr n]
  refine congrArg₂ (fun x y => _ + x * Ideal.logistic y) (Finset.sum_congr rfl fun k _ => ?_)
    (Finset.sum_congr rfl fun k _ => ?_)
  · rw [blk10 m c t r b s k hr, blk13 m c t k n]
  · rw [blk12 m c t k n]
    refine congrArg (· * _) ?_
    unfold Point.normAt normRow
    rw [blk11 m c t k]
    simp only [mix_at m c t v hv r b s hr]

end Row

/-- A tile's output, row by row. -/
theorem point (t : Fin cfg0.N) (r : Fin 512) (n : Fin 1024) (b : Fin 8) (s : Fin 4096)
    (hr : 512 * t.val + r.val = 4096 * b.val + s.val) :
    (outsAt0 m c t.val t.isLt).1 (ix2 r n) = (args m c).out b s n := by
  by_cases h : t.val % 8 = 0
  · rw [outsAt0_A m c t h]
    dsimp only
    rw [Out.out_A]
    exact out_at m c t _ (starts_zero m c t h) r b s hr n
  · have hv := starts_next m c t h
    rw [outsAt0_B m c t h]
    dsimp only
    rw [Out.out_B]
    exact out_at m c t _ hv r b s hr n

/-- THE RESULT ARRAY. -/
theorem final : (dats m 0 c).arrAt 14 cfg0.N = layer (args m c) := by
  refine (dats m 0 c).arrAt_eq_of_covers 14 _ (by decide +kernel) fun t _ y => ?_
  blk_simp
  rw [after0_14]
  have ht : t.val < 64 := t.isLt
  have y0 : (y 0).val < 512 := (y 0).isLt
  have y1 : (y 1).val < 1024 := (y 1).isLt
  have hy : (y : S512x1024.Idx) = ix2 ⟨(y 0).val, y0⟩ ⟨(y 1).val, y1⟩ := by blk_ext
  have he : ((win0_14.blk t).view.emb y : S32768x1024.Idx) = ix2 ⟨512 * t.val + (y 0).val, by omega⟩ ⟨(y 1).val, y1⟩ := by
    blk_ext [idx t]
  have e : 512 * t.val + (y 0).val = 4096 * (t.val / 8) + (512 * (t.val % 8) + (y 0).val) := by omega
  exact (congrArg (outsAt0 m c t.val t.isLt).1 hy).trans ((point m c t _ _ ⟨t.val / 8, by omega⟩
    ⟨512 * (t.val % 8) + (y 0).val, by omega⟩ e).trans ((layer_at (args m c) _ _ _ _ e).symm.trans
      (congrArg (layer (args m c)) he.symm)))

end Cert.ChannelIdeal.Final

end
-- ==== Proof.ChannelClaim.lean ====
/- The channel mix's equality with its reference, from the two programs' runs. -/
module

public import proofs.«01_k».proof.Defs
public import proofs.«01_k».proof.Proof.ChannelValue
public import Idealize.ShloMosaic.Lib.Claim

@[expose] public section

set_option maxRecDepth 16384

noncomputable section

namespace Cert.Proof

open Idealize.ShloMosaic Idealize.SL.Sem

/-- The kernel's result array and the reference's last array are the same layer of the arguments. -/
theorem channel_algebraic : Cert.algebraic_ChannelIdeal_ChannelRefIdeal
    (hChannelIdeal := Cert.ChannelIdeal.Gen.facts) (hChannelRefIdeal := Cert.ChannelRefIdeal.Gen.facts) := by
  pair_intro
  · run_from Cert.ChannelIdeal.Value.run_blocks m g
  · run_from Cert.ChannelRefIdeal.Value.run m' g'
    rw [Cert.ChannelIdeal.Final.final m c, Cert.ChannelRefIdeal.Rows.mix_eq m' c]
    obtain ⟨h0, h1, h2, h3, h4, h5, h6, h7, h8, h9, h10, h11, h12, h13⟩ := hagree c
    have e : Cert.ChannelIdeal.Operands.args m c = Cert.ChannelRefIdeal.Rows.args m' c := by
      unfold Cert.ChannelIdeal.Operands.args Cert.ChannelRefIdeal.Rows.args
      rw [h0, h1, h2, h3, h4, h5, h6, h7, h8, h9, h10, h11, h12, h13]
    rw [← e]
    rfl

end Cert.Proof

end
-- ==== Proof.DiffIndex.lean ====
/- Where the differential attention's loops and loads stand: how many blocks each loop takes at a query tile, the offsets of
   every load in closed form, and the kernel's integer words as the numbers they stand for. -/
module

public import proofs.«01_k».proof.Proof.Gen.DiffIdeal.Loops
public import Idealize.ShloMosaic.Lib.WordCmp

@[expose] public section

noncomputable section

namespace Cert.DiffIdeal.Index

open Idealize.ShloMosaic

theorem trips1 : ∀ i : grid0.Coords, (k0_t1_loop i).trips = (i 2).val / 2 := by decide +kernel

theorem trips2 : ∀ i : grid0.Coords, (k0_t2_loop i).trips = 0 := by decide +kernel

theorem trips3 : ∀ i : grid0.Coords, (k0_t3_loop i).trips = (i 2).val - 2 * ((i 2).val / 2) := by decide +kernel

theorem trips4 : ∀ i : grid0.Coords, (k0_t4_loop i).trips = 0 := by decide +kernel

theorem off1 : ∀ (i : grid0.Coords) (k : Fin (k0_t1_loop i).trips), k0_off1 i k = ![0, 1024 * k.val, 0] := by
  decide +kernel

theorem off3 : ∀ (i : grid0.Coords) (k : Fin (k0_t3_loop i).trips),
    k0_off3 i k = ![0, 1024 * ((i 2).val / 2) + 512 * k.val, 0] := by decide +kernel

/-- The first key of a wide block, as a word. -/
theorem word1 : ∀ (i : grid0.Coords) (k : Fin (k0_t1_loop i).trips),
    Scalar.muli (Scf.iv 0#32 1#32 k) 1024#32 = BitVec.ofNat 32 (1024 * k.val) := by decide +kernel

/-- The first key of a narrow block, as a word. -/
theorem word3 : ∀ (i : grid0.Coords) (k : Fin (k0_t3_loop i).trips),
    Scalar.muli (Scf.iv (k0_t3_loop i).lb 1#32 k) 512#32 = BitVec.ofNat 32 (1024 * ((i 2).val / 2) + 512 * k.val) := by
  decide +kernel

/-- The kernel's division of a query tile's first row by the tile size gives the tile's number back. -/
theorem tile_word : ∀ i : grid0.Coords,
    Scalar.select
      (Scalar.andi
        (Scalar.cmpi .ne
          (Scalar.subi (Scalar.extui (Scalar.cmpi .sgt (Scalar.muli (BitVec.ofNat 32 (i 2).val) 512#32) 0#32))
            (Scalar.extui (Scalar.cmpi .slt (Scalar.muli (BitVec.ofNat 32 (i 2).val) 512#32) 0#32)))
          (Scalar.subi (Scalar.extui (Scalar.cmpi .sgt 512#32 0#32)) (Scalar.extui (Scalar.cmpi .slt 512#32 0#32))))
        (Scalar.cmpi .ne (Scalar.remsi (Scalar.muli (BitVec.ofNat 32 (i 2).val) 512#32) 512#32) 0#32))
      (Scalar.subi (Scalar.divsi (Scalar.muli (BitVec.ofNat 32 (i 2).val) 512#32) 512#32) 1#32)
      (Scalar.divsi (Scalar.muli (BitVec.ofNat 32 (i 2).val) 512#32) 512#32)
    = (BitVec.ofNat 32 (i 2).val : BitVec 32) := by decide +kernel

end Cert.DiffIdeal.Index

end
-- ==== Proof.DiffStep.lean ====
/- The differential attention's blocks over the extended reals: what a block of keys does to the running maximum and the
   rescaled sums of one softmax of one head, at the scores and values the launch's input blocks hold. -/
module

public import proofs.«01_k».proof.Proof.Softmax
public import proofs.«01_k».proof.Proof.DiffIndex
public import Idealize.ShloMosaic.Lib.Pipeline.ValueKit
public import Idealize.ShloMosaic.Lib.Pointwise

@[expose] public section

set_option maxRecDepth 16384

noncomputable section

namespace Cert.DiffIdeal.Step

open Idealize.ShloMosaic Idealize.ShloMosaic.TcCoe Cert.DiffIdeal.Gen Cert.DiffIdeal.Index Cert.Softmax

theorem mask : Named.named (F := Ideal) κ "mask" (φ := .f32) 0xF149F2CA#32 = (⊥ : EReal) :=
  IdealRules.named_const.ideal_named_scalar _ _ _ _ rfl

theorem ofBits_bot : Ideal.ofBits .f32 0xFF800000#32 = ⊥ := by simp [Ideal.ofBits, Ideal.ieee]

/-- The position a key's bias is measured by: its own up to the row, its mirror image in the row beyond. -/
def place (R c : ℕ) : ℝ := ((min (c : ℤ) (2 * (R : ℤ) - c) : ℤ) : ℝ)

/-- Row `r`'s score against key `c` at slope `σ`, in base two: the query's product with the key and the bias; `⊥` past the
    chunk of row `R`. -/
def score (w : FVec Ideal S512x128 .bf16) (K : Vec Ideal S1x4096x128 .bf16) (σ : EReal) (R : ℕ) (r : Fin 512) (c : ℕ) : EReal :=
  if hc : c / 64 ≤ R / 64 ∧ c < 4096 then
    ∑ l : Fin 128, w (ix2 r l) * K (ix3 0 ⟨c, hc.2⟩ l) + σ * (place R c : EReal)
  else ⊥

/-- Key `c`'s value in lane `l` for the pair's first head: the value itself in the first 64 lanes, a one in lane 64. -/
def val0 (V : Vec Ideal S1x4096x128 .bf16) (l : Fin 128) (c : ℕ) : EReal :=
  if hc : c < 4096 then if l.val < 64 then V (ix3 0 ⟨c, hc⟩ l) else if l.val = 64 then 1 else 0 else 0

/-- … for the second head: the value itself in the last 64 lanes, a one in lane 0. -/
def val1 (V : Vec Ideal S1x4096x128 .bf16) (l : Fin 128) (c : ℕ) : EReal :=
  if hc : c < 4096 then if 64 ≤ l.val then V (ix3 0 ⟨c, hc⟩ l) else if l.val = 0 then 1 else 0 else 0

/-! ## Lane masks and positions -/

theorem lo_lane : ∀ l : Fin 128, IntOp.andi (IntOp.cmpi .sge (BitVec.ofNat 32 l.val) 0#32)
    (IntOp.cmpi .slt (BitVec.ofNat 32 l.val) 64#32) = if l.val < 64 then 1#1 else 0#1 := by decide +kernel

theorem hi_lane : ∀ l : Fin 128, IntOp.andi (IntOp.cmpi .sge (BitVec.ofNat 32 l.val) 64#32)
    (IntOp.cmpi .slt (BitVec.ofNat 32 l.val) 128#32) = if 64 ≤ l.val then 1#1 else 0#1 := by decide +kernel

theorem eq_lane64 : ∀ l : Fin 128, IntOp.cmpi .eq (BitVec.ofNat 32 l.val) 64#32 = if l.val = 64 then 1#1 else 0#1 := by
  decide +kernel

theorem eq_lane0 : ∀ l : Fin 128, IntOp.cmpi .eq (BitVec.ofNat 32 l.val) 0#32 = if l.val = 0 then 1#1 else 0#1 := by
  decide +kernel

theorem select_ite {α : Type} (p : Prop) [Decidable p] (x y : α) :
    Scalar.select (if p then 1#1 else 0#1) x y = if p then x else y := by
  unfold Scalar.select; split <;> simp_all

theorem place_le {R c : ℕ} (h : c ≤ R) : place R c = (c : ℝ) := by
  unfold place; rw [min_eq_left (by omega)]; simp

/-- A position read as a float is that number. -/
theorem sito (n : ℕ) (h : n < 4096) : FloatOps.sitofp (F := Ideal) .f32 (BitVec.ofNat 32 n) = ((n : ℝ) : EReal) := by
  show (((BitVec.ofNat 32 n).toInt : ℝ) : EReal) = _
  rw [WordCmp.toInt_ofNat_of_lt (by omega)]; simp

/-! ## Loads -/

theorem ld_rows1024 (X : Vec Ideal S1x4096x128 .bf16) (off : Fin 3 → ℕ) (n : ℕ) (ho : off = ![0, n, 0]) (hi)
    (j : Fin 1024) (l : Fin 128) (hn : n + j.val < 4096) :
    View.ld X (Rect.unit (s := S1x4096x128) off ![1, 1024, 128] hi) (ix3 0 j l) = X (ix3 0 ⟨n + j.val, hn⟩ l) := by
  subst ho; pointwise; blk_ext

theorem ld_rows512 (X : Vec Ideal S1x4096x128 .bf16) (off : Fin 3 → ℕ) (n : ℕ) (ho : off = ![0, n, 0]) (hi)
    (j : Fin 512) (l : Fin 128) (hn : n + j.val < 4096) :
    View.ld X (Rect.unit (s := S1x4096x128) off ![1, 512, 128] hi) (ix3 0 j l) = X (ix3 0 ⟨n + j.val, hn⟩ l) := by
  subst ho; pointwise; blk_ext

/-! ## The payloads of a block of 1024 keys, at an index -/

section Wide

variable (i : grid0.Coords) (w : FVec Ideal S512x128 .bf16) (K : Vec Ideal S1x1024x128 .bf16) (σ : Ideal .f32)
  (m : FVec Ideal S512x1 .f32) (a : FVec Ideal S512x128 .f32) (r : Fin 512)

theorem pay5_at (k : Fin (k0_t1_loop i).trips) (j : Fin 1024) :
    k0_pay5 i 0#32 1#32 k (ix2 0 j) = BitVec.ofNat 32 (1024 * k.val + j.val) := by
  pointwise [k0_pay5]
  rw [word1, WordCmp.addi_ofNat]

theorem pay10_at (k : Fin (k0_t1_loop i).trips) (j : Fin 1024) (hn : 1024 * k.val + j.val < 4096) :
    k0_pay10 i w σ 0#32 1#32 k K (ix2 r j)
    = ∑ l : Fin 128, w (ix2 r l) * K (ix3 0 j l) + σ * (((1024 * k.val + j.val : ℕ) : ℝ) : EReal) := by
  pointwise [k0_pay10, k0_pay9, k0_pay2]; rw [pay5_at, sito _ hn]

theorem pay18_at (k : Fin (k0_t1_loop i).trips) (j : Fin 1024) (hn : 1024 * k.val + j.val < 4096) :
    k0_pay18 σ (k0_pay5 i 0#32 1#32 k) (k0_pay6 w K) (ix2 r j)
    = ∑ l : Fin 128, w (ix2 r l) * K (ix3 0 j l) + σ * (((1024 * k.val + j.val : ℕ) : ℝ) : EReal) := by
  pointwise [k0_pay18, k0_pay17, k0_pay6, k0_pay2]; rw [pay5_at, sito _ hn]

theorem pay8_at (j : Fin 1024) (l : Fin 128) : k0_pay8 (F := Ideal) K (ix2 j l)
    = if l.val < 64 then K (ix3 0 j l) else if l.val = 64 then 1 else 0 := by
  pointwise [k0_pay8, k0_pay4]; rw [lo_lane, eq_lane64, select_ite, select_ite]

theorem pay16_at (j : Fin 1024) (l : Fin 128) : k0_pay16 (F := Ideal) (k0_pay4 K) (ix2 j l)
    = if 64 ≤ l.val then K (ix3 0 j l) else if l.val = 0 then 1 else 0 := by
  pointwise [k0_pay16, k0_pay4]; rw [hi_lane, eq_lane0, select_ite, select_ite]

theorem pay12_at (s : FVec Ideal S512x1024 .f32) : k0_pay12 m s (ix2 r 0)
    = max (m (ix2 r 0)) (Finset.univ.fold max ⊥ fun j => s (ix2 r j)) := by
  pointwise [k0_pay12]; rw [ofBits_bot]

theorem pay13_at (l : Fin 128) (s : FVec Ideal S512x1024 .f32) (v : FVec Ideal S1024x128 .bf16) :
    k0_pay13 m a v s (ix2 r l)
      = Ideal.exp2 (m (ix2 r 0) - k0_pay12 m s (ix2 r 0)) * a (ix2 r l)
        + ∑ j : Fin 1024, Ideal.exp2 (s (ix2 r j) - k0_pay12 m s (ix2 r 0)) * v (ix2 j l) := by
  pointwise [k0_pay13]; rfl

end Wide

/-! ## … and of a block of 512 -/

section Narrow

variable (i : grid0.Coords) (w : FVec Ideal S512x128 .bf16) (K : Vec Ideal S1x512x128 .bf16) (σ : Ideal .f32)
  (m : FVec Ideal S512x1 .f32) (a : FVec Ideal S512x128 .f32) (r : Fin 512)

theorem pay41_at (k : Fin (k0_t3_loop i).trips) (j : Fin 512) :
    k0_pay41 i (k0_t3_loop i).lb 1#32 k (ix2 0 j) = BitVec.ofNat 32 (1024 * ((i 2).val / 2) + 512 * k.val + j.val) := by
  pointwise [k0_pay41]
  rw [word3, WordCmp.addi_ofNat]

theorem pay46_at (k : Fin (k0_t3_loop i).trips) (j : Fin 512)
    (hn : 1024 * ((i 2).val / 2) + 512 * k.val + j.val < 4096) :
    k0_pay46 i w σ (k0_t3_loop i).lb 1#32 k K (ix2 r j)
    = ∑ l : Fin 128, w (ix2 r l) * K (ix3 0 j l)
        + σ * (((1024 * ((i 2).val / 2) + 512 * k.val + j.val : ℕ) : ℝ) : EReal) := by
  pointwise [k0_pay46, k0_pay45, k0_pay38]; rw [pay41_at, sito _ hn]

theorem pay54_at (k : Fin (k0_t3_loop i).trips) (j : Fin 512)
    (hn : 1024 * ((i 2).val / 2) + 512 * k.val + j.val < 4096) :
    k0_pay54 σ (k0_pay41 i (k0_t3_loop i).lb 1#32 k) (k0_pay42 w K) (ix2 r j)
    = ∑ l : Fin 128, w (ix2 r l) * K (ix3 0 j l)
        + σ * (((1024 * ((i 2).val / 2) + 512 * k.val + j.val : ℕ) : ℝ) : EReal) := by
  pointwise [k0_pay54, k0_pay53, k0_pay42, k0_pay38]; rw [pay41_at, sito _ hn]

theorem pay44_at (j : Fin 512) (l : Fin 128) : k0_pay44 (F := Ideal) K (ix2 j l)
    = if l.val < 64 then K (ix3 0 j l) else if l.val = 64 then 1 else 0 := by
  pointwise [k0_pay44, k0_pay40]; rw [lo_lane, eq_lane64, select_ite, select_ite]

theorem pay52_at (j : Fin 512) (l : Fin 128) : k0_pay52 (F := Ideal) (k0_pay40 K) (ix2 j l)
    = if 64 ≤ l.val then K (ix3 0 j l) else if l.val = 0 then 1 else 0 := by
  pointwise [k0_pay52, k0_pay40]; rw [hi_lane, eq_lane0, select_ite, select_ite]

theorem pay48_at (s : FVec Ideal S512x512 .f32) : k0_pay48 m s (ix2 r 0)
    = max (m (ix2 r 0)) (Finset.univ.fold max ⊥ fun j => s (ix2 r j)) := by
  pointwise [k0_pay48]; rw [ofBits_bot]

theorem pay49_at (l : Fin 128) (s : FVec Ideal S512x512 .f32) (v : FVec Ideal S512x128 .bf16) :
    k0_pay49 m a v s (ix2 r l)
      = Ideal.exp2 (m (ix2 r 0) - k0_pay48 m s (ix2 r 0)) * a (ix2 r l)
        + ∑ j : Fin 512, Ideal.exp2 (s (ix2 r j) - k0_pay48 m s (ix2 r 0)) * v (ix2 j l) := by
  pointwise [k0_pay49]; rfl

end Narrow

/-! ## One softmax of one head, block by block -/

/-- The running maxima and the rescaled sums of one softmax stand for the first `N` keys. -/
def Head (w : FVec Ideal S512x128 .bf16) (K : Vec Ideal S1x4096x128 .bf16) (σ : EReal) (v : Fin 128 → ℕ → EReal) (R : ℕ)
    (N : ℕ) (m : FVec Ideal S512x1 .f32) (a : FVec Ideal S512x128 .f32) : Prop :=
  ∀ (r : Fin 512) (l : Fin 128), St (score w K σ (R + r.val) r) (v l) N (m (ix2 r 0)) (a (ix2 r l))

/-- No score is the top. -/
def NoTop (w : FVec Ideal S512x128 .bf16) (K : Vec Ideal S1x4096x128 .bf16) (σ : EReal) : Prop :=
  ∀ R r c, score w K σ R r c ≠ ⊤

section Blocks

variable {w : FVec Ideal S512x128 .bf16} {K : Vec Ideal S1x4096x128 .bf16} {σ : EReal} {v : Fin 128 → ℕ → EReal} {R N : ℕ}
  {m : FVec Ideal S512x1 .f32} {a : FVec Ideal S512x128 .f32}

/-- A block of 1024 keys. -/
theorem Head.wide (h : Head w K σ v R N m a) (top : NoTop w K σ) {S : FVec Ideal S512x1024 .f32}
    {T : FVec Ideal S1024x128 .bf16} (hS : ∀ r j, S (ix2 r j) = score w K σ (R + r.val) r (N + j.val))
    (hT : ∀ j l, T (ix2 j l) = v l (N + j.val)) : Head w K σ v R (N + 1024) (k0_pay12 m S) (k0_pay13 m a T S) :=
  fun r l => (h r l).block (W := 1024) (S := fun j => S (ix2 r j)) (V := fun j => T (ix2 j l))
    (fun c _ => top _ _ c) (hS r) (fun j => hT j l) (pay12_at m r S) (pay13_at m a r l S T)

/-- A block of 512 keys. -/
theorem Head.narrow (h : Head w K σ v R N m a) (top : NoTop w K σ) {S : FVec Ideal S512x512 .f32}
    {T : FVec Ideal S512x128 .bf16} (hS : ∀ r j, S (ix2 r j) = score w K σ (R + r.val) r (N + j.val))
    (hT : ∀ j l, T (ix2 j l) = v l (N + j.val)) : Head w K σ v R (N + 512) (k0_pay48 m S) (k0_pay49 m a T S) :=
  fun r l => (h r l).block (W := 512) (S := fun j => S (ix2 r j)) (V := fun j => T (ix2 j l))
    (fun c _ => top _ _ c) (hS r) (fun j => hT j l) (pay48_at m r S) (pay49_at m a r l S T)

/-- The score of a key no later than the row. -/
theorem score_of_le {r : Fin 512} {c : ℕ} (h1 : c ≤ R) (h2 : c < 4096) : score w K σ R r c
    = ∑ l : Fin 128, w (ix2 r l) * K (ix3 0 ⟨c, h2⟩ l) + σ * ((c : ℝ) : EReal) := by
  rw [score, dif_pos ⟨Nat.div_le_div_right h1, h2⟩, place_le h1]

end Blocks

end Cert.DiffIdeal.Step

end
-- ==== Proof.DiffDiag.lean ====
/- The differential attention's block of 512 keys on the diagonal: its chunked mask, its mirrored bias, and what it does to
   the running maximum and the rescaled sums of each softmax. -/
module

public import proofs.«01_k».proof.Proof.DiffStep

@[expose] public section

set_option maxRecDepth 16384

noncomputable section

namespace Cert.DiffIdeal.Step

open Idealize.ShloMosaic Idealize.ShloMosaic.TcCoe Cert.DiffIdeal.Gen Cert.DiffIdeal.Index Cert.Softmax

section Diag

variable (i : grid0.Coords) (q : BitVec 32) (hq : q = BitVec.ofNat 32 (i 2).val)
  (w : FVec Ideal S512x128 .bf16) (K V : Vec Ideal S1x512x128 .bf16) (σ : Ideal .f32) (r j : Fin 512) (l : Fin 128)

theorem pay76_at : k0_pay76 i (ix2 r 0) = BitVec.ofNat 32 (512 * (i 2).val + r.val) := by
  pointwise [k0_pay76]
  rw [show Scalar.muli (BitVec.ofNat 32 (i 2).val) 512#32 = BitVec.ofNat 32 ((i 2).val * 512) from WordCmp.muli_ofNat _ 512,
    WordCmp.addi_ofNat, mul_comm]

include hq in
theorem pay114_at : k0_pay114 q (ix2 0 j) = BitVec.ofNat 32 (512 * (i 2).val + j.val) := by
  subst hq
  pointwise [k0_pay114]
  rw [show Scalar.muli (BitVec.ofNat 32 (i 2).val) 512#32 = BitVec.ofNat 32 ((i 2).val * 512) from WordCmp.muli_ofNat _ 512,
    WordCmp.addi_ofNat, mul_comm]

/-- The bias's position as the kernel computes it: the smaller of the key's own and its mirror image in the row. -/
theorem place_word (R c : ℕ) (hR : R < 4096) (hc : c < 4096) :
    FloatOps.sitofp (F := Ideal) .f32
      (IntOp.minsi (BitVec.ofNat 32 c) (IntOp.subi (IntOp.muli 2#32 (BitVec.ofNat 32 R)) (BitVec.ofNat 32 c)))
      = (place R c : EReal) := by
  have e3 : (BitVec.ofNat 32 c).toInt = (c : ℤ) := WordCmp.toInt_ofNat_of_lt (by omega)
  have e4 : (BitVec.ofNat 32 R).toInt = (R : ℤ) := WordCmp.toInt_ofNat_of_lt (by omega)
  have e : IntOp.subi (IntOp.muli 2#32 (BitVec.ofNat 32 R)) (BitVec.ofNat 32 c) = BitVec.ofInt 32 (2 * (R : ℤ) - c) := by
    apply BitVec.eq_of_toInt_eq
    show (2#32 * BitVec.ofNat 32 R - BitVec.ofNat 32 c).toInt = _
    simp [BitVec.toInt_sub, BitVec.toInt_mul, BitVec.toInt_ofInt, e3, e4]
  have e2 : (BitVec.ofInt 32 (2 * (R : ℤ) - c)).toInt = 2 * (R : ℤ) - c := by
    rw [BitVec.toInt_ofInt]; apply Int.bmod_eq_of_le <;> omega
  rw [e]
  show (((IntOp.minsi (BitVec.ofNat 32 c) (BitVec.ofInt 32 (2 * (R : ℤ) - c))).toInt : ℝ) : EReal) = _
  unfold IntOp.minsi place
  have e5 : (if (BitVec.ofNat 32 c).slt (BitVec.ofInt 32 (2 * (R : ℤ) - c)) = true then BitVec.ofNat 32 c
      else BitVec.ofInt 32 (2 * (R : ℤ) - c)).toInt = min (c : ℤ) (2 * (R : ℤ) - c) := by
    split <;> rename_i h <;> rw [BitVec.slt_iff_toInt_lt, e2, e3] at h
    · rw [e3, min_eq_left h.le]
    · rw [e2, min_eq_right (not_lt.mp h)]
  rw [e5]

/-- A position's chunk as the kernel computes it: the division by 64 rounded down. -/
theorem chunk_word : ∀ n : Fin 4096,
    Scalar.select
      (IntOp.andi
        (IntOp.cmpi .ne
          (IntOp.subi (BitVec.setWidth 32 (IntOp.cmpi .sgt (BitVec.ofNat 32 n.val) 0#32))
            (BitVec.setWidth 32 (IntOp.cmpi .slt (BitVec.ofNat 32 n.val) 0#32)))
          (Scalar.subi (Scalar.extui (Scalar.cmpi .sgt 64#32 0#32)) (Scalar.extui (Scalar.cmpi .slt 64#32 0#32))))
        (IntOp.cmpi .ne (IntOp.remsi .vector (BitVec.ofNat 32 n.val) 64#32) 0#32))
      (IntOp.subi (IntOp.divsi .vector (BitVec.ofNat 32 n.val) 64#32) 1#32)
      (IntOp.divsi .vector (BitVec.ofNat 32 n.val) 64#32) = (BitVec.ofNat 32 (n.val / 64) : BitVec 32) := by decide +kernel

/-- The mask's comparison of chunks. -/
theorem allowed (R c : ℕ) (hR : R < 4096) (hc : c < 4096) :
    IntOp.cmpi .sle (BitVec.ofNat 32 (c / 64)) (BitVec.ofNat 32 (R / 64)) = if c / 64 ≤ R / 64 then 1#1 else 0#1 := by
  rw [WordCmp.cmpi_sle_ofNat (by omega) (by omega)]
  by_cases h : c / 64 ≤ R / 64
  · rw [if_pos h, decide_eq_true h]; rfl
  · rw [if_neg h, decide_eq_false h]; rfl

variable (D : FVec Ideal S512x512 .f32)

/-- The masked scores of the diagonal block for the pair's first head. -/
abbrev masked0 : FVec Ideal S512x512 .f32 :=
  k0_pay126 (k0_pay76 i) D (k0_pay121 (k0_pay76 i) σ (k0_pay114 q)) (k0_pay122 (k0_pay114 q)) 64#32
    (k0_pay123 (k0_pay76 i)) (k0_pay124 (k0_pay76 i))

/-- … and for the second. -/
abbrev masked1 : FVec Ideal S512x512 .f32 :=
  k0_pay138 (k0_pay76 i) (k0_pay114 q) D (k0_pay133 (k0_pay76 i) σ (k0_pay114 q)) 64#32 (k0_pay134 (k0_pay114 q))
    (k0_pay135 (k0_pay114 q)) k0_pay136

include hq in
theorem masked0_at : masked0 i q σ D (ix2 r j) =
    if (512 * (i 2).val + j.val) / 64 ≤ (512 * (i 2).val + r.val) / 64
    then D (ix2 r j) + σ * (place (512 * (i 2).val + r.val) (512 * (i 2).val + j.val) : EReal) else ⊥ := by
  have h2 : (i 2).val < 8 := (i 2).isLt
  have hr := r.isLt
  have hj := j.isLt
  pointwise [k0_pay126, k0_pay125, k0_pay122, k0_pay123, k0_pay124, k0_pay121]
  rw [pay76_at, pay114_at i q hq, chunk_word ⟨512 * (i 2).val + j.val, by omega⟩,
    chunk_word ⟨512 * (i 2).val + r.val, by omega⟩, place_word _ _ (by omega) (by omega), allowed _ _ (by omega) (by omega),
    select_ite, mask]

include hq in
theorem masked1_at : masked1 i q σ D (ix2 r j) =
    if (512 * (i 2).val + j.val) / 64 ≤ (512 * (i 2).val + r.val) / 64
    then D (ix2 r j) + σ * (place (512 * (i 2).val + r.val) (512 * (i 2).val + j.val) : EReal) else ⊥ := by
  have h2 : (i 2).val < 8 := (i 2).isLt
  have hr := r.isLt
  have hj := j.isLt
  pointwise [k0_pay138, k0_pay137, k0_pay134, k0_pay135, k0_pay136, k0_pay133]
  rw [pay76_at, pay114_at i q hq, chunk_word ⟨512 * (i 2).val + j.val, by omega⟩,
    chunk_word ⟨512 * (i 2).val + r.val, by omega⟩, place_word _ _ (by omega) (by omega), allowed _ _ (by omega) (by omega),
    select_ite, mask]

theorem dot_at : k0_pay115 w K (ix2 r j) = ∑ l : Fin 128, w (ix2 r l) * K (ix3 0 j l) := by
  pointwise [k0_pay115, k0_pay111]

theorem pay120_at : k0_pay120 (F := Ideal) (k0_pay113 V) k0_pay119 (iota .tc S1x128 32 [1] iota_S1x128_d1_w32) (ix2 j l)
    = if l.val < 64 then V (ix3 0 j l) else if l.val = 64 then 1 else 0 := by
  pointwise [k0_pay120, k0_pay113, k0_pay119]; rw [lo_lane, eq_lane64, select_ite, select_ite]

theorem pay132_at : k0_pay132 (F := Ideal) (k0_pay113 V) (ix2 j l)
    = if 64 ≤ l.val then V (ix3 0 j l) else if l.val = 0 then 1 else 0 := by
  pointwise [k0_pay132, k0_pay113]; rw [hi_lane, eq_lane0, select_ite, select_ite]

end Diag

end Cert.DiffIdeal.Step

end
-- ==== Proof.DiffTrip.lean ====
/- One trip of each of the differential attention's key loops, and the loops whole: the carried maxima and sums stand for
   the keys read so far. -/
module

public import proofs.«01_k».proof.Proof.DiffDiag

@[expose] public section

set_option maxRecDepth 16384

noncomputable section

namespace Cert.DiffIdeal.Step

open Idealize.ShloMosaic Idealize.ShloMosaic.TcCoe Cert.DiffIdeal.Gen Cert.DiffIdeal.Index Cert.Softmax

/-- What the loops carry: for each head of the pair and each of its two softmaxes, the running maximum and the rescaled
    sums. -/
abbrev Acc := FVec Ideal S512x1 .f32 × FVec Ideal S512x128 .f32 × FVec Ideal S512x1 .f32 × FVec Ideal S512x128 .f32 ×
  FVec Ideal S512x1 .f32 × FVec Ideal S512x128 .f32 × FVec Ideal S512x1 .f32 × FVec Ideal S512x128 .f32

theorem tile_lt (i : grid0.Coords) : (i 2).val < 8 := (i 2).isLt

/-- No score of either softmax of either head is the top. -/
structure Tops (v59 v69 v79 v89 : FVec Ideal S512x128 .bf16) (v91 v93 : Ideal .f32) (K1 K2 : Vec Ideal S1x4096x128 .bf16) :
    Prop where
  lo1 : NoTop v59 K1 v91
  lo2 : NoTop v79 K2 v91
  hi1 : NoTop v69 K1 v93
  hi2 : NoTop v89 K2 v93

/-- The carried values stand for the first `N` keys. -/
structure Carried (v59 v69 v79 v89 : FVec Ideal S512x128 .bf16) (v91 v93 : Ideal .f32)
    (K1 K2 V : Vec Ideal S1x4096x128 .bf16) (i : grid0.Coords) (N : ℕ) (acc : Acc) : Prop where
  lo1 : Head v59 K1 v91 (val0 V) (512 * (i 2).val) N acc.1 acc.2.1
  lo2 : Head v79 K2 v91 (val0 V) (512 * (i 2).val) N acc.2.2.1 acc.2.2.2.1
  hi1 : Head v69 K1 v93 (val1 V) (512 * (i 2).val) N acc.2.2.2.2.1 acc.2.2.2.2.2.1
  hi2 : Head v89 K2 v93 (val1 V) (512 * (i 2).val) N acc.2.2.2.2.2.2.1 acc.2.2.2.2.2.2.2

section Trips

variable (𝒱 : Variants) (c : Dev nD) (bd : Option 𝒱.V) (i : grid0.Coords)
  (arg3 : Memref sig .tc .vmem S1x512x128 .bf16) (harg3 : arg3.IsWhole)
  (arg4 : Memref sig .tc .vmem S1x512x128 .bf16) (harg4 : arg4.IsWhole)
  (arg5 : Memref sig .tc .vmem S1x4096x128 .bf16) (harg5 : arg5.IsWhole)
  (arg6 : Memref sig .tc .vmem S1x4096x128 .bf16) (harg6 : arg6.IsWhole)
  (arg7 : Memref sig .tc .vmem S1x4096x128 .bf16) (harg7 : arg7.IsWhole)
  (arg8 : Memref sig .tc .vmem S4x64 .f32) (harg8 : arg8.IsWhole)
  (arg9 : Memref sig .tc .vmem S1x128 .f32) (harg9 : arg9.IsWhole)
  (arg10 : Memref sig .tc .vmem S1x512x128 .bf16) (harg10 : arg10.IsWhole)
  (v33 : BitVec 32) (v59 v69 v79 v89 : FVec Ideal S512x128 .bf16) (v91 v93 : Ideal .f32) (v110 : BitVec 32)
  (v111 : FVec Ideal S512x1 .f32) (v112 : FVec Ideal S512x128 .f32) (v113 : FVec Ideal S512x1 .f32)
  (v114 : FVec Ideal S512x128 .f32) (v115 : FVec Ideal S512x1 .f32) (v116 : FVec Ideal S512x128 .f32)
  (v117 : FVec Ideal S512x1 .f32) (v118 : FVec Ideal S512x128 .f32) (v119 : BitVec 32)
  (K1 K2 V : Vec Ideal S1x4096x128 .bf16)

theorem trip1 (top : Tops v59 v69 v79 v89 v91 v93 K1 K2) (k : Fin (k0_t1_loop i).trips) (acc : Acc)
    (h : Carried v59 v69 v79 v89 v91 v93 K1 K2 V i (1024 * k.val) acc) :
    Carried v59 v69 v79 v89 v91 v93 K1 K2 V i (1024 * k.val + 1024)
      (tripR_k0_t1 (F := Ideal) 𝒱 c bd i arg3 harg3 arg4 harg4 arg5 harg5 arg6 harg6 arg7 harg7 arg8 harg8 arg9 harg9 arg10 harg10
        v33 v59 v69 v79 v89 v91 v93 v110 v111 v112 v113 v114 v115 v116 v117 v118 0#32 v119 (harg5.unread K1) (harg6.unread K2) (harg7.unread V) k acc) := by
  have hk : k.val < (i 2).val / 2 := trips1 i ▸ k.isLt
  have hq := tile_lt i
  unfold tripR_k0_t1 trip_k0_t1
  frame_out
  generalize hw : Scalar.muli (Scf.iv _ _ _) _ = word
  replace hw := hw.symm.trans (word1 i k)
  subst hw
  generalize hK1 : View.ld K1 _ = X1
  generalize hK2 : View.ld K2 _ = X2
  generalize hV : View.ld V _ = XV
  refine ⟨?_, ?_, ?_, ?_⟩ <;> dsimp only
  · generalize hS : addf (matmul dot_S512x128_S1024x128_S512x1024_1_1_0_0_n_n none v59 _ _) _ = S
    generalize hT : select (broadcastTo S1024x128 _ _) _ _ = T
    refine h.lo1.wide top.lo1 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK1, ld_rows1024 _ _ _ (off1 i k)]
    · have hj := j.isLt
      rw [← hT, val0, dif_pos (by omega)]
      pointwise
      rw [lo_lane, eq_lane64, select_ite, select_ite, ← hV, ld_rows1024 _ _ _ (off1 i k)]
  · generalize hS : addf (matmul dot_S512x128_S1024x128_S512x1024_1_1_0_0_n_n none v79 _ _) _ = S
    generalize hT : select (broadcastTo S1024x128 _ _) _ _ = T
    refine h.lo2.wide top.lo2 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK2, ld_rows1024 _ _ _ (off1 i k)]
    · have hj := j.isLt
      rw [← hT, val0, dif_pos (by omega)]
      pointwise
      rw [lo_lane, eq_lane64, select_ite, select_ite, ← hV, ld_rows1024 _ _ _ (off1 i k)]
  · generalize hS : addf (matmul dot_S512x128_S1024x128_S512x1024_1_1_0_0_n_n none v69 _ _) _ = S
    generalize hT : select (broadcastTo S1024x128 _ _) _ _ = T
    refine h.hi1.wide top.hi1 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK1, ld_rows1024 _ _ _ (off1 i k)]
    · have hj := j.isLt
      rw [← hT, val1, dif_pos (by omega)]
      pointwise
      rw [hi_lane, eq_lane0, select_ite, select_ite, ← hV, ld_rows1024 _ _ _ (off1 i k)]
  · generalize hS : addf (matmul dot_S512x128_S1024x128_S512x1024_1_1_0_0_n_n none v89 _ _) _ = S
    generalize hT : select (broadcastTo S1024x128 _ _) _ _ = T
    refine h.hi2.wide top.hi2 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK2, ld_rows1024 _ _ _ (off1 i k)]
    · have hj := j.isLt
      rw [← hT, val1, dif_pos (by omega)]
      pointwise
      rw [hi_lane, eq_lane0, select_ite, select_ite, ← hV, ld_rows1024 _ _ _ (off1 i k)]

theorem loop1 (top : Tops v59 v69 v79 v89 v91 v93 K1 K2) (init : Acc)
    (h : Carried v59 v69 v79 v89 v91 v93 K1 K2 V i (0) init) (k : ℕ) (hk : k ≤ (k0_t1_loop i).trips) :
    Carried v59 v69 v79 v89 v91 v93 K1 K2 V i (1024 * k)
      (st_k0_t1 (F := Ideal) 𝒱 c bd i arg3 harg3 arg4 harg4 arg5 harg5 arg6 harg6 arg7 harg7 arg8 harg8 arg9 harg9 arg10 harg10
        v33 v59 v69 v79 v89 v91 v93 v110 v111 v112 v113 v114 v115 v116 v117 v118 0#32 v119 (harg5.unread K1) (harg6.unread K2) (harg7.unread V) init k) := by
  induction k with
  | zero => rw [st_k0_t1_zero]; exact h
  | succ k ih =>
    have := st_k0_t1_succ (F := Ideal) 𝒱 c bd i arg3 harg3 arg4 harg4 arg5 harg5 arg6 harg6 arg7 harg7 arg8 harg8 arg9 harg9 arg10 harg10
      v33 v59 v69 v79 v89 v91 v93 v110 v111 v112 v113 v114 v115 v116 v117 v118 0#32 v119 (harg5.unread K1) (harg6.unread K2) (harg7.unread V) init ⟨k, hk⟩
    rw [show (⟨k, hk⟩ : Fin (k0_t1_loop i).trips).val + 1 = k + 1 from rfl] at this
    rw [this]
    exact trip1 𝒱 c bd i arg3 harg3 arg4 harg4 arg5 harg5 arg6 harg6 arg7 harg7 arg8 harg8 arg9 harg9 arg10 harg10
      v33 v59 v69 v79 v89 v91 v93 v110 v111 v112 v113 v114 v115 v116 v117 v118 v119 K1 K2 V top ⟨k, hk⟩ _ (ih (by omega))

theorem trip3 (v126 : BitVec 32) (hlb : v126 = (k0_t3_loop i).lb) (top : Tops v59 v69 v79 v89 v91 v93 K1 K2) (k : Fin (k0_t3_loop i).trips) (acc : Acc)
    (h : Carried v59 v69 v79 v89 v91 v93 K1 K2 V i (1024 * ((i 2).val / 2) + 512 * k.val) acc) :
    Carried v59 v69 v79 v89 v91 v93 K1 K2 V i (1024 * ((i 2).val / 2) + 512 * k.val + 512)
      (tripR_k0_t3 (F := Ideal) 𝒱 c bd i arg3 harg3 arg4 harg4 arg5 harg5 arg6 harg6 arg7 harg7 arg8 harg8 arg9 harg9 arg10 harg10
        v33 v59 v69 v79 v89 v91 v93 v110 v111 v112 v113 v114 v115 v116 v117 v118 0#32 v119 v126 (harg5.unread K1) (harg6.unread K2) (harg7.unread V) k acc) := by
  have hk : k.val < (i 2).val - 2 * ((i 2).val / 2) := trips3 i ▸ k.isLt
  have hq := tile_lt i
  unfold tripR_k0_t3 trip_k0_t3
  frame_out
  generalize hw : Scalar.muli (Scf.iv _ _ _) _ = word
  replace hw := hw.symm.trans (hlb ▸ word3 i k)
  subst hw
  generalize hK1 : View.ld K1 _ = X1
  generalize hK2 : View.ld K2 _ = X2
  generalize hV : View.ld V _ = XV
  refine ⟨?_, ?_, ?_, ?_⟩ <;> dsimp only
  · generalize hS : addf (matmul dot_S512x128_S512x128_S512x512_1_1_0_0_n_n none v59 _ _) _ = S
    generalize hT : select (broadcastTo S512x128 _ _) _ _ = T
    refine h.lo1.narrow top.lo1 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK1, ld_rows512 _ _ _ (off3 i k)]
    · have hj := j.isLt
      rw [← hT, val0, dif_pos (by omega)]
      pointwise
      rw [lo_lane, eq_lane64, select_ite, select_ite, ← hV, ld_rows512 _ _ _ (off3 i k)]
  · generalize hS : addf (matmul dot_S512x128_S512x128_S512x512_1_1_0_0_n_n none v79 _ _) _ = S
    generalize hT : select (broadcastTo S512x128 _ _) _ _ = T
    refine h.lo2.narrow top.lo2 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK2, ld_rows512 _ _ _ (off3 i k)]
    · have hj := j.isLt
      rw [← hT, val0, dif_pos (by omega)]
      pointwise
      rw [lo_lane, eq_lane64, select_ite, select_ite, ← hV, ld_rows512 _ _ _ (off3 i k)]
  · generalize hS : addf (matmul dot_S512x128_S512x128_S512x512_1_1_0_0_n_n none v69 _ _) _ = S
    generalize hT : select (broadcastTo S512x128 _ _) _ _ = T
    refine h.hi1.narrow top.hi1 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK1, ld_rows512 _ _ _ (off3 i k)]
    · have hj := j.isLt
      rw [← hT, val1, dif_pos (by omega)]
      pointwise
      rw [hi_lane, eq_lane0, select_ite, select_ite, ← hV, ld_rows512 _ _ _ (off3 i k)]
  · generalize hS : addf (matmul dot_S512x128_S512x128_S512x512_1_1_0_0_n_n none v89 _ _) _ = S
    generalize hT : select (broadcastTo S512x128 _ _) _ _ = T
    refine h.hi2.narrow top.hi2 (S := S) (T := T) (fun r j => ?_) (fun j l => ?_)
    · have hj := j.isLt
      rw [← hS, score_of_le (by omega) (by omega)]
      pointwise
      rw [WordCmp.addi_ofNat, sito _ (by omega)]
      refine congrArg₂ _ (Finset.sum_congr rfl fun x _ => ?_) rfl
      rw [← hK2, ld_rows512 _ _ _ (off3 i k)]
    · have hj := j.isLt
      rw [← hT, val1, dif_pos (by omega)]
      pointwise
      rw [hi_lane, eq_lane0, select_ite, select_ite, ← hV, ld_rows512 _ _ _ (off3 i k)]

theorem loop3 (v126 : BitVec 32) (hlb : v126 = (k0_t3_loop i).lb) (top : Tops v59 v69 v79 v89 v91 v93 K1 K2) (init : Acc)
    (h : Carried v59 v69 v79 v89 v91 v93 K1 K2 V i (1024 * ((i 2).val / 2)) init) (k : ℕ) (hk : k ≤ (k0_t3_loop i).trips) :
    Carried v59 v69 v79 v89 v91 v93 K1 K2 V i (1024 * ((i 2).val / 2) + 512 * k)
      (st_k0_t3 (F := Ideal) 𝒱 c bd i arg3 harg3 arg4 harg4 arg5 harg5 arg6 harg6 arg7 harg7 arg8 harg8 arg9 harg9 arg10 harg10
        v33 v59 v69 v79 v89 v91 v93 v110 v111 v112 v113 v114 v115 v116 v117 v118 0#32 v119 v126 (harg5.unread K1) (harg6.unread K2) (harg7.unread V) init k) := by
  induction k with
  | zero => rw [st_k0_t3_zero]; exact h
  | succ k ih =>
    have := st_k0_t3_succ (F := Ideal) 𝒱 c bd i arg3 harg3 arg4 harg4 arg5 harg5 arg6 harg6 arg7 harg7 arg8 harg8 arg9 harg9 arg10 harg10
      v33 v59 v69 v79 v89 v91 v93 v110 v111 v112 v113 v114 v115 v116 v117 v118 0#32 v119 v126 (harg5.unread K1) (harg6.unread K2) (harg7.unread V) init ⟨k, hk⟩
    rw [show (⟨k, hk⟩ : Fin (k0_t3_loop i).trips).val + 1 = k + 1 from rfl] at this
    rw [this, Nat.mul_succ, ← Nat.add_assoc]
    exact trip3 𝒱 c bd i arg3 harg3 arg4 harg4 arg5 harg5 arg6 harg6 arg7 harg7 arg8 harg8 arg9 harg9 arg10 harg10
      v33 v59 v69 v79 v89 v91 v93 v110 v111 v112 v113 v114 v115 v116 v117 v118 v119 K1 K2 V v126 hlb top ⟨k, hk⟩ _ (ih (by omega))

variable (c0 v123 v131 : BitVec 32)

theorem loop2 (init : Acc) (X5 X6 X7) (n : ℕ) :
    st_k0_t2 (F := Ideal) 𝒱 c bd i arg3 harg3 arg4 harg4 arg5 harg5 arg6 harg6 arg7 harg7 arg8 harg8 arg9 harg9 arg10 harg10
      v33 v59 v69 v79 v89 v91 v93 v110 v111 v112 v113 v114 v115 v116 v117 v118 c0 v119 v123 X5 X6 X7 init n = init := by
  induction n with
  | zero => rfl
  | succ n ih =>
    rw [st_k0_t2.eq_2, ih]; unfold st_k0_t2Step
    exact dif_neg (by rw [trips2 i]; exact Nat.not_lt_zero _)

theorem loop4 (init : Acc) (X5 X6 X7) (n : ℕ) :
    st_k0_t4 (F := Ideal) 𝒱 c bd i arg3 harg3 arg4 harg4 arg5 harg5 arg6 harg6 arg7 harg7 arg8 harg8 arg9 harg9 arg10 harg10
      v33 v59 v69 v79 v89 v91 v93 v110 v111 v112 v113 v114 v115 v116 v117 v118 c0 v119 v131 X5 X6 X7 init n = init := by
  induction n with
  | zero => rfl
  | succ n ih =>
    rw [st_k0_t4.eq_2, ih]; unfold st_k0_t4Step
    exact dif_neg (by rw [trips4 i]; exact Nat.not_lt_zero _)

end Trips

end Cert.DiffIdeal.Step

end
-- ==== Proof.DiffNorm.lean ====
/- The differential attention's operands and its end at an index: the scaled queries, the slopes, the weight of the second
   softmax, the two averages' difference, and the row's root mean square. -/
module

public import proofs.«01_k».proof.Proof.DiffStep

@[expose] public section

set_option maxRecDepth 16384

noncomputable section

namespace Cert.DiffIdeal.Step

open Idealize.ShloMosaic Idealize.ShloMosaic.TcCoe Cert.DiffIdeal.Gen Cert.DiffIdeal.Index Cert.Softmax

variable (Q : Vec Ideal S1x512x128 .bf16) (lp : Vec Ideal S4x64 .f32) (g : Vec Ideal S1x128 .f32)
  (A B C D : FVec Ideal S512x128 .f32) (L : FVec Ideal S1x1 .f32) (r : Fin 512) (l : Fin 128)

/-- The queries' scale, in base two. -/
abbrev scale : ℝ := 8⁻¹ * (Real.log 2)⁻¹

theorem scale_named : Named.named (F := Ideal) κ "scale_log2e" (φ := .f32) 0x3E38AA3B#32 = (scale : EReal) :=
  IdealRules.named_const.ideal_named_scalar _ _ _ _ rfl

theorem slope_named0 : Named.named (F := Ideal) κ "slope0" (φ := .f32) 0x3EB8AA3B#32 = ((4⁻¹ * (Real.log 2)⁻¹ : ℝ) : EReal) :=
  IdealRules.named_const.ideal_named_scalar _ _ _ _ rfl

theorem slope_named1 : Named.named (F := Ideal) κ "slope1" (φ := .f32) 0x3DB8AA3B#32 = ((16⁻¹ * (Real.log 2)⁻¹ : ℝ) : EReal) :=
  IdealRules.named_const.ideal_named_scalar _ _ _ _ rfl

theorem slope_named2 : Named.named (F := Ideal) κ "slope2" (φ := .f32) 0x3CB8AA3B#32 = ((64⁻¹ * (Real.log 2)⁻¹ : ℝ) : EReal) :=
  IdealRules.named_const.ideal_named_scalar _ _ _ _ rfl

theorem slope_named3 : Named.named (F := Ideal) κ "slope3" (φ := .f32) 0x3BB8AA3B#32 = ((256⁻¹ * (Real.log 2)⁻¹ : ℝ) : EReal) :=
  IdealRules.named_const.ideal_named_scalar _ _ _ _ rfl

/-- The scaled queries of the pair's first head. -/
theorem lo_query : k0_pay79 (k0_pay74 Q) (ix2 r l) = if l.val < 64 then Q (ix3 0 r l) * (scale : EReal) else 0 := by
  pointwise [k0_pay79, k0_pay74]; rw [lo_lane, select_ite, scale_named]

theorem hi_query : k0_pay80 (k0_pay74 Q) (ix2 r l) = if 64 ≤ l.val then Q (ix3 0 r l) * (scale : EReal) else 0 := by
  pointwise [k0_pay80, k0_pay74]; rw [hi_lane, select_ite, scale_named]

theorem lo_query' : k0_pay81 (k0_pay75 Q) (ix2 r l) = if l.val < 64 then Q (ix3 0 r l) * (scale : EReal) else 0 := by
  pointwise [k0_pay81, k0_pay75]; rw [lo_lane, select_ite, scale_named]

theorem hi_query' : k0_pay84 (k0_pay75 Q) (iota .tc S1x128 32 [1] iota_S1x128_d1_w32) k0_pay82 k0_pay83 (ix2 r l)
    = if 64 ≤ l.val then Q (ix3 0 r l) * (scale : EReal) else 0 := by
  pointwise [k0_pay84, k0_pay75, k0_pay82, k0_pay83]; rw [hi_lane, select_ite, scale_named]

theorem lo_slope : ∀ p : Fin 2, k0_pay85 (F := Ideal) (BitVec.ofNat 32 p.val)
    = if p = 0 then ((4⁻¹ * (Real.log 2)⁻¹ : ℝ) : EReal) else ((64⁻¹ * (Real.log 2)⁻¹ : ℝ) : EReal) := by
  intro p
  fin_cases p
  · exact slope_named0
  · exact slope_named2

theorem hi_slope : ∀ p : Fin 2, k0_pay86 (F := Ideal) (BitVec.ofNat 32 p.val)
    = if p = 0 then ((16⁻¹ * (Real.log 2)⁻¹ : ℝ) : EReal) else ((256⁻¹ * (Real.log 2)⁻¹ : ℝ) : EReal) := by
  intro p
  fin_cases p
  · exact slope_named1
  · exact slope_named3

/-- The weight of the second softmax. -/
theorem weight_at : k0_pay78 lp (k0_pay77 lp) (ix2 0 0)
    = Ideal.exp (∑ x : Fin 64, lp (ix2 0 x) * lp (ix2 1 x)) - Ideal.exp (∑ x : Fin 64, lp (ix2 2 x) * lp (ix2 3 x))
      + Ideal.ofBits .f32 0x3E4CCCCD#32 := by
  pointwise [k0_pay78, k0_pay77]

theorem one_lane (g : Fin 128 → EReal) (n : Fin 128) : ∑ x : Fin 128, (if x.val = n.val then g x else 0) = g n := by
  rw [Finset.sum_eq_single n (fun b _ hb => if_neg fun h => hb (Fin.ext h)) (fun h => absurd (Finset.mem_univ _) h),
    if_pos rfl]

/-- The difference of the two averages, each its sums over its lane of weights. -/
def apart (L : EReal) (A B : FVec Ideal S512x128 .f32) (z : Fin 128) (r : Fin 512) (l : Fin 128) : EReal :=
  Ideal.div (A (ix2 r l)) (A (ix2 r z)) - L * Ideal.div (B (ix2 r l)) (B (ix2 r z))

/-- A row of the two heads' differences, the first head's in the first 64 lanes. -/
def paired (L : EReal) (A B C D : FVec Ideal S512x128 .f32) (r : Fin 512) (l : Fin 128) : EReal :=
  if l.val < 64 then apart L A B 64 r l else apart L C D 0 r l

theorem both_at : k0_pay152 L D (k0_pay149 L B k0_pay145 (k0_pay146 A) k0_pay147 k0_pay148) (k0_pay150 C) (k0_pay151 D) (ix2 r l)
    = paired (L (ix2 0 0)) A B C D r l := by
  pointwise [k0_pay152, k0_pay149, k0_pay145, k0_pay146, k0_pay147, k0_pay148, k0_pay150, k0_pay151]
  have at64 (X : FVec Ideal S512x128 .f32) : (∑ x : Fin 128, if x.val = 64 then X (ix2 r x) else 0) = X (ix2 r 64) :=
    one_lane (fun x => X (ix2 r x)) 64
  have at0 (X : FVec Ideal S512x128 .f32) : (∑ x : Fin 128, if x.val = 0 then X (ix2 r x) else 0) = X (ix2 r 0) :=
    one_lane (fun x => X (ix2 r x)) 0
  simp only [lo_lane, hi_lane, eq_lane64, eq_lane0, select_ite, at64, at0]
  unfold paired apart
  by_cases h : l.val < 64
  · simp only [if_pos h, if_neg (show ¬ 64 ≤ l.val by omega), sub_zero, add_zero]
  · simp only [if_neg h, if_pos (show 64 ≤ l.val by omega), sub_zero, zero_add]

/-- Lane `l` of a row over its head's root mean square, times the gain and the layer's constant. -/
def normed (O : Fin 128 → EReal) (g : Vec Ideal S1x128 .f32) (l : Fin 128) : EReal :=
  O l * (if 64 ≤ l.val then
      Ideal.rsqrt ((∑ x, if 64 ≤ x.val then O x * O x else 0) * Ideal.ofBits .f32 0x3C800000#32 + Ideal.ofBits .f32 0x358637BD#32)
    else
      Ideal.rsqrt ((∑ x, if x.val < 64 then O x * O x else 0) * Ideal.ofBits .f32 0x3C800000#32 + Ideal.ofBits .f32 0x358637BD#32))
    * g (ix2 0 l) * Ideal.ofBits .f32 0x3F4CCCCD#32

theorem out_pay (E : FVec Ideal S512x128 .f32) :
    k0_pay1 (k0_pay152 L D E A B) (k0_pay153 L D E A B) (k0_pay154 L D E A B) k0_pay155 g (ix3 0 r l)
      = normed (fun x => k0_pay152 L D E A B (ix2 r x)) g l := by
  pointwise [k0_pay1, k0_pay153, k0_pay154, k0_pay155]
  simp only [lo_lane, hi_lane, select_ite]
  unfold normed
  by_cases h : l.val < 64
  · simp only [if_pos h, if_neg (show ¬ 64 ≤ l.val by omega)]
  · simp only [if_pos (show 64 ≤ l.val by omega)]

end Cert.DiffIdeal.Step

end
-- ==== Proof.DiffOut.lean ====
/- What one grid point of the differential attention writes. -/
module

public import proofs.«01_k».proof.Proof.DiffTrip
public import proofs.«01_k».proof.Proof.DiffNorm
public import proofs.«01_k».proof.Proof.Gen.DiffIdeal.Frame

@[expose] public section

set_option maxRecDepth 16384

noncomputable section

namespace Cert.DiffIdeal.Step

open Idealize.ShloMosaic Idealize.ShloMosaic.TcCoe Cert.DiffIdeal.Gen Cert.DiffIdeal.Index Cert.Softmax

variable (c : Dev nD) (i : grid0.Coords)
  (arg3 : Memref sig .tc .vmem S1x512x128 .bf16) (harg3 : arg3.IsWhole)
  (arg4 : Memref sig .tc .vmem S1x512x128 .bf16) (harg4 : arg4.IsWhole)
  (arg5 : Memref sig .tc .vmem S1x4096x128 .bf16) (harg5 : arg5.IsWhole)
  (arg6 : Memref sig .tc .vmem S1x4096x128 .bf16) (harg6 : arg6.IsWhole)
  (arg7 : Memref sig .tc .vmem S1x4096x128 .bf16) (harg7 : arg7.IsWhole)
  (arg8 : Memref sig .tc .vmem S4x64 .f32) (harg8 : arg8.IsWhole)
  (arg9 : Memref sig .tc .vmem S1x128 .f32) (harg9 : arg9.IsWhole)
  (arg10 : Memref sig .tc .vmem S1x512x128 .bf16) (harg10 : arg10.IsWhole)
  (Q1 Q2 : Vec Ideal S1x512x128 .bf16) (K1 K2 V : Vec Ideal S1x4096x128 .bf16) (lp : Vec Ideal S4x64 .f32)
  (g : Vec Ideal S1x128 .f32)

/-! ## The diagonal block's payloads -/

section Same

variable (P : IVec S512x1 32) (m : FVec Ideal S512x1 .f32) (a : FVec Ideal S512x128 .f32) (T : FVec Ideal S512x128 .bf16)
  (D E : FVec Ideal S512x512 .f32) (x y z u : IVec S1x512 32) (n : BitVec 32) (v : IVec S512x1 32) (b : IVec S512x1 1)

theorem pay127_eq : k0_pay127 P m a D T E x n v b = k0_pay49 m a T (k0_pay126 P D E x n v b) := rfl

theorem pay131_eq : k0_pay131 a T (k0_pay129 P m D E x n v b) (k0_pay130 P m D E x n v b)
    = k0_pay49 m a T (k0_pay126 P D E x n v b) := rfl

theorem pay143_eq : k0_pay143 a T (k0_pay138 P x D E n y z u) (k0_pay141 P m x D E n y z u) (k0_pay142 P m x D E n y z u)
    = k0_pay49 m a T (k0_pay138 P x D E n y z u) := rfl

theorem pay144_eq : k0_pay144 m a T (k0_pay139 P x D E n y z u) = k0_pay49 m a T (k0_pay138 P x D E n y z u) := rfl

end Same

section Diagonal

variable (w : FVec Ideal S512x128 .bf16) (K : Vec Ideal S1x4096x128 .bf16) (σ : Ideal .f32) (top : NoTop w K σ)
  (m : FVec Ideal S512x1 .f32) (a : FVec Ideal S512x128 .f32) (q : BitVec 32) (hq : q = BitVec.ofNat 32 (i 2).val)

/-- A masked score of the diagonal block is the score of its key. -/
theorem diag_score (S : FVec Ideal S512x512 .f32) (h5)
    (hS : ∀ r j, S (ix2 r j) = if (512 * (i 2).val + j.val) / 64 ≤ (512 * (i 2).val + r.val) / 64
      then k0_pay115 w (View.ld K (Rect.unit (k0_off5 i) ![1, 512, 128] h5)) (ix2 r j)
        + σ * (place (512 * (i 2).val + r.val) (512 * (i 2).val + j.val) : EReal) else ⊥) (r j : Fin 512) :
    S (ix2 r j) = score w K σ (512 * (i 2).val + r.val) r (512 * (i 2).val + j.val) := by
  have h2 := tile_lt i
  have hj := j.isLt
  rw [hS, score, dot_at]
  by_cases hc : (512 * (i 2).val + j.val) / 64 ≤ (512 * (i 2).val + r.val) / 64
  · rw [if_pos hc, dif_pos ⟨hc, by omega⟩]
    refine congrArg₂ (fun x y : EReal => x + y) (Finset.sum_congr rfl fun x _ => ?_) rfl
    rw [ld_rows512 _ _ _ (k0_off5_eq i)]
  · rw [if_neg hc, dif_neg fun h => hc h.1]

include top hq

/-- THE DIAGONAL BLOCK closes a pass of the pair's first head. -/
theorem diag_lo (h : Head w K σ (val0 V) (512 * (i 2).val) (512 * (i 2).val) m a) (h5) :
    ∃ M, Head w K σ (val0 V) (512 * (i 2).val) (512 * (i 2).val + 512) M
      (k0_pay49 m a (k0_pay120 (k0_pay113 (View.ld V (Rect.unit (k0_off5 i) ![1, 512, 128] h5))) k0_pay119
        (iota .tc S1x128 32 [1] iota_S1x128_d1_w32))
        (masked0 i q σ (k0_pay115 w (View.ld K (Rect.unit (k0_off5 i) ![1, 512, 128] h5))))) :=
  ⟨_, h.narrow top (diag_score i w K σ _ h5 fun r j => masked0_at i q hq σ r j _) fun j l => by
    have h2 := tile_lt i
    have hj := j.isLt
    rw [pay120_at, val0, dif_pos (by omega), ld_rows512 _ _ _ (k0_off5_eq i)]⟩

/-- … and of the second head. -/
theorem diag_hi (h : Head w K σ (val1 V) (512 * (i 2).val) (512 * (i 2).val) m a) (h5) :
    ∃ M, Head w K σ (val1 V) (512 * (i 2).val) (512 * (i 2).val + 512) M
      (k0_pay49 m a (k0_pay132 (k0_pay113 (View.ld V (Rect.unit (k0_off5 i) ![1, 512, 128] h5))))
        (masked1 i q σ (k0_pay115 w (View.ld K (Rect.unit (k0_off5 i) ![1, 512, 128] h5))))) :=
  ⟨_, h.narrow top (diag_score i w K σ _ h5 fun r j => masked1_at i q hq σ r j _) fun j l => by
    have h2 := tile_lt i
    have hj := j.isLt
    rw [pay132_at, val1, dif_pos (by omega), ld_rows512 _ _ _ (k0_off5_eq i)]⟩

end Diagonal

/-- Nothing is carried into the first block. -/
theorem carried_zero (v59 v69 v79 v89 : FVec Ideal S512x128 .bf16) (v91 v93 : Ideal .f32) :
    Carried v59 v69 v79 v89 v91 v93 K1 K2 V i 0
      (k0_pay87, k0_pay88, k0_pay89, k0_pay90, k0_pay91, k0_pay92, k0_pay93, k0_pay94) := by
  have hm : ∀ r : Fin 512, k0_pay87 (F := Ideal) (ix2 r 0) = (⊥ : EReal) := fun r => by pointwise [k0_pay87]; exact mask
  have hz : ∀ (r : Fin 512) (l : Fin 128), k0_pay88 (F := Ideal) (ix2 r l) = (0 : EReal) := fun r l => by pointwise [k0_pay88]
  have hh : ∀ w K σ v R, Head w K σ v R 0 k0_pay87 k0_pay88 := fun w K σ v R r l => by rw [hm, hz]; exact st_zero _ _
  exact ⟨hh _ _ _ _ _, hh _ _ _ _ _, hh _ _ _ _ _, hh _ _ _ _ _⟩

/-- The four scaled queries of a grid point and its two slopes. -/
abbrev lo1 : FVec Ideal S512x128 .bf16 := k0_pay79 (k0_pay74 Q1)
abbrev hi1 : FVec Ideal S512x128 .bf16 := k0_pay80 (k0_pay74 Q1)
abbrev lo2 : FVec Ideal S512x128 .bf16 := k0_pay81 (k0_pay75 Q2)
abbrev hi2 : FVec Ideal S512x128 .bf16 := k0_pay84 (k0_pay75 Q2) (iota .tc S1x128 32 [1] iota_S1x128_d1_w32) k0_pay82 k0_pay83
abbrev loσ : Ideal .f32 := k0_pay85 (BitVec.ofNat 32 (i 1).val)
abbrev hiσ : Ideal .f32 := k0_pay86 (BitVec.ofNat 32 (i 1).val)

set_option maxHeartbeats 4000000 in
/-- THE POINT'S BLOCK: each row's two heads side by side, each the difference of its two averages over its root mean
    square. -/
theorem out_at (top : Tops (lo1 Q1) (hi1 Q1) (lo2 Q2) (hi2 Q2) (loσ i) (hiσ i) K1 K2) :
    ∃ A B C D : FVec Ideal S512x128 .f32,
      (∃ M, Head (lo1 Q1) K1 (loσ i) (val0 V) (512 * (i 2).val) (512 * (i 2).val + 512) M A) ∧
      (∃ M, Head (lo2 Q2) K2 (loσ i) (val0 V) (512 * (i 2).val) (512 * (i 2).val + 512) M B) ∧
      (∃ M, Head (hi1 Q1) K1 (hiσ i) (val1 V) (512 * (i 2).val) (512 * (i 2).val + 512) M C) ∧
      (∃ M, Head (hi2 Q2) K2 (hiσ i) (val1 V) (512 * (i 2).val) (512 * (i 2).val + 512) M D) ∧
      ∀ (r : Fin 512) (l : Fin 128),
        out0_A_7 c i arg3 harg3 arg4 harg4 arg5 harg5 arg6 harg6 arg7 harg7 arg8 harg8 arg9 harg9 arg10 harg10 Q1 Q2 K1 K2 V lp g
          (ix3 0 r l) = normed (paired (k0_pay78 lp (k0_pay77 lp) (ix2 0 0)) A B C D r) g l := by
  have hq := tile_lt i
  unfold out0_A_7
  frame_out
  simp only [loop2, loop4]
  generalize hacc : st_k0_t3 (F := Ideal) _ _ _ _ _ _ _ _ _ _ _ _ _ _ _ _ _ _ _ _ _ _ _ _ _ _ _ _ _ _ _ _ _ _ _ _ _ _ _ _ _ _ _ _ = acc
  have hC : Carried (lo1 Q1) (hi1 Q1) (lo2 Q2) (hi2 Q2) (loσ i) (hiσ i) K1 K2 V i (512 * (i 2).val) acc := by
    rw [← hacc]
    have e : 512 * (i 2).val = 1024 * ((i 2).val / 2) + 512 * (k0_t3_loop i).trips := by rw [trips3]; omega
    rw [e]
    refine loop3 _ c _ i arg3 harg3 arg4 harg4 arg5 harg5 arg6 harg6 arg7 harg7 arg8 harg8 arg9 harg9 arg10 harg10
      _ _ _ _ _ _ _ _ _ _ _ _ _ _ _ _ _ K1 K2 V _ rfl top _ ?_ _ le_rfl
    have e1 : 1024 * ((i 2).val / 2) = 1024 * (k0_t1_loop i).trips := by rw [trips1]
    rw [e1]
    refine loop1 _ c _ i arg3 harg3 arg4 harg4 arg5 harg5 arg6 harg6 arg7 harg7 arg8 harg8 arg9 harg9 arg10 harg10
      _ _ _ _ _ _ _ _ _ _ _ _ _ _ _ _ _ K1 K2 V top _ ?_ _ le_rfl
    exact carried_zero i K1 K2 V _ _ _ _ _ _
  clear hacc
  generalize hqq : Scalar.select (Scalar.andi _ _) _ _ = q
  have hw : q = BitVec.ofNat 32 (i 2).val := hqq.symm.trans (tile_word i)
  clear hqq
  rw [pay127_eq, pay131_eq, pay143_eq, pay144_eq]
  generalize hA : k0_pay49 acc.1 _ _ _ = A
  generalize hB : k0_pay49 acc.2.2.1 _ _ _ = B
  generalize hD : k0_pay49 acc.2.2.2.2.1 _ _ _ = C
  generalize hE : k0_pay49 acc.2.2.2.2.2.2.1 _ _ _ = D
  refine ⟨A, B, C, D, ?_, ?_, ?_, ?_, fun r l => ?_⟩
  · rw [← hA]; exact diag_lo i V _ K1 _ top.lo1 _ _ q hw hC.lo1 _
  · rw [← hB]; exact diag_lo i V _ K2 _ top.lo2 _ _ q hw hC.lo2 _
  · rw [← hD]; exact diag_hi i V _ K1 _ top.hi1 _ _ q hw hC.hi1 _
  · rw [← hE]; exact diag_hi i V _ K2 _ top.hi2 _ _ q hw hC.hi2 _
  · rw [out_pay]
    simp only [both_at]

end Cert.DiffIdeal.Step

end
-- ==== Proof.DiffHost.lean ====
/- The differential attention's operands: where each block of a grid point lies in the program's arguments, and what its
   precondition says of them. -/
module

public import proofs.«01_k».proof.Proof.Gen.DiffIdeal.Value
public import proofs.«01_k».proof.Pre_finite_diff
public import proofs.«01_k».proof.Proof.FoxHost

@[expose] public section

set_option maxRecDepth 16384

noncomputable section

namespace Cert.DiffIdeal.Operands

open Idealize.ShloMosaic Idealize.ShloMosaic.TcCoe Cert.DiffIdeal Cert.DiffIdeal.Gen

variable (m : (ℓ : Loc nD τ sig) → Buf (Elt Ideal) ℓ) (c : Dev nD)

abbrev q1s : FVec Ideal S8x4096x4x64 .f32 := m ((c : Thread nD τ).loc main_arg0)
abbrev q2s : FVec Ideal S8x4096x4x64 .f32 := m ((c : Thread nD τ).loc main_arg1)
abbrev k1s : FVec Ideal S8x4096x4x64 .f32 := m ((c : Thread nD τ).loc main_arg2)
abbrev k2s : FVec Ideal S8x4096x4x64 .f32 := m ((c : Thread nD τ).loc main_arg3)
abbrev vs : FVec Ideal S8x4096x4x64 .f32 := m ((c : Thread nD τ).loc main_arg4)
abbrev lps : FVec Ideal S4x64 .f32 := m ((c : Thread nD τ).loc main_arg5)
abbrev gains : FVec Ideal S64 .f32 := m ((c : Thread nD τ).loc main_arg6)

theorem idx : ∀ t : Fin cfg0.N,
    win0_0.index t = ![(grid0.coords t 0).val, (grid0.coords t 2).val, (grid0.coords t 1).val]
    ∧ win0_1.index t = ![(grid0.coords t 0).val, (grid0.coords t 2).val, 2 + (grid0.coords t 1).val]
    ∧ win0_2.index t = ![(grid0.coords t 0).val, 0, 4 + (grid0.coords t 1).val]
    ∧ win0_3.index t = ![(grid0.coords t 0).val, 0, 6 + (grid0.coords t 1).val]
    ∧ win0_4.index t = ![(grid0.coords t 0).val, 0, 20 + (grid0.coords t 1).val]
    ∧ win0_5.index t = ![0, 0] ∧ win0_6.index t = ![0, 0]
    ∧ win0_7.index t = ![(grid0.coords t 0).val, (grid0.coords t 2).val, (grid0.coords t 1).val] :=
  (by decide +kernel : ∀ t : Fin grid0.N, _)

/-- The joined operand in the first queries' lanes. -/
theorem joined_q1 (b : Fin 8) (r : Fin 4096) (h : Fin 4) (d : Fin 64) (x : Fin 3584) (hx : x.val = 0 + 64 * h.val + d.val) :
    (V m c main_v12 : FVec Ideal S8x4096x3584 .bf16) (ix3 b r x) = q1s m c (ix4 b r h d) := by
  show StableHlo.after hostOps0 (fun b => m (c, b)) (Proc.tc.devRef _) _ = _
  after_results_simp
  pointwise
  rw [dif_pos (by omega)]
  after_results_simp
  pointwise
  refine congrArg₂ (fun x y => q1s m c (ix4 b r x y)) (Fin.ext ?_) (Fin.ext ?_)
  · show (x.val) / 64 = h.val; omega
  · show (x.val) % 64 = d.val; omega

/-- The joined operand in the second queries' lanes. -/
theorem joined_q2 (b : Fin 8) (r : Fin 4096) (h : Fin 4) (d : Fin 64) (x : Fin 3584) (hx : x.val = 256 + 64 * h.val + d.val) :
    (V m c main_v12 : FVec Ideal S8x4096x3584 .bf16) (ix3 b r x) = q2s m c (ix4 b r h d) := by
  show StableHlo.after hostOps0 (fun b => m (c, b)) (Proc.tc.devRef _) _ = _
  after_results_simp
  pointwise
  rw [dif_neg (by omega), dif_pos (by omega)]
  after_results_simp
  pointwise
  refine congrArg₂ (fun x y => q2s m c (ix4 b r x y)) (Fin.ext ?_) (Fin.ext ?_)
  · show (x.val - 256) / 64 = h.val; omega
  · show (x.val - 256) % 64 = d.val; omega

/-- The joined operand in the first keys' lanes. -/
theorem joined_k1 (b : Fin 8) (r : Fin 4096) (h : Fin 4) (d : Fin 64) (x : Fin 3584) (hx : x.val = 512 + 64 * h.val + d.val) :
    (V m c main_v12 : FVec Ideal S8x4096x3584 .bf16) (ix3 b r x) = k1s m c (ix4 b r h d) := by
  show StableHlo.after hostOps0 (fun b => m (c, b)) (Proc.tc.devRef _) _ = _
  after_results_simp
  pointwise
  rw [dif_neg (by omega), dif_neg (by omega), dif_pos (by omega)]
  after_results_simp
  pointwise
  refine congrArg₂ (fun x y => k1s m c (ix4 b r x y)) (Fin.ext ?_) (Fin.ext ?_)
  · show (x.val - 256 - 256) / 64 = h.val; omega
  · show (x.val - 256 - 256) % 64 = d.val; omega

/-- The joined operand in the second keys' lanes. -/
theorem joined_k2 (b : Fin 8) (r : Fin 4096) (h : Fin 4) (d : Fin 64) (x : Fin 3584) (hx : x.val = 768 + 64 * h.val + d.val) :
    (V m c main_v12 : FVec Ideal S8x4096x3584 .bf16) (ix3 b r x) = k2s m c (ix4 b r h d) := by
  show StableHlo.after hostOps0 (fun b => m (c, b)) (Proc.tc.devRef _) _ = _
  after_results_simp
  pointwise
  rw [dif_neg (by omega), dif_neg (by omega), dif_neg (by omega), dif_pos (by omega)]
  after_results_simp
  pointwise
  refine congrArg₂ (fun x y => k2s m c (ix4 b r x y)) (Fin.ext ?_) (Fin.ext ?_)
  · show (x.val - 256 - 256 - 256) / 64 = h.val; omega
  · show (x.val - 256 - 256 - 256) % 64 = d.val; omega

/-- The joined operand in the values' lanes. -/
theorem joined_v (b : Fin 8) (r : Fin 4096) (h : Fin 4) (d : Fin 64) (x : Fin 3584) (hx : x.val = 2560 + 64 * h.val + d.val) :
    (V m c main_v12 : FVec Ideal S8x4096x3584 .bf16) (ix3 b r x) = vs m c (ix4 b r h d) := by
  show StableHlo.after hostOps0 (fun b => m (c, b)) (Proc.tc.devRef _) _ = _
  after_results_simp
  pointwise
  rw [dif_neg (by omega), dif_neg (by omega), dif_neg (by omega), dif_neg (by omega), dif_neg (by omega), dif_pos (by omega)]
  after_results_simp
  pointwise
  refine congrArg₂ (fun x y => vs m c (ix4 b r x y)) (Fin.ext ?_) (Fin.ext ?_)
  · show (x.val - 256 - 256 - 256 - 256 - 1536) / 64 = h.val; omega
  · show (x.val - 256 - 256 - 256 - 256 - 1536) % 64 = d.val; omega

/-- The gains, once for each head of a pair. -/
theorem gain (d : Fin 64) (x : Fin 128) (hx : x.val % 64 = d.val) :
    (V m c main_v16 : FVec Ideal S1x128 .f32) (ix2 0 x) = gains m c (ix1 d) := by
  show StableHlo.after hostOps0 (fun b => m (c, b)) (Proc.tc.devRef _) _ = _
  after_results_simp
  pointwise
  exact congrArg (fun x => gains m c (ix1 x)) (Fin.ext hx)

theorem blk0 (t : Fin cfg0.N) (b : Fin 8) (r : Fin 512) (R : Fin 4096) (h : Fin 4) (d : Fin 64) (l : Fin 128)
    (hb : b.val = (grid0.coords t 0).val) (hR : R.val = 512 * (grid0.coords t 2).val + r.val)
    (hl : 128 * (grid0.coords t 1).val + l.val = 64 * h.val + d.val) :
    (iblk m c 0 t : FVec Ideal S1x512x128 .bf16) (ix3 0 r l) = q1s m c (ix4 b R h d) := by
  rw [← joined_q1 m c b R h d ⟨0 + 64 * h.val + d.val, by omega⟩ rfl]
  blk_ext [iblk, idx t]

theorem blk1 (t : Fin cfg0.N) (b : Fin 8) (r : Fin 512) (R : Fin 4096) (h : Fin 4) (d : Fin 64) (l : Fin 128)
    (hb : b.val = (grid0.coords t 0).val) (hR : R.val = 512 * (grid0.coords t 2).val + r.val)
    (hl : 128 * (grid0.coords t 1).val + l.val = 64 * h.val + d.val) :
    (iblk m c 1 t : FVec Ideal S1x512x128 .bf16) (ix3 0 r l) = q2s m c (ix4 b R h d) := by
  rw [← joined_q2 m c b R h d ⟨256 + 64 * h.val + d.val, by omega⟩ rfl]
  blk_ext [iblk, idx t]

theorem blk2 (t : Fin cfg0.N) (b : Fin 8) (R : Fin 4096) (h : Fin 4) (d : Fin 64) (l : Fin 128)
    (hb : b.val = (grid0.coords t 0).val) (hl : 128 * (grid0.coords t 1).val + l.val = 64 * h.val + d.val) :
    (iblk m c 2 t : FVec Ideal S1x4096x128 .bf16) (ix3 0 R l) = k1s m c (ix4 b R h d) := by
  rw [← joined_k1 m c b R h d ⟨512 + 64 * h.val + d.val, by omega⟩ rfl]
  blk_ext [iblk, idx t]

theorem blk3 (t : Fin cfg0.N) (b : Fin 8) (R : Fin 4096) (h : Fin 4) (d : Fin 64) (l : Fin 128)
    (hb : b.val = (grid0.coords t 0).val) (hl : 128 * (grid0.coords t 1).val + l.val = 64 * h.val + d.val) :
    (iblk m c 3 t : FVec Ideal S1x4096x128 .bf16) (ix3 0 R l) = k2s m c (ix4 b R h d) := by
  rw [← joined_k2 m c b R h d ⟨768 + 64 * h.val + d.val, by omega⟩ rfl]
  blk_ext [iblk, idx t]

theorem blk4 (t : Fin cfg0.N) (b : Fin 8) (R : Fin 4096) (h : Fin 4) (d : Fin 64) (l : Fin 128)
    (hb : b.val = (grid0.coords t 0).val) (hl : 128 * (grid0.coords t 1).val + l.val = 64 * h.val + d.val) :
    (iblk m c 4 t : FVec Ideal S1x4096x128 .bf16) (ix3 0 R l) = vs m c (ix4 b R h d) := by
  rw [← joined_v m c b R h d ⟨2560 + 64 * h.val + d.val, by omega⟩ rfl]
  blk_ext [iblk, idx t]

theorem blk5 (t : Fin cfg0.N) (a : Fin 4) (d : Fin 64) :
    (iblk m c 5 t : FVec Ideal S4x64 .f32) (ix2 a d) = lps m c (ix2 a d) := by
  blk_ext [iblk, idx t]

theorem blk6 (t : Fin cfg0.N) (d : Fin 64) (l : Fin 128) (hl : l.val % 64 = d.val) :
    (iblk m c 6 t : FVec Ideal S1x128 .f32) (ix2 0 l) = gains m c (ix1 d) := by
  rw [← gain m c d l hl]
  blk_ext [iblk, idx t]

instance facts : Cert.Pre_finite_diff.Facts where
  bcast_S_S8x4096x4x64 := by decide
  reducesTo_S8x4096x4x64_S_d0_1_2_3 := by decide
  h_S_ := by decide
  bcast_S_S4x64 := by decide
  reducesTo_S4x64_S_d0_1 := by decide

/-- THE PRECONDITION: queries, keys, values and the parameters of the second softmax's weight are real. -/
theorem real_args (q1 q2 k1 k2 v : FVec Ideal S8x4096x4x64 .f32) (lp : FVec Ideal S4x64 .f32) (g : FVec Ideal S64 .f32)
    (h : Cert.Pre_finite_diff.fn (F := Ideal) q1 q2 k1 k2 v lp g = fun _ => 1#1) :
    (∀ i, ∃ r : ℝ, q1 i = r) ∧ (∀ i, ∃ r : ℝ, q2 i = r) ∧ (∀ i, ∃ r : ℝ, k1 i = r) ∧ (∀ i, ∃ r : ℝ, k2 i = r) ∧
      (∀ i, ∃ r : ℝ, v i = r) ∧ ∀ i, ∃ r : ℝ, lp i = r := by
  have h := congrFun h ix0
  unfold Cert.Pre_finite_diff.fn Cert.Pre_finite_diff.fn_part1 at h
  dsimp only at h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h1, h2⟩ := IntOp.andi_eq_one.mp h
  refine ⟨fun i => Cert.FoxIdeal.Operands.real_of_abs _ ?_, fun i => Cert.FoxIdeal.Operands.real_of_abs _ ?_,
    fun i => Cert.FoxIdeal.Operands.real_of_abs _ ?_, fun i => Cert.FoxIdeal.Operands.real_of_abs _ ?_,
    fun i => Cert.FoxIdeal.Operands.real_of_abs _ ?_, fun i => Cert.FoxIdeal.Operands.real_of_abs _ ?_⟩
  · exact Host.reduce_andi_all _ _ _ _ _ h1 i
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact Host.reduce_andi_all _ _ _ _ _ h6 i

end Cert.DiffIdeal.Operands

end
-- ==== Proof.DiffRef.lean ====
/- The differential attention's reference read at an index: two softmaxes over the keys of the row's chunk and the earlier
   ones, their weighted difference times the values, and the root mean square of a head's lanes. -/
module

public import proofs.«01_k».proof.Proof.Gen.DiffRefIdeal.Run
public import proofs.«01_k».proof.Proof.FoxRef

@[expose] public section

set_option maxRecDepth 16384

noncomputable section

namespace Cert.DiffRefIdeal.Soft

open Idealize.ShloMosaic Idealize.ShloMosaic.TcCoe Cert.DiffRefIdeal Cert.DiffRefIdeal.Gen

variable (q k v : FVec Ideal S8x4096x4x64 .f32) (lp : FVec Ideal S4x64 .f32) (g : FVec Ideal S64 .f32)

/-- The masked scores. -/
def scores : FVec Ideal S8x4x4096x4096 .f32 :=
  select (broadcastInDim S8x4x4096x4096 ![2, 3] bcast_S4096x4096_S8x4x4096x4096_2_3 (cmpi .sle (broadcastInDim S4096x4096 ![0, 1] bcast_S1x4096_S4096x4096_0_1 (select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32)))))) (broadcastInDim S4096x4096 ![0, 1] bcast_S4096x1_S4096x4096_0_1 (select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32)))))))) (addf (mulf (Host.dotGeneral dot_S8x4096x4x64_S8x4096x4x64_S8x4x4096x4096_3_3_1_1_02_02 none q k) (broadcastInDim S8x4x4096x4096 ![] bcast_S_S8x4x4096x4096 (constant S_ .f32 0x3E000000#32))) (broadcastInDim S8x4x4096x4096 ![0, 1, 2, 3] bcast_S1x4x4096x4096_S8x4x4096x4096_0_1_2_3 (broadcastInDim S1x4x4096x4096 ![1, 2, 3] bcast_S4x4096x4096_S1x4x4096x4096_1_2_3 (mulf (broadcastInDim S4x4096x4096 ![0, 1, 2] bcast_S4x1x1_S4x4096x4096_0_1_2 (Host.negf (broadcastInDim S4x1x1 ![0] bcast_S4_S4x1x1_0 ((fun i => FloatOps.ofBits .f32 (lit0 (S4.rowMajor i))))))) (broadcastInDim S4x4096x4096 ![0, 1, 2] bcast_S1x4096x4096_S4x4096x4096_0_1_2 (broadcastInDim S1x4096x4096 ![1, 2] bcast_S4096x4096_S1x4096x4096_1_2 (sitofp .f32 (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))))))))) (broadcastInDim S8x4x4096x4096 ![] bcast_S_S8x4x4096x4096 (id (constant S_ .f32 0xFF800000#32)))

/-- A row's largest score. -/
def rowMax (L : FVec Ideal S8x4x4096x4096 .f32) : FVec Ideal S8x4x4096 .f32 :=
  maximumf (broadcastInDim S8x4x4096 ![] bcast_S_S8x4x4096 (constant S_ .f32 0xFF800000#32)) (Host.reduce FloatOps.maximumf L (constant S_ .f32 0xFF800000#32) reducesTo_S8x4x4096x4096_S8x4x4096_d3 h_S_)

/-- The exponentials under a row shift. -/
def expo (L : FVec Ideal S8x4x4096x4096 .f32) (M : FVec Ideal S8x4x4096 .f32) : FVec Ideal S8x4x4096x4096 .f32 :=
  Host.exp (subf L (broadcastInDim S8x4x4096x4096 ![0, 1, 2, 3] bcast_S8x4x4096x1_S8x4x4096x4096_0_1_2_3 (broadcastInDim S8x4x4096x1 ![0, 1, 2] bcast_S8x4x4096_S8x4x4096x1_0_1_2 M)))

/-- The exponentials over their row's sum. -/
def shares (E : FVec Ideal S8x4x4096x4096 .f32) : FVec Ideal S8x4x4096x4096 .f32 :=
  Host.divf E (broadcastInDim S8x4x4096x4096 ![0, 1, 2, 3] bcast_S8x4x4096x1_S8x4x4096x4096_0_1_2_3 (broadcastInDim S8x4x4096x1 ![0, 1, 2] bcast_S8x4x4096_S8x4x4096x1_0_1_2 (Host.reduceAdd E (constant S_ .f32 0x00000000#32) reducesTo_S8x4x4096x4096_S8x4x4096_d3 h_S_)))

/-- One softmax. -/
abbrev soft : FVec Ideal S8x4x4096x4096 .f32 := shares (expo (scores q k) (rowMax (scores q k)))

/-- The second softmax's weight. -/
def weight : FVec Ideal S_ .f32 :=
  addf (subf (Host.exp (Host.reduceAdd (mulf (shapeCast S64 (extractStridedSlice S1x64 ![0, 0] lp slices_S4x64_S1x64_0_0) shapeCasts_S1x64_S64) (shapeCast S64 (extractStridedSlice S1x64 ![1, 0] lp slices_S4x64_S1x64_1_0) shapeCasts_S1x64_S64)) (constant S_ .f32 0x00000000#32) reducesTo_S64_S_d0 h_S_)) (Host.exp (Host.reduceAdd (mulf (shapeCast S64 (extractStridedSlice S1x64 ![2, 0] lp slices_S4x64_S1x64_2_0) shapeCasts_S1x64_S64) (shapeCast S64 (extractStridedSlice S1x64 ![3, 0] lp slices_S4x64_S1x64_3_0) shapeCasts_S1x64_S64)) (constant S_ .f32 0x00000000#32) reducesTo_S64_S_d0 h_S_))) (constant S_ .f32 0x3E4CCCCD#32)

/-- The values mixed by the difference of the two softmaxes. -/
def mixed (W : FVec Ideal S_ .f32) (P1 P2 : FVec Ideal S8x4x4096x4096 .f32) : FVec Ideal S8x4096x4x64 .f32 :=
  transpose S8x4096x4x64 [0, 3, 1, 2] (Host.dotGeneral dot_S8x4096x4x64_S8x4x4096x4096_S8x4x64x4096_1_3_3_2_02_01 none v (subf P1 (mulf (broadcastInDim S8x4x4096x4096 ![] bcast_S_S8x4x4096x4096 W) P2))) transposes_S8x4x64x4096_S8x4096x4x64_0_3_1_2

/-- A head's lanes over their root mean square, times the gain and the layer's constant. -/
def normed (O : FVec Ideal S8x4096x4x64 .f32) : FVec Ideal S8x4096x256 .bf16 :=
  truncf .bf16 (shapeCast S8x4096x256 (mulf (mulf (mulf O (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf O O) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x1x64_S8x4096x4x64_0_1_2_3 (broadcastInDim S1x1x1x64 ![3] bcast_S64_S1x1x1x64_3 g))) (broadcastInDim S8x4096x4x64 ![] bcast_S_S8x4096x4x64 (constant S_ .f32 0x3F4CCCCD#32))) shapeCasts_S8x4096x4x64_S8x4096x256) bitsLt_bf16_f32

theorem res_eq (m : (ℓ : Loc nD τ sig) → Buf (Elt Ideal) ℓ) (c : Dev nD) :
    Value.res_main_v94 m c = normed (m ((c.tc : Thread nD τ).loc main_arg6)) (mixed (m ((c.tc : Thread nD τ).loc main_arg4)) (weight (m ((c.tc : Thread nD τ).loc main_arg5))) (soft (m ((c.tc : Thread nD τ).loc main_arg0)) (m ((c.tc : Thread nD τ).loc main_arg2))) (soft (m ((c.tc : Thread nD τ).loc main_arg1)) (m ((c.tc : Thread nD τ).loc main_arg3)))) := by
  unfold Value.res_main_v94 normed mixed weight soft shares expo rowMax scores; rfl

theorem expo_at (L : FVec Ideal S8x4x4096x4096 .f32) (M : FVec Ideal S8x4x4096 .f32) (b : Fin 8) (h : Fin 4) (r j : Fin 4096) :
    expo L M (ix4 b h r j) = Ideal.exp (L (ix4 b h r j) - M (ix3 b h r)) := by
  pointwise [expo]

theorem shares_at (E : FVec Ideal S8x4x4096x4096 .f32) (b : Fin 8) (h : Fin 4) (r j : Fin 4096) :
    shares E (ix4 b h r j) = Ideal.div (E (ix4 b h r j)) (∑ j : Fin 4096, E (ix4 b h r j)) := by
  pointwise [shares]

theorem weight_at : weight lp ix0 = Ideal.exp (∑ x : Fin 64, lp (ix2 0 x) * lp (ix2 1 x))
    - Ideal.exp (∑ x : Fin 64, lp (ix2 2 x) * lp (ix2 3 x)) + Ideal.ofBits .f32 0x3E4CCCCD#32 := by
  pointwise [weight]

theorem mixed_at (W : FVec Ideal S_ .f32) (P1 P2 : FVec Ideal S8x4x4096x4096 .f32) (b : Fin 8) (r : Fin 4096) (h : Fin 4) (d : Fin 64) :
    mixed v W P1 P2 (ix4 b r h d) = ∑ j : Fin 4096, v (ix4 b j h d) * (P1 (ix4 b h r j) - W ix0 * P2 (ix4 b h r j)) := by
  pointwise [mixed]

theorem mean64 (S : EReal) : Ideal.div S (Ideal.ofBits .f32 0x42800000#32) = S * Ideal.ofBits .f32 0x3C800000#32 := by
  rw [show Ideal.ofBits .f32 0x42800000#32 = ((64 : ℝ) : EReal) by
      simp [Ideal.ofBits, Ideal.ieee]; rw [← EReal.coe_mul]; congr 1; norm_num,
    show Ideal.ofBits .f32 0x3C800000#32 = ((1 / 64 : ℝ) : EReal) by
      simp [Ideal.ofBits, Ideal.ieee]; rw [← EReal.coe_mul]; congr 1; norm_num, Ideal.div_coe (by norm_num)]

theorem normed_lane (O : FVec Ideal S8x4096x4x64 .f32) (b : Fin 8) (r : Fin 4096) (x : Fin 256) :
    normed g O (ix3 b r x) = O (ix4 b r ⟨x.val / 64, by omega⟩ ⟨x.val % 64, by omega⟩) * Ideal.rsqrt
      ((∑ y : Fin 64, O (ix4 b r ⟨x.val / 64, by omega⟩ y) * O (ix4 b r ⟨x.val / 64, by omega⟩ y))
        * Ideal.ofBits .f32 0x3C800000#32 + Ideal.ofBits .f32 0x358637BD#32)
      * g (ix1 ⟨x.val % 64, by omega⟩) * Ideal.ofBits .f32 0x3F4CCCCD#32 := by
  pointwise [normed]
  rw [mean64]

theorem normed_at (O : FVec Ideal S8x4096x4x64 .f32) (b : Fin 8) (r : Fin 4096) (h : Fin 4) (d : Fin 64) (x : Fin 256)
    (hx : x.val = 64 * h.val + d.val) :
    normed g O (ix3 b r x) = O (ix4 b r h d) * Ideal.rsqrt ((∑ y : Fin 64, O (ix4 b r h y) * O (ix4 b r h y))
      * Ideal.ofBits .f32 0x3C800000#32 + Ideal.ofBits .f32 0x358637BD#32) * g (ix1 d) * Ideal.ofBits .f32 0x3F4CCCCD#32 := by
  have e1 : h = ⟨x.val / 64, by omega⟩ := Fin.ext (by show h.val = x.val / 64; omega)
  have e2 : d = ⟨x.val % 64, by omega⟩ := Fin.ext (by show d.val = x.val % 64; omega)
  rw [normed_lane, ← e1, ← e2]

/-- A row whose scores are not the top and not all the bottom has a real largest score. -/
theorem rowMax_real (L : FVec Ideal S8x4x4096x4096 .f32) (b : Fin 8) (h : Fin 4) (r : Fin 4096)
    (h1 : ∀ j, L (ix4 b h r j) ≠ ⊤) (h2 : L (ix4 b h r 0) ≠ ⊥) : ∃ T : ℝ, rowMax L (ix3 b h r) = T := by
  have e : rowMax L (ix3 b h r) = max ⊥ (max ⊥ ((Finset.univ.filter fun i =>
      (Shape.ReducesTo.drop reducesTo_S8x4x4096x4096_S8x4x4096_d3 i) = ix3 b h r).sup L)) := by
    unfold rowMax
    rw [maximumf_apply]
    refine congrArg₂ max ?_ ((Cert.FoxRefIdeal.Soft.reduce_max L _ _ _ _).trans (congrArg₂ max ?_ rfl))
    · show Ideal.ofBits .f32 0xFF800000#32 = ⊥
      simp [Ideal.ofBits, Ideal.ieee]
    · show Ideal.ofBits .f32 0xFF800000#32 = ⊥
      simp [Ideal.ofBits, Ideal.ieee]
  rw [bot_sup_eq, bot_sup_eq] at e
  refine ⟨(rowMax L (ix3 b h r)).toReal, (EReal.coe_toReal ?_ ?_).symm⟩
  · rw [e, ← lt_top_iff_ne_top, Finset.sup_lt_iff bot_lt_top]
    intro i hi
    obtain ⟨k, hk⟩ := (Shape.ReducesTo.fiber_r4_a3 reducesTo_S8x4x4096x4096_S8x4x4096_d3 _ i).mp (Finset.mem_filter.mp hi).2
    rw [← hk]
    exact lt_top_iff_ne_top.mpr (h1 k)
  · rw [e, ← bot_lt_iff_ne_bot]
    refine lt_of_lt_of_le (bot_lt_iff_ne_bot.mpr h2) (Finset.le_sup (f := L) (Finset.mem_filter.mpr ⟨Finset.mem_univ _, ?_⟩))
    exact (Shape.ReducesTo.fiber_r4_a3 reducesTo_S8x4x4096x4096_S8x4x4096_d3 _ _).mpr ⟨0, rfl⟩

/-- The chunk of a position. -/
theorem chunk_word : ∀ j : Fin 4096, Scalar.select
    (IntOp.andi
      (IntOp.cmpi .ne (if BitVec.ofNat 32 j.val = 0 then (0 : BitVec 32) else if (BitVec.ofNat 32 j.val).msb = true then -1 else 1)
        (if (64#32 : BitVec 32) = 0 then (0 : BitVec 32) else if (64#32 : BitVec 32).msb = true then -1 else 1))
      (IntOp.cmpi .ne (IntOp.remsi .host (BitVec.ofNat 32 j.val) 64#32) 0#32))
    (IntOp.subi (IntOp.divsi .host (BitVec.ofNat 32 j.val) 64#32) 1#32)
    (IntOp.divsi .host (BitVec.ofNat 32 j.val) 64#32) = BitVec.ofNat 32 (j.val / 64) := by
  decide +kernel

/-- How far a key is from the row. -/
def gap (R c : ℕ) : ℝ := ((|(R : ℤ) - c| : ℤ) : ℝ)

theorem gap_word (R c : ℕ) (hR : R < 4096) (hc : c < 4096) :
    FloatOps.sitofp (F := Ideal) .f32 (IntOp.absi (IntOp.subi (BitVec.ofNat 32 R) (BitVec.ofNat 32 c))) = (gap R c : EReal) := by
  have e3 : (BitVec.ofNat 32 c).toInt = (c : ℤ) := WordCmp.toInt_ofNat_of_lt (by omega)
  have e4 : (BitVec.ofNat 32 R).toInt = (R : ℤ) := WordCmp.toInt_ofNat_of_lt (by omega)
  have e : (BitVec.ofNat 32 R - BitVec.ofNat 32 c).toInt = (R : ℤ) - c := by
    rw [BitVec.toInt_sub, e3, e4]; apply Int.bmod_eq_of_le <;> omega
  show (((IntOp.absi (BitVec.ofNat 32 R - BitVec.ofNat 32 c)).toInt : ℝ) : EReal) = _
  have : (IntOp.absi (BitVec.ofNat 32 R - BitVec.ofNat 32 c)).toInt = |(R : ℤ) - c| := by
    unfold IntOp.absi
    rw [BitVec.msb_eq_toInt, e]
    by_cases h : (R : ℤ) - c < 0
    · rw [if_pos (by simpa using h), abs_of_neg h, BitVec.toInt_neg, e]; apply Int.bmod_eq_of_le <;> omega
    · rw [if_neg (by simpa using h), abs_of_nonneg (by omega), e]
  rw [this]; rfl

/-- The heads' slopes. -/
def slope : Fin 4 → ℝ := ![4⁻¹, 16⁻¹, 64⁻¹, 256⁻¹]

theorem slope_lit : ∀ h : Fin 4, Ideal.ofBits .f32 (lit0 (S4.rowMajor (ix1 h))) = ((slope h : ℝ) : EReal) := by
  have e0 : Ideal.ofBits .f32 0x3E800000#32 = ((4⁻¹ : ℝ) : EReal) := by
    simp [Ideal.ofBits, Ideal.ieee]; rw [← EReal.coe_mul]; congr 1; norm_num
  have e1 : Ideal.ofBits .f32 0x3D800000#32 = ((16⁻¹ : ℝ) : EReal) := by
    simp [Ideal.ofBits, Ideal.ieee]; rw [← EReal.coe_mul]; congr 1; norm_num
  have e2 : Ideal.ofBits .f32 0x3C800000#32 = ((64⁻¹ : ℝ) : EReal) := by
    simp [Ideal.ofBits, Ideal.ieee]; rw [← EReal.coe_mul]; congr 1; norm_num
  have e3 : Ideal.ofBits .f32 0x3B800000#32 = ((256⁻¹ : ℝ) : EReal) := by
    simp [Ideal.ofBits, Ideal.ieee]; rw [← EReal.coe_mul]; congr 1; norm_num
  intro h
  fin_cases h
  · exact e0
  · exact e1
  · exact e2
  · exact e3

theorem scores_at (b : Fin 8) (h : Fin 4) (r j : Fin 4096) : scores q k (ix4 b h r j)
    = if j.val / 64 ≤ r.val / 64 then (∑ d : Fin 64, q (ix4 b r h d) * k (ix4 b j h d)) * ((8⁻¹ : ℝ) : EReal)
      + ((-slope h * gap r.val j.val : ℝ) : EReal) else ⊥ := by
  have hr := r.isLt
  have hj := j.isLt
  pointwise [scores]
  simp only [show id (constantI S_ 32 64#32) ix0 = 64#32 from rfl,
    show id (constant (F := Ideal) S_ .f32 0xFF800000#32) ix0 = Ideal.ofBits .f32 0xFF800000#32 from rfl]
  rw [chunk_word, chunk_word, gap_word _ _ hr hj, slope_lit, show Ideal.ofBits .f32 0xFF800000#32 = ⊥ by simp [Ideal.ofBits, Ideal.ieee],
    show Ideal.ofBits .f32 0x3E000000#32 = ((8⁻¹ : ℝ) : EReal) by
      simp [Ideal.ofBits, Ideal.ieee]; rw [← EReal.coe_mul]; congr 1; norm_num,
    WordCmp.cmpi_sle_ofNat (by omega) (by omega), EReal.coe_mul, EReal.coe_neg]
  by_cases h : j.val / 64 ≤ r.val / 64
  · rw [if_pos h, decide_eq_true h]; rfl
  · rw [if_neg h, decide_eq_false h]; rfl

end Cert.DiffRefIdeal.Soft

end
-- ==== Proof.DiffValue.lean ====
/- The differential attention's result array is its reference's, for real queries, keys, values and parameters of the second
   softmax's weight. -/
module

public import proofs.«01_k».proof.Proof.DiffOut
public import proofs.«01_k».proof.Proof.DiffHost
public import proofs.«01_k».proof.Proof.DiffRef
public import proofs.«01_k».proof.Proof.FoxValue

@[expose] public section

set_option maxRecDepth 16384

noncomputable section

namespace Cert.DiffIdeal.Final

open Idealize.ShloMosaic Idealize.ShloMosaic.TcCoe Cert.DiffIdeal Cert.DiffIdeal.Gen Cert.DiffIdeal.Step Cert.DiffIdeal.Operands
  Cert.DiffIdeal.Index Cert.Softmax
open Cert.FoxIdeal.Final (coe_sum lanes_lo lanes_hi toReal_of row)
open Cert.DiffRefIdeal.Soft (scores rowMax expo shares soft weight mixed scores_at rowMax_real expo_at shares_at mixed_at
  gap slope normed_at)

/-! ## The reference's two softmaxes, as reals -/

section Ref

variable (q k : FVec Ideal S8x4096x4x64 .f32) (b : Fin 8) (h : Fin 4) (R : Fin 4096)

/-- The product of a query and a key, as a real. -/
def prod (j : ℕ) : ℝ :=
  if hj : j < 4096 then ∑ d : Fin 64, (q (ix4 b R h d)).toReal * (k (ix4 b ⟨j, hj⟩ h d)).toReal else 0

/-- The reference's score of key `j` for head `h` of row `R`, as a real. -/
def tau (j : ℕ) : ℝ := prod q k b h R j * 8⁻¹ - slope h * gap R.val j

/-- The last key of the row's chunk. -/
abbrev last (R : ℕ) : ℕ := 64 * (R / 64) + 63

theorem chunk_iff (R c : ℕ) : c / 64 ≤ R / 64 ↔ c ≤ last R := by unfold last; omega

variable (hq : ∀ i, ∃ r : ℝ, q i = r) (hk : ∀ i, ∃ r : ℝ, k i = r)

include hq hk

theorem ref_score (j : Fin 4096) :
    scores q k (ix4 b h R j) = if j.val ≤ last R.val then ((tau q k b h R j.val : ℝ) : EReal) else ⊥ := by
  rw [scores_at]
  by_cases hj : j.val / 64 ≤ R.val / 64
  · rw [if_pos hj, if_pos ((chunk_iff _ _).mp hj), tau, prod, dif_pos j.isLt, neg_mul, sub_eq_add_neg,
      EReal.coe_add, EReal.coe_mul, coe_sum]
    refine congrArg₂ (fun x y : EReal => x + y) (congrArg₂ (fun x y : EReal => x * y) (Finset.sum_congr rfl fun d _ => ?_) rfl) rfl
    rw [toReal_of (hq (ix4 b R h d)), toReal_of (hk (ix4 b j h d)), EReal.coe_mul]; rfl
  · rw [if_neg hj, if_neg (mt (chunk_iff _ _).mpr hj)]

theorem maxi : ∃ T : ℝ, rowMax (scores q k) (ix3 b h R) = T :=
  rowMax_real _ b h R (fun j => by
      rw [ref_score q k b h R hq hk]; split
      · exact EReal.coe_ne_top _
      · exact bot_ne_top)
    (by rw [ref_score q k b h R hq hk, if_pos (show (0 : Fin 4096).val ≤ last R.val from Nat.zero_le _)]; exact EReal.coe_ne_bot _)

/-- A row's softmax is real. -/
theorem soft_real (j : Fin 4096) : ∃ p : ℝ, soft q k (ix4 b h R j) = p := by
  obtain ⟨T, hT⟩ := maxi q k b h R hq hk
  set e : Fin 4096 → ℝ := fun j => if j.val ≤ last R.val then Real.exp (tau q k b h R j.val - T) else 0 with he
  have hE : ∀ j, Ideal.exp (scores q k (ix4 b h R j) - T) = (e j : EReal) := fun j => by
    rw [ref_score q k b h R hq hk]
    by_cases hj : j.val ≤ last R.val
    · simp only [he, if_pos hj]; rw [← EReal.coe_sub, Ideal.exp_coe]
    · simp only [he, if_neg hj]; rw [EReal.bot_sub, Ideal.exp_bot, EReal.coe_zero]
  have h0 : 0 < ∑ j, e j := by
    refine Finset.sum_pos' (fun j _ => ?_) ⟨0, Finset.mem_univ _, ?_⟩
    · simp only [he]; split_ifs
      · exact (Real.exp_pos _).le
      · exact le_rfl
    · simp only [he]; rw [if_pos (show (0 : Fin 4096).val ≤ last R.val from Nat.zero_le _)]; exact Real.exp_pos _
  refine ⟨e j * (1 / ∑ j, e j), ?_⟩
  show shares (expo (scores q k) (rowMax (scores q k))) (ix4 b h R j) = _
  rw [shares_at]
  simp only [expo_at, hT, hE]
  rw [← coe_sum, Ideal.div_coe h0.ne', ← EReal.coe_mul]

end Ref

/-! ## A head's side of a grid point -/

/-- One masked side of the scaled queries against a block of keys, as products of one head's queries and keys. -/
structure Side (w : FVec Ideal S512x128 .bf16) (K : Vec Ideal S1x4096x128 .bf16) (σ : EReal)
    (q k : FVec Ideal S8x4096x4x64 .f32) (b : Fin 8) (h : Fin 4) (n : ℕ) : Prop where
  dot : ∀ (r : Fin 512) (R : Fin 4096), R.val = 512 * n + r.val → ∀ (c : ℕ) (hc : c < 4096),
    ∑ l : Fin 128, w (ix2 r l) * K (ix3 0 ⟨c, hc⟩ l) = ((prod q k b h R c * scale : ℝ) : EReal)
  sl : σ = ((slope h * (Real.log 2)⁻¹ : ℝ) : EReal)

section Sides

variable {w : FVec Ideal S512x128 .bf16} {K : Vec Ideal S1x4096x128 .bf16} {σ : EReal}
  {q k : FVec Ideal S8x4096x4x64 .f32} {b : Fin 8} {h : Fin 4} {n : ℕ}

theorem Side.score_eq (s : Side w K σ q k b h n) (r : Fin 512) (R : Fin 4096) (hR : R.val = 512 * n + r.val) (R' c : ℕ) :
    score w K σ R' r c = if c / 64 ≤ R' / 64 ∧ c < 4096 then
      ((prod q k b h R c * scale + slope h * (Real.log 2)⁻¹ * place R' c : ℝ) : EReal) else ⊥ := by
  unfold score
  by_cases hc : c / 64 ≤ R' / 64 ∧ c < 4096
  · rw [dif_pos hc, if_pos hc, s.dot r R hR, s.sl, ← EReal.coe_mul, ← EReal.coe_add]
  · rw [dif_neg hc, if_neg hc]

theorem Side.noTop (s : Side w K σ q k b h n) (hn : n < 8) : NoTop w K σ := fun R' r c => by
  rw [s.score_eq r ⟨512 * n + r.val, by have := r.isLt; omega⟩ rfl]; split
  · exact EReal.coe_ne_top _
  · exact bot_ne_top

theorem place_gap (R c : ℕ) : place R c = R - gap R c := by
  unfold place gap
  rw [← Int.cast_natCast (R := ℝ) R, ← Int.cast_sub]
  congr 1
  rcases le_total c R with hc | hc
  · rw [abs_of_nonneg (by omega), min_eq_left (by omega)]; omega
  · rw [abs_of_nonpos (by omega), min_eq_right (by omega)]; omega

/-- The row's score in base two: the reference's, shifted by a constant of the row. -/
theorem Side.base_two (s : Side w K σ q k b h n) (hn : n < 8) (r : Fin 512) (R : Fin 4096) (hR : R.val = 512 * n + r.val) (c : ℕ) :
    score w K σ (512 * n + r.val) r c
      = if c ≤ last R.val then (((tau q k b h R c - -(slope h * R.val)) / Real.log 2 : ℝ) : EReal) else ⊥ := by
  rw [s.score_eq r R hR, ← hR]
  have hl := R.isLt
  by_cases hc : c / 64 ≤ R.val / 64
  · rw [if_pos ⟨hc, by omega⟩, if_pos ((chunk_iff _ _).mp hc), tau, place_gap]
    congr 1
    have : Real.log 2 ≠ 0 := (Real.log_pos one_lt_two).ne'
    unfold scale
    field_simp; ring
  · rw [if_neg fun h => hc h.1, if_neg (mt (chunk_iff _ _).mpr hc)]

variable (hq : ∀ i, ∃ r : ℝ, q i = r) (hk : ∀ i, ∃ r : ℝ, k i = r)

include hq hk

/-- ONE AVERAGE: the carried sums' quotient is the softmax's weighted sum. -/
theorem Side.average (s : Side w K σ q k b h n) (hn : n < 8) (r : Fin 512) (R : Fin 4096) (hR : R.val = 512 * n + r.val)
    {v : Fin 128 → ℕ → EReal} {M : FVec Ideal S512x1 .f32} {A : FVec Ideal S512x128 .f32}
    (H : Head w K σ v (512 * n) (512 * n + 512) M A) (l z : Fin 128) (hz : ∀ c < 4096, v z c = 1) (V : Fin 4096 → EReal)
    (hV : ∀ j : Fin 4096, v l j.val = V j) :
    Ideal.div (A (ix2 r l)) (A (ix2 r z)) = ∑ j, soft q k (ix4 b h R j) * V j := by
  obtain ⟨T, hT⟩ := maxi q k b h R hq hk
  have hr := r.isLt
  simp only [shares_at, expo_at, hT]
  exact row (-(slope h * R.val)) T (R := last R.val) (by unfold last; omega) (by omega) (s.base_two hn r R hR) (H r l) (H r z) hz _
    (ref_score q k b h R hq hk) V hV

end Sides

/-- The weighted difference of two averages of reals is the average of the weighted differences. -/
theorem difference (P1 P2 V : Fin 4096 → EReal) (W : EReal) (h1 : ∀ j, ∃ r : ℝ, P1 j = r) (h2 : ∀ j, ∃ r : ℝ, P2 j = r)
    (hV : ∀ j, ∃ r : ℝ, V j = r) (hW : ∃ r : ℝ, W = r) :
    (∑ j, P1 j * V j) - W * (∑ j, P2 j * V j) = ∑ j, V j * (P1 j - W * P2 j) := by
  choose p1 h1 using h1
  choose p2 h2 using h2
  choose v hV using hV
  obtain ⟨x, rfl⟩ := hW
  simp only [h1, h2, hV, ← EReal.coe_mul, ← EReal.coe_sub, ← coe_sum]
  congr 1
  rw [Finset.mul_sum, ← Finset.sum_sub_distrib]
  exact Finset.sum_congr rfl fun j _ => by ring

theorem sum_lo (f : Fin 128 → EReal) :
    (∑ x : Fin 128, if x.val < 64 then f x else 0) = ∑ y : Fin 64, f ⟨y.val, by omega⟩ := by
  rw [show (∑ x : Fin 128, if x.val < 64 then f x else 0) = ∑ x : Fin (64 + 64), if x.val < 64 then f x else 0 from rfl, Fin.sum_univ_add]
  rw [Finset.sum_eq_zero (s := Finset.univ) (f := fun d : Fin 64 => if (Fin.natAdd 64 d).val < 64 then f (Fin.natAdd 64 d) else 0)
    fun d _ => if_neg (by simp), add_zero]
  exact Finset.sum_congr rfl fun d _ => if_pos (by simp)

theorem sum_hi (f : Fin 128 → EReal) :
    (∑ x : Fin 128, if 64 ≤ x.val then f x else 0) = ∑ y : Fin 64, f ⟨64 + y.val, by omega⟩ := by
  rw [show (∑ x : Fin 128, if 64 ≤ x.val then f x else 0) = ∑ x : Fin (64 + 64), if 64 ≤ x.val then f x else 0 from rfl, Fin.sum_univ_add]
  rw [Finset.sum_eq_zero (s := Finset.univ) (f := fun d : Fin 64 => if 64 ≤ (Fin.castAdd 64 d).val then f (Fin.castAdd 64 d) else 0)
    fun d _ => if_neg (by simp), zero_add]
  exact Finset.sum_congr rfl fun d _ => if_pos (by simp)

theorem weight_real (lp : FVec Ideal S4x64 .f32) (hl : ∀ i, ∃ r : ℝ, lp i = r) : ∃ r : ℝ, weight lp ix0 = r := by
  have e : Ideal.ofBits .f32 0x3E4CCCCD#32 = ((Ideal.ofBits .f32 0x3E4CCCCD#32).toReal : EReal) := by
    refine (EReal.coe_toReal ?_ ?_).symm
    · simp [Ideal.ofBits, Ideal.ieee]; rw [← EReal.coe_mul]; exact EReal.coe_ne_top _
    · simp [Ideal.ofBits, Ideal.ieee]; rw [← EReal.coe_mul]; exact EReal.coe_ne_bot _
  choose x hx using hl
  rw [Cert.DiffRefIdeal.Soft.weight_at, e]
  simp only [hx, ← EReal.coe_mul, ← coe_sum, Ideal.exp_coe, ← EReal.coe_sub, ← EReal.coe_add]
  exact ⟨_, rfl⟩

theorem lo_slope_at (p : Fin 2) : k0_pay85 (F := Ideal) (BitVec.ofNat 32 p.val)
    = ((slope ⟨2 * p.val, by omega⟩ * (Real.log 2)⁻¹ : ℝ) : EReal) := by
  rw [lo_slope]
  fin_cases p <;> rfl

theorem hi_slope_at (p : Fin 2) : k0_pay86 (F := Ideal) (BitVec.ofNat 32 p.val)
    = ((slope ⟨2 * p.val + 1, by omega⟩ * (Real.log 2)⁻¹ : ℝ) : EReal) := by
  rw [hi_slope]
  fin_cases p <;> rfl

/-! ## A grid point -/

section Point

variable (m : (ℓ : Loc nD τ sig) → Buf (Elt Ideal) ℓ) (c : Dev nD)
  (hq1 : ∀ i, ∃ r : ℝ, q1s m c i = r) (hq2 : ∀ i, ∃ r : ℝ, q2s m c i = r) (hk1 : ∀ i, ∃ r : ℝ, k1s m c i = r)
  (hk2 : ∀ i, ∃ r : ℝ, k2s m c i = r) (hv : ∀ i, ∃ r : ℝ, vs m c i = r) (hl : ∀ i, ∃ r : ℝ, lps m c i = r)

section Heads

variable (t : Fin cfg0.N) (b : Fin 8) (h : Fin 4) (hb : b.val = (grid0.coords t 0).val)

section First
include hq1 hk1 hb

theorem side_lo1 (hh : h.val = 2 * (grid0.coords t 1).val) :
    Side (lo1 (iblk m c 0 t)) (iblk m c 2 t) (loσ (grid0.coords t)) (q1s m c) (k1s m c) b h (grid0.coords t 2).val where
  dot r R hR x hx := by
    rw [lanes_lo (fun l => lo1 (iblk m c 0 t) (ix2 r l)) (fun l => iblk m c 0 t (ix3 0 r l)) (fun l => iblk m c 2 t (ix3 0 ⟨x, hx⟩ l))
        (fun d => (q1s m c (ix4 b R h d)).toReal) (fun d => (k1s m c (ix4 b ⟨x, hx⟩ h d)).toReal) _ (fun l => lo_query _ r l)
        (fun l d e => (blk0 m c t b r R h d l hb hR (by omega)).trans (toReal_of (hq1 _)))
        (fun l d e => (blk2 m c t b ⟨x, hx⟩ h d l hb (by omega)).trans (toReal_of (hk1 _))), prod, dif_pos hx]
  sl := by
    have e : h = ⟨2 * (grid0.coords t 1).val, hh ▸ h.isLt⟩ := Fin.ext hh
    rw [e]
    exact lo_slope_at (grid0.coords t 1)

theorem side_hi1 (hh : h.val = 2 * (grid0.coords t 1).val + 1) :
    Side (hi1 (iblk m c 0 t)) (iblk m c 2 t) (hiσ (grid0.coords t)) (q1s m c) (k1s m c) b h (grid0.coords t 2).val where
  dot r R hR x hx := by
    rw [lanes_hi (fun l => hi1 (iblk m c 0 t) (ix2 r l)) (fun l => iblk m c 0 t (ix3 0 r l)) (fun l => iblk m c 2 t (ix3 0 ⟨x, hx⟩ l))
        (fun d => (q1s m c (ix4 b R h d)).toReal) (fun d => (k1s m c (ix4 b ⟨x, hx⟩ h d)).toReal) _ (fun l => hi_query _ r l)
        (fun l d e => (blk0 m c t b r R h d l hb hR (by omega)).trans (toReal_of (hq1 _)))
        (fun l d e => (blk2 m c t b ⟨x, hx⟩ h d l hb (by omega)).trans (toReal_of (hk1 _))), prod, dif_pos hx]
  sl := by
    have e : h = ⟨2 * (grid0.coords t 1).val + 1, hh ▸ h.isLt⟩ := Fin.ext hh
    rw [e]
    exact hi_slope_at (grid0.coords t 1)

end First

section Second
include hq2 hk2 hb

theorem side_lo2 (hh : h.val = 2 * (grid0.coords t 1).val) :
    Side (lo2 (iblk m c 1 t)) (iblk m c 3 t) (loσ (grid0.coords t)) (q2s m c) (k2s m c) b h (grid0.coords t 2).val where
  dot r R hR x hx := by
    rw [lanes_lo (fun l => lo2 (iblk m c 1 t) (ix2 r l)) (fun l => iblk m c 1 t (ix3 0 r l)) (fun l => iblk m c 3 t (ix3 0 ⟨x, hx⟩ l))
        (fun d => (q2s m c (ix4 b R h d)).toReal) (fun d => (k2s m c (ix4 b ⟨x, hx⟩ h d)).toReal) _ (fun l => lo_query' _ r l)
        (fun l d e => (blk1 m c t b r R h d l hb hR (by omega)).trans (toReal_of (hq2 _)))
        (fun l d e => (blk3 m c t b ⟨x, hx⟩ h d l hb (by omega)).trans (toReal_of (hk2 _))), prod, dif_pos hx]
  sl := by
    have e : h = ⟨2 * (grid0.coords t 1).val, hh ▸ h.isLt⟩ := Fin.ext hh
    rw [e]
    exact lo_slope_at (grid0.coords t 1)

theorem side_hi2 (hh : h.val = 2 * (grid0.coords t 1).val + 1) :
    Side (hi2 (iblk m c 1 t)) (iblk m c 3 t) (hiσ (grid0.coords t)) (q2s m c) (k2s m c) b h (grid0.coords t 2).val where
  dot r R hR x hx := by
    rw [lanes_hi (fun l => hi2 (iblk m c 1 t) (ix2 r l)) (fun l => iblk m c 1 t (ix3 0 r l)) (fun l => iblk m c 3 t (ix3 0 ⟨x, hx⟩ l))
        (fun d => (q2s m c (ix4 b R h d)).toReal) (fun d => (k2s m c (ix4 b ⟨x, hx⟩ h d)).toReal) _ (fun l => hi_query' _ r l)
        (fun l d e => (blk1 m c t b r R h d l hb hR (by omega)).trans (toReal_of (hq2 _)))
        (fun l d e => (blk3 m c t b ⟨x, hx⟩ h d l hb (by omega)).trans (toReal_of (hk2 _))), prod, dif_pos hx]
  sl := by
    have e : h = ⟨2 * (grid0.coords t 1).val + 1, hh ▸ h.isLt⟩ := Fin.ext hh
    rw [e]
    exact hi_slope_at (grid0.coords t 1)

end Second

end Heads

/-- The weight the kernel computes is the reference's. -/
theorem weight_eq (t : Fin cfg0.N) :
    k0_pay78 (iblk m c 5 t) (k0_pay77 (iblk m c 5 t)) (ix2 0 0) = weight (lps m c) ix0 := by
  rw [Step.weight_at, Cert.DiffRefIdeal.Soft.weight_at]
  simp only [blk5 m c t]

/-- The reference's heads before their root mean square. -/
abbrev heads : FVec Ideal S8x4096x4x64 .f32 :=
  mixed (vs m c) (weight (lps m c)) (soft (q1s m c) (k1s m c)) (soft (q2s m c) (k2s m c))

include hq1 hq2 hk1 hk2 hv hl

/-- ONE LANE of a head before its root mean square. -/
theorem lane {w1 w2 : FVec Ideal S512x128 .bf16} {K1 K2 : Vec Ideal S1x4096x128 .bf16} {σ : EReal} {b : Fin 8} {h : Fin 4} {n : ℕ}
    (s1 : Side w1 K1 σ (q1s m c) (k1s m c) b h n) (s2 : Side w2 K2 σ (q2s m c) (k2s m c) b h n) (hn : n < 8) (r : Fin 512)
    (R : Fin 4096) (hR : R.val = 512 * n + r.val) {v : Fin 128 → ℕ → EReal} {M1 M2 : FVec Ideal S512x1 .f32}
    {A B : FVec Ideal S512x128 .f32} (HA : Head w1 K1 σ v (512 * n) (512 * n + 512) M1 A)
    (HB : Head w2 K2 σ v (512 * n) (512 * n + 512) M2 B) (l z : Fin 128) (hz : ∀ c < 4096, v z c = 1) (d : Fin 64)
    (hV : ∀ j : Fin 4096, v l j.val = vs m c (ix4 b j h d)) :
    apart (weight (lps m c) ix0) A B z r l = heads m c (ix4 b R h d) := by
  unfold apart
  rw [s1.average hq1 hk1 hn r R hR HA l z hz (fun j => vs m c (ix4 b j h d)) hV,
    s2.average hq2 hk2 hn r R hR HB l z hz (fun j => vs m c (ix4 b j h d)) hV]
  show _ = mixed (vs m c) (weight (lps m c)) (soft (q1s m c) (k1s m c)) (soft (q2s m c) (k2s m c)) (ix4 b R h d)
  rw [mixed_at]
  exact difference _ _ _ _ (soft_real _ _ b h R hq1 hk1) (soft_real _ _ b h R hq2 hk2) (fun j => hv _) (weight_real _ hl)

/-- POINT `t`'s block is the reference's array where the block lies. -/
theorem point (t : Fin cfg0.N) (b : Fin 8) (r : Fin 512) (l : Fin 128) (R : Fin 4096) (x : Fin 256)
    (hb : b.val = (grid0.coords t 0).val) (hR : R.val = 512 * (grid0.coords t 2).val + r.val)
    (hx : x.val = 128 * (grid0.coords t 1).val + l.val)
    (arg3 harg3 arg4 harg4 arg5 harg5 arg6 harg6 arg7 harg7 arg8 harg8 arg9 harg9 arg10 harg10) :
    out0_A_7 c (grid0.coords t) arg3 harg3 arg4 harg4 arg5 harg5 arg6 harg6 arg7 harg7 arg8 harg8 arg9 harg9 arg10 harg10
        (iblk m c 0 t) (iblk m c 1 t) (iblk m c 2 t) (iblk m c 3 t) (iblk m c 4 t) (iblk m c 5 t) (iblk m c 6 t) (ix3 0 r l)
      = Cert.DiffRefIdeal.Soft.normed (gains m c) (heads m c) (ix3 b R x) := by
  have hp : (grid0.coords t 1).val < 2 := (grid0.coords t 1).isLt
  have ht := tile_lt (grid0.coords t)
  have hl' := l.isLt
  have h0 : 2 * (grid0.coords t 1).val < 4 := by omega
  have h1 : 2 * (grid0.coords t 1).val + 1 < 4 := by omega
  have s1 := side_lo1 m c hq1 hk1 t b ⟨_, h0⟩ hb rfl
  have s2 := side_lo2 m c hq2 hk2 t b ⟨_, h0⟩ hb rfl
  have s3 := side_hi1 m c hq1 hk1 t b ⟨_, h1⟩ hb rfl
  have s4 := side_hi2 m c hq2 hk2 t b ⟨_, h1⟩ hb rfl
  obtain ⟨A, B, C, D, ⟨_, hA⟩, ⟨_, hB⟩, ⟨_, hC⟩, ⟨_, hD⟩, e⟩ := out_at c (grid0.coords t) arg3 harg3 arg4 harg4 arg5 harg5
    arg6 harg6 arg7 harg7 arg8 harg8 arg9 harg9 arg10 harg10 (iblk m c 0 t) (iblk m c 1 t) (iblk m c 2 t) (iblk m c 3 t)
    (iblk m c 4 t) (iblk m c 5 t) (iblk m c 6 t) ⟨s1.noTop ht, s2.noTop ht, s3.noTop ht, s4.noTop ht⟩
  rw [e, weight_eq]
  have hlo : ∀ y : Fin 64, paired (weight (lps m c) ix0) A B C D r ⟨y.val, by omega⟩ = heads m c (ix4 b R ⟨_, h0⟩ y) := fun y => by
    have hy := y.isLt
    unfold paired
    rw [if_pos hy]
    refine lane m c hq1 hq2 hk1 hk2 hv hl s1 s2 ht r R hR hA hB _ 64 (fun j hj => ?_) y (fun j => ?_)
    · rw [val0, dif_pos hj]; rfl
    · rw [val0, dif_pos j.isLt, if_pos hy]
      exact blk4 m c t b j ⟨_, h0⟩ y ⟨y.val, by omega⟩ hb (by show _ + y.val = 64 * (2 * (grid0.coords t 1).val) + y.val; omega)
  have hhi : ∀ y : Fin 64, paired (weight (lps m c) ix0) A B C D r ⟨64 + y.val, by omega⟩ = heads m c (ix4 b R ⟨_, h1⟩ y) := fun y => by
    have hy := y.isLt
    unfold paired
    rw [if_neg (show ¬ 64 + y.val < 64 by omega)]
    refine lane m c hq1 hq2 hk1 hk2 hv hl s3 s4 ht r R hR hC hD _ 0 (fun j hj => ?_) y (fun j => ?_)
    · rw [val1, dif_pos hj]; rfl
    · rw [val1, dif_pos j.isLt, if_pos (show 64 ≤ 64 + y.val by omega)]
      exact blk4 m c t b j ⟨_, h1⟩ y ⟨64 + y.val, by omega⟩ hb
        (by show _ + (64 + y.val) = 64 * (2 * (grid0.coords t 1).val + 1) + y.val; omega)
  generalize paired (weight (lps m c) ix0) A B C D r = O at hlo hhi ⊢
  unfold Step.normed
  by_cases hc : l.val < 64
  · have hg : O l = heads m c (ix4 b R ⟨_, h0⟩ ⟨l.val, hc⟩) := hlo ⟨l.val, hc⟩
    rw [if_neg (show ¬ 64 ≤ l.val by omega), sum_lo (fun x => O x * O x), hg,
      normed_at _ _ b R ⟨_, h0⟩ ⟨l.val, hc⟩ x (by show x.val = 64 * (2 * (grid0.coords t 1).val) + l.val; omega),
      blk6 m c t ⟨l.val, hc⟩ l (Nat.mod_eq_of_lt hc)]
    simp only [hlo]
  · have hd : l.val - 64 < 64 := by omega
    have hg : O l = heads m c (ix4 b R ⟨_, h1⟩ ⟨l.val - 64, hd⟩) := by
      rw [← hhi]; exact congrArg O (Fin.ext (by show l.val = 64 + (l.val - 64); omega))
    rw [if_pos (show 64 ≤ l.val by omega), sum_hi (fun x => O x * O x), hg,
      normed_at _ _ b R ⟨_, h1⟩ ⟨l.val - 64, hd⟩ x (by show x.val = 64 * (2 * (grid0.coords t 1).val + 1) + (l.val - 64); omega),
      blk6 m c t ⟨l.val - 64, hd⟩ l (by show l.val % 64 = l.val - 64; omega)]
    simp only [hhi]

/-- THE RESULT ARRAY. -/
theorem final : (dats m 0 c).arrAt 7 cfg0.N = Cert.DiffRefIdeal.Soft.normed (gains m c) (heads m c) := by
  refine (dats m 0 c).arrAt_eq_of_covers 7 _ (by decide +kernel) fun t _ y => ?_
  blk_simp
  rw [after0_7]
  unfold outsAt0
  have h0 : (grid0.coords t 0).val < 8 := (grid0.coords t 0).isLt
  have h1 : (grid0.coords t 1).val < 2 := (grid0.coords t 1).isLt
  have h2 := tile_lt (grid0.coords t)
  have y1 : (y 1).val < 512 := (y 1).isLt
  have y2 : (y 2).val < 128 := (y 2).isLt
  have hy : (y : S1x512x128.Idx) = ix3 0 ⟨(y 1).val, y1⟩ ⟨(y 2).val, y2⟩ := by blk_ext
  have he : ((win0_7.blk t).view.emb y : S8x4096x256.Idx) = ix3 ⟨(grid0.coords t 0).val, h0⟩
      ⟨512 * (grid0.coords t 2).val + (y 1).val, by omega⟩ ⟨128 * (grid0.coords t 1).val + (y 2).val, by omega⟩ := by
    blk_ext [idx t]
  exact (congrArg (out0_A_7 c (grid0.coords t) _ _ _ _ _ _ _ _ _ _ _ _ _ _ _ _ _ _ _ _ _ _ _) hy).trans
    ((point m c hq1 hq2 hk1 hk2 hv hl t _ _ _ _ _ rfl rfl rfl _ _ _ _ _ _ _ _ _ _ _ _ _ _ _ _).trans
      (congrArg (Cert.DiffRefIdeal.Soft.normed (gains m c) _) he.symm))

end Point

end Cert.DiffIdeal.Final

end
-- ==== Proof.DiffClaim.lean ====
/- The differential attention's equality with its reference, from the two programs' runs. -/
module

public import proofs.«01_k».proof.Defs
public import proofs.«01_k».proof.Proof.DiffValue
public import Idealize.ShloMosaic.Lib.Claim

@[expose] public section

set_option maxRecDepth 16384

noncomputable section

namespace Cert.Proof

open Idealize.ShloMosaic Idealize.SL.Sem

/-- The kernel's result array and the reference's last array are the same normed difference of two mixtures of the values. -/
theorem diff_algebraic : Cert.algebraic_DiffIdeal_DiffRefIdeal_pre_finite_diff
    (hDiffIdeal := Cert.DiffIdeal.Gen.facts) (hDiffRefIdeal := Cert.DiffRefIdeal.Gen.facts)
    (hPre_finite_diff := Cert.DiffIdeal.Operands.facts) := by
  pair_intro
  · run_from Cert.DiffIdeal.Value.run_blocks m g
  · run_from Cert.DiffRefIdeal.Value.run m' g'
    obtain ⟨hq1, hq2, hk1, hk2, hv, hl⟩ := Cert.DiffIdeal.Operands.real_args _ _ _ _ _ _ _ (hpre c)
    rw [Cert.DiffIdeal.Final.final m c hq1 hq2 hk1 hk2 hv hl]
    refine (Cert.DiffRefIdeal.Soft.res_eq m' c).trans ?_
    obtain ⟨h0, h1, h2, h3, h4, h5, h6⟩ := hagree c
    rw [h0, h1, h2, h3, h4, h5, h6]

end Cert.Proof

end
-- ==== Proof.lean ====
module

public import proofs.«01_k».proof.Defs
public import proofs.«01_k».proof.Proof.Gen.Fox.Frame
public import proofs.«01_k».proof.Proof.Gen.FoxIdeal.Frame
public import proofs.«01_k».proof.Proof.Gen.FoxRefIdeal.Run
public import proofs.«01_k».proof.Proof.Gen.Channel.Frame
public import proofs.«01_k».proof.Proof.Gen.ChannelIdeal.Frame
public import proofs.«01_k».proof.Proof.Gen.ChannelRefIdeal.Run
public import proofs.«01_k».proof.Proof.Gen.Diff.Frame
public import proofs.«01_k».proof.Proof.Gen.DiffIdeal.Frame
public import proofs.«01_k».proof.Proof.Gen.DiffRefIdeal.Run
public import proofs.«01_k».proof.Proof.FoxClaim
public import proofs.«01_k».proof.Proof.ChannelClaim
public import proofs.«01_k».proof.Proof.DiffClaim
public import proofs.«01_k».proof.Proof.Gen.ChannelIdeal.Value
public import Idealize.ShloMosaic.Lib.Claim

@[expose] public section

set_option maxRecDepth 16384

noncomputable section

namespace Cert.Proof

open Idealize.ShloMosaic Idealize.SL.Sem

/-- The three constants of the forgetting attention that its idealization names. -/
theorem fox_preserves : Cert.preserves_Fox_FoxIdeal :=
  ⟨IdealRules.named_const.statement _ _ .f32 _ _ rfl, IdealRules.named_const.statement _ _ .f32 _ _ rfl,
    IdealRules.named_const.statement _ _ .f32 _ _ rfl⟩

/-- The attention's reference runs, keeps its arguments and leaves every counter at zero. -/
theorem fox_ref_frame : Cert.quiescent_FoxRefIdeal (hFoxRefIdeal := Cert.FoxRefIdeal.Gen.facts) :=
  fun m g _ => (θ_run Cert.FoxRefIdeal.defs _ _).mono
    (fun r h => ⟨fun c => (h c).2, Idealize.ShloMosaic.sem_eq_zero_of_no_sems (by decide) r.2⟩)
    (Cert.FoxRefIdeal.Value.run m g)

/-- The channel mix's reference runs, keeps its arguments and leaves every counter at zero. -/
theorem channel_ref_frame : Cert.quiescent_ChannelRefIdeal (hChannelRefIdeal := Cert.ChannelRefIdeal.Gen.facts) :=
  fun m g _ => (θ_run Cert.ChannelRefIdeal.defs _ _).mono
    (fun r h => ⟨fun c => (h c).2, Idealize.ShloMosaic.sem_eq_zero_of_no_sems (by decide) r.2⟩)
    (Cert.ChannelRefIdeal.Value.run m g)

/-- The six constants of the differential attention that its idealization names. -/
theorem diff_preserves : Cert.preserves_Diff_DiffIdeal :=
  ⟨IdealRules.named_const.statement _ _ .f32 _ _ rfl, IdealRules.named_const.statement _ _ .f32 _ _ rfl,
    IdealRules.named_const.statement _ _ .f32 _ _ rfl, IdealRules.named_const.statement _ _ .f32 _ _ rfl,
    IdealRules.named_const.statement _ _ .f32 _ _ rfl, IdealRules.named_const.statement _ _ .f32 _ _ rfl⟩

/-- The differential attention's reference runs, keeps its arguments and leaves every counter at zero. -/
theorem diff_ref_frame : Cert.quiescent_DiffRefIdeal (hDiffRefIdeal := Cert.DiffRefIdeal.Gen.facts) :=
  fun m g _ => (θ_run Cert.DiffRefIdeal.defs _ _).mono
    (fun r h => ⟨fun c => (h c).2, Idealize.ShloMosaic.sem_eq_zero_of_no_sems (by decide) r.2⟩)
    (Cert.DiffRefIdeal.Value.run m g)

theorem claim : Cert.Claim :=
  ⟨Cert.Fox.Gen.facts, Cert.FoxIdeal.Gen.facts, Cert.FoxRefIdeal.Gen.facts, Cert.Channel.Gen.facts,
    Cert.ChannelIdeal.Gen.facts, Cert.ChannelRefIdeal.Gen.facts, Cert.Diff.Gen.facts, Cert.DiffIdeal.Gen.facts,
    Cert.DiffRefIdeal.Gen.facts, Cert.FoxIdeal.Operands.facts, Cert.DiffIdeal.Operands.facts,
    fun m g _ => Cert.Fox.Gen.frame m g,
    fun m g _ => Cert.FoxIdeal.Gen.frame m g,
    fun m g _ => Cert.FoxIdeal.Gen.frame m g,
    fox_ref_frame,
    fun m g _ => fox_ref_frame m g trivial,
    fun m g _ => Cert.Channel.Gen.frame m g,
    fun m g _ => Cert.ChannelIdeal.Gen.frame m g,
    channel_ref_frame,
    fun m g _ => Cert.Diff.Gen.frame m g,
    fun m g _ => Cert.DiffIdeal.Gen.frame m g,
    fun m g _ => Cert.DiffIdeal.Gen.frame m g,
    diff_ref_frame,
    fun m g _ => diff_ref_frame m g trivial,
    fox_preserves, fox_algebraic, trivial, channel_algebraic, diff_preserves, diff_algebraic⟩

end Cert.Proof

end
